-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x3x32x256x256 : Shape := ⟨5, ![1, 3, 32, 256, 256]⟩
abbrev S1x3x2x256x256 : Shape := ⟨5, ![1, 3, 2, 256, 256]⟩
abbrev S1 : Shape := ⟨1, ![1]⟩
abbrev S_ : Shape := ⟨0, ![]⟩

class Facts : Prop where
  bcast_S_S1x3x32x256x256 : S_.BroadcastsInDim S1x3x32x256x256 (![] : Fin 0 → Fin S1x3x32x256x256.rank)

variable [Facts]

def fn {F : FTy → Type} [FloatOps F] (main_arg0 : FVec F S1x3x32x256x256 .f32) (main_arg1 : FVec F S1x3x32x256x256 .f32) (main_arg2 : FVec F S1x3x2x256x256 .f32) (main_arg3 : FVec F S1 .f32) : IVec S1x3x32x256x256 1 :=
  let main_v0 : FVec F S1x3x32x256x256 .f32 := Host.absf main_arg0
  let main_cst : FVec F S_ .f32 := constant S_ .f32 0x7F800000#32
  let main_v1 : FVec F S1x3x32x256x256 .f32 := broadcastInDim S1x3x32x256x256 ![] bcast_S_S1x3x32x256x256 main_cst
  let main_v2 : IVec S1x3x32x256x256 1 := cmpf .olt main_v0 main_v1
  let main_v3 : FVec F S1x3x32x256x256 .f32 := Host.absf main_arg1
  let main_cst_0 : FVec F S_ .f32 := constant S_ .f32 0x7F800000#32
  let main_v4 : FVec F S1x3x32x256x256 .f32 := broadcastInDim S1x3x32x256x256 ![] bcast_S_S1x3x32x256x256 main_cst_0
  let main_v5 : IVec S1x3x32x256x256 1 := cmpf .olt main_v3 main_v4
  let main_v6 : IVec S1x3x32x256x256 1 := andi main_v2 main_v5
  main_v6
-- ==== Kernel.lean ====
abbrev S1x3x32x256x256 : Shape := ⟨5, ![1, 3, 32, 256, 256]⟩
abbrev S1x3x2x256x256 : Shape := ⟨5, ![1, 3, 2, 256, 256]⟩
abbrev S1 : Shape := ⟨1, ![1]⟩
abbrev S264 : Shape := ⟨1, ![264]⟩
abbrev S264x1 : Shape := ⟨2, ![264, 1]⟩
abbrev S64 : Shape := ⟨1, ![64]⟩
abbrev S1x64 : Shape := ⟨2, ![1, 64]⟩
abbrev S_ : Shape := ⟨0, ![]⟩
abbrev S264x64 : Shape := ⟨2, ![264, 64]⟩
abbrev S3x7x64x64 : Shape := ⟨4, ![3, 7, 64, 64]⟩
abbrev S3x3x7x64x64 : Shape := ⟨5, ![3, 3, 7, 64, 64]⟩
abbrev S1x1x16x256x256 : Shape := ⟨5, ![1, 1, 16, 256, 256]⟩
abbrev S1x7x64x64 : Shape := ⟨4, ![1, 7, 64, 64]⟩
abbrev S1x3x7x64x64 : Shape := ⟨5, ![1, 3, 7, 64, 64]⟩
abbrev S64x64x64 : Shape := ⟨3, ![64, 64, 64]⟩
abbrev S16x264x264 : Shape := ⟨3, ![16, 264, 264]⟩
abbrev S16x272x272 : Shape := ⟨3, ![16, 272, 272]⟩
abbrev S16x272x264 : Shape := ⟨3, ![16, 272, 264]⟩
abbrev S2x8x264x264 : Shape := ⟨4, ![2, 8, 264, 264]⟩
abbrev S16x256x256 : Shape := ⟨3, ![16, 256, 256]⟩
abbrev S1x1x16x1x256 : Shape := ⟨5, ![1, 1, 16, 1, 256]⟩
abbrev S16x256 : Shape := ⟨2, ![16, 256]⟩
abbrev S16x1x256 : Shape := ⟨3, ![16, 1, 256]⟩
abbrev S16x264x1 : Shape := ⟨3, ![16, 264, 1]⟩
abbrev S16x272x1 : Shape := ⟨3, ![16, 272, 1]⟩
abbrev S8x264 : Shape := ⟨2, ![8, 264]⟩
abbrev S1x8x264 : Shape := ⟨3, ![1, 8, 264]⟩
abbrev S1x16x264 : Shape := ⟨3, ![1, 16, 264]⟩
abbrev S16x264 : Shape := ⟨2, ![16, 264]⟩
abbrev S1x1x8x264 : Shape := ⟨4, ![1, 1, 8, 264]⟩
abbrev S1x1x264x264 : Shape := ⟨4, ![1, 1, 264, 264]⟩
abbrev S264x264 : Shape := ⟨2, ![264, 264]⟩
abbrev S64x264 : Shape := ⟨2, ![64, 264]⟩
abbrev S64x64 : Shape := ⟨2, ![64, 64]⟩
abbrev S1x64x64 : Shape := ⟨3, ![1, 64, 64]⟩
abbrev S1x1x64x64 : Shape := ⟨4, ![1, 1, 64, 64]⟩
abbrev S1x1x1x64x64 : Shape := ⟨5, ![1, 1, 1, 64, 64]⟩
abbrev S3x7x4096 : Shape := ⟨3, ![3, 7, 4096]⟩
abbrev S3x4096x7 : Shape := ⟨3, ![3, 4096, 7]⟩
abbrev S1x1x12288x7 : Shape := ⟨4, ![1, 1, 12288, 7]⟩
abbrev S3x3x7x4096 : Shape := ⟨4, ![3, 3, 7, 4096]⟩
abbrev S3x4096x7x3 : Shape := ⟨4, ![3, 4096, 7, 3]⟩
abbrev S1x1x12288x7x3 : Shape := ⟨5, ![1, 1, 12288, 7, 3]⟩

abbrev nBuf : Space → Nat
  | .hbm => 33
  | .vmem => 14
  | .smem => 0
  | _ => 0

abbrev bufTy : (tb : Table) → Fin (tcTables nBuf tb) → BufTy
  | .hbm, ⟨0, _⟩ => ⟨S1x3x32x256x256, .f32⟩
  | .hbm, ⟨1, _⟩ => ⟨S1x3x32x256x256, .f32⟩
  | .hbm, ⟨2, _⟩ => ⟨S1x3x2x256x256, .f32⟩
  | .hbm, ⟨3, _⟩ => ⟨S1, .f32⟩
  | .hbm, ⟨4, _⟩ => ⟨S264, .i32⟩
  | .hbm, ⟨5, _⟩ => ⟨S264x1, .i32⟩
  | .hbm, ⟨6, _⟩ => ⟨S64, .i32⟩
  | .hbm, ⟨7, _⟩ => ⟨S1x64, .i32⟩
  | .hbm, ⟨8, _⟩ => ⟨S_, .i32⟩
  | .hbm, ⟨9, _⟩ => ⟨S1x64, .i32⟩
  | .hbm, ⟨10, _⟩ => ⟨S1x64, .i32⟩
  | .hbm, ⟨11, _⟩ => ⟨S264x64, .i32⟩
  | .hbm, ⟨12, _⟩ => ⟨S264x64, .i32⟩
  | .hbm, ⟨13, _⟩ => ⟨S264x64, .i1⟩
  | .hbm, ⟨14, _⟩ => ⟨S_, .i32⟩
  | .hbm, ⟨15, _⟩ => ⟨S1x64, .i32⟩
  | .hbm, ⟨16, _⟩ => ⟨S1x64, .i32⟩
  | .hbm, ⟨17, _⟩ => ⟨S_, .i32⟩
  | .hbm, ⟨18, _⟩ => ⟨S1x64, .i32⟩
  | .hbm, ⟨19, _⟩ => ⟨S1x64, .i32⟩
  | .hbm, ⟨20, _⟩ => ⟨S264x64, .i32⟩
  | .hbm, ⟨21, _⟩ => ⟨S264x64, .i32⟩
  | .hbm, ⟨22, _⟩ => ⟨S264x64, .i1⟩
  | .hbm, ⟨23, _⟩ => ⟨S264x64, .i1⟩
  | .hbm, ⟨24, _⟩ => ⟨S264x64, .f32⟩
  | .hbm, ⟨25, _⟩ => ⟨S3x7x64x64, .f32⟩
  | .hbm, ⟨26, _⟩ => ⟨S3x3x7x64x64, .i32⟩
  | .hbm, ⟨27, _⟩ => ⟨S3x7x4096, .f32⟩
  | .hbm, ⟨28, _⟩ => ⟨S3x4096x7, .f32⟩
  | .hbm, ⟨29, _⟩ => ⟨S1x1x12288x7, .f32⟩
  | .hbm, ⟨30, _⟩ => ⟨S3x3x7x4096, .i32⟩
  | .hbm, ⟨31, _⟩ => ⟨S3x4096x7x3, .i32⟩
  | .hbm, ⟨32, _⟩ => ⟨S1x1x12288x7x3, .i32⟩
  | .local _ .vmem, ⟨0, _⟩ => ⟨S1x1x16x256x256, .f32⟩
  | .local _ .vmem, ⟨1, _⟩ => ⟨S1x1x16x256x256, .f32⟩
  | .local _ .vmem, ⟨2, _⟩ => ⟨S1x1x16x256x256, .f32⟩
  | .local _ .vmem, ⟨3, _⟩ => ⟨S1x1x16x256x256, .f32⟩
  | .local _ .vmem, ⟨4, _⟩ => ⟨S264x64, .f32⟩
  | .local _ .vmem, ⟨5, _⟩ => ⟨S1x7x64x64, .f32⟩
  | .local _ .vmem, ⟨6, _⟩ => ⟨S1x7x64x64, .f32⟩
  | .local _ .vmem, ⟨7, _⟩ => ⟨S1x3x7x64x64, .i32⟩
  | .local _ .vmem, ⟨8, _⟩ => ⟨S1x3x7x64x64, .i32⟩
  | .local _ .vmem, ⟨9, _⟩ => ⟨S64x64x64, .f32⟩
  | .local _ .vmem, ⟨10, _⟩ => ⟨S16x264x264, .f32⟩
  | .local _ .vmem, ⟨11, _⟩ => ⟨S16x272x272, .f32⟩
  | .local _ .vmem, ⟨12, _⟩ => ⟨S16x272x264, .f32⟩
  | .local _ .vmem, ⟨13, _⟩ => ⟨S2x8x264x264, .f32⟩
  | _, _ => ⟨S1x3x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![3, 2], ![false, false]⟩

@[reducible] def k0_t1_loop : Scf.Loop 32 :=
  let c0_i32_323 : BitVec 32 := 0#32
  let c33_i32 : BitVec 32 := 33#32
  let v235 : BitVec 32 := Scalar.addi c0_i32_323 c33_i32
  let c1_i32 : BitVec 32 := 1#32
  ⟨c0_i32_323, v235, c1_i32⟩
def k0_mult1 (k0_t1 : Fin k0_t1_loop.trips) : BitVec 32 :=
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  v914
def k0_off1 (k0_t1 : Fin k0_t1_loop.trips) : Fin 3 → Nat :=
  let c0_1117 : Index := 0#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v924 : Index := Scalar.indexCast v915
  let c0_1118 : Index := 0#32
  ![0, v924.toNat, 0]
def k0_off2 (k0_t1 : Fin k0_t1_loop.trips) : Fin 3 → Nat :=
  let c0_1119 : Index := 0#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v927 : Index := Scalar.indexCast v915
  let c0_1120 : Index := 0#32
  ![0, v927.toNat, 0]
def k0_off3 (k0_t1 : Fin k0_t1_loop.trips) : Fin 3 → Nat :=
  let c1_1121 : Index := 1#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v954 : Index := Scalar.indexCast v915
  let c0_1122 : Index := 0#32
  ![1, v954.toNat, 0]
def k0_off4 (k0_t1 : Fin k0_t1_loop.trips) : Fin 3 → Nat :=
  let c1_1123 : Index := 1#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v957 : Index := Scalar.indexCast v915
  let c0_1124 : Index := 0#32
  ![1, v957.toNat, 0]
def k0_off5 (k0_t1 : Fin k0_t1_loop.trips) : Fin 3 → Nat :=
  let c2_1125 : Index := 2#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v984 : Index := Scalar.indexCast v915
  let c0_1126 : Index := 0#32
  ![2, v984.toNat, 0]
def k0_off6 (k0_t1 : Fin k0_t1_loop.trips) : Fin 3 → Nat :=
  let c2_1127 : Index := 2#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v987 : Index := Scalar.indexCast v915
  let c0_1128 : Index := 0#32
  ![2, v987.toNat, 0]
def k0_off7 (k0_t1 : Fin k0_t1_loop.trips) : Fin 3 → Nat :=
  let c3_1129 : Index := 3#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1014 : Index := Scalar.indexCast v915
  let c0_1130 : Index := 0#32
  ![3, v1014.toNat, 0]
def k0_off8 (k0_t1 : Fin k0_t1_loop.trips) : Fin 3 → Nat :=
  let c3_1131 : Index := 3#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1017 : Index := Scalar.indexCast v915
  let c0_1132 : Index := 0#32
  ![3, v1017.toNat, 0]
def k0_off9 (k0_t1 : Fin k0_t1_loop.trips) : Fin 3 → Nat :=
  let c4_1133 : Index := 4#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1044 : Index := Scalar.indexCast v915
  let c0_1134 : Index := 0#32
  ![4, v1044.toNat, 0]
def k0_off10 (k0_t1 : Fin k0_t1_loop.trips) : Fin 3 → Nat :=
  let c4_1135 : Index := 4#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1047 : Index := Scalar.indexCast v915
  let c0_1136 : Index := 0#32
  ![4, v1047.toNat, 0]
def k0_off11 (k0_t1 : Fin k0_t1_loop.trips) : Fin 3 → Nat :=
  let c5_1137 : Index := 5#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1074 : Index := Scalar.indexCast v915
  let c0_1138 : Index := 0#32
  ![5, v1074.toNat, 0]
def k0_off12 (k0_t1 : Fin k0_t1_loop.trips) : Fin 3 → Nat :=
  let c5_1139 : Index := 5#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1077 : Index := Scalar.indexCast v915
  let c0_1140 : Index := 0#32
  ![5, v1077.toNat, 0]
def k0_off13 (k0_t1 : Fin k0_t1_loop.trips) : Fin 3 → Nat :=
  let c6_1141 : Index := 6#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1104 : Index := Scalar.indexCast v915
  let c0_1142 : Index := 0#32
  ![6, v1104.toNat, 0]
def k0_off14 (k0_t1 : Fin k0_t1_loop.trips) : Fin 3 → Nat :=
  let c6_1143 : Index := 6#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1107 : Index := Scalar.indexCast v915
  let c0_1144 : Index := 0#32
  ![6, v1107.toNat, 0]
def k0_off15 (k0_t1 : Fin k0_t1_loop.trips) : Fin 3 → Nat :=
  let c7_1145 : Index := 7#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1134 : Index := Scalar.indexCast v915
  let c0_1146 : Index := 0#32
  ![7, v1134.toNat, 0]
def k0_off16 (k0_t1 : Fin k0_t1_loop.trips) : Fin 3 → Nat :=
  let c7_1147 : Index := 7#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1137 : Index := Scalar.indexCast v915
  let c0_1148 : Index := 0#32
  ![7, v1137.toNat, 0]
def k0_off17 (k0_t1 : Fin k0_t1_loop.trips) : Fin 3 → Nat :=
  let c8_1149 : Index := 8#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1164 : Index := Scalar.indexCast v915
  let c0_1150 : Index := 0#32
  ![8, v1164.toNat, 0]
def k0_off18 (k0_t1 : Fin k0_t1_loop.trips) : Fin 3 → Nat :=
  let c8_1151 : Index := 8#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1167 : Index := Scalar.indexCast v915
  let c0_1152 : Index := 0#32
  ![8, v1167.toNat, 0]
def k0_off19 (k0_t1 : Fin k0_t1_loop.trips) : Fin 3 → Nat :=
  let c9_1153 : Index := 9#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1194 : Index := Scalar.indexCast v915
  let c0_1154 : Index := 0#32
  ![9, v1194.toNat, 0]
def k0_off20 (k0_t1 : Fin k0_t1_loop.trips) : Fin 3 → Nat :=
  let c9_1155 : Index := 9#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1197 : Index := Scalar.indexCast v915
  let c0_1156 : Index := 0#32
  ![9, v1197.toNat, 0]
def k0_off21 (k0_t1 : Fin k0_t1_loop.trips) : Fin 3 → Nat :=
  let c10_1157 : Index := 10#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1224 : Index := Scalar.indexCast v915
  let c0_1158 : Index := 0#32
  ![10, v1224.toNat, 0]
def k0_off22 (k0_t1 : Fin k0_t1_loop.trips) : Fin 3 → Nat :=
  let c10_1159 : Index := 10#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1227 : Index := Scalar.indexCast v915
  let c0_1160 : Index := 0#32
  ![10, v1227.toNat, 0]
def k0_off23 (k0_t1 : Fin k0_t1_loop.trips) : Fin 3 → Nat :=
  let c11_1161 : Index := 11#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1254 : Index := Scalar.indexCast v915
  let c0_1162 : Index := 0#32
  ![11, v1254.toNat, 0]
def k0_off24 (k0_t1 : Fin k0_t1_loop.trips) : Fin 3 → Nat :=
  let c11_1163 : Index := 11#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1257 : Index := Scalar.indexCast v915
  let c0_1164 : Index := 0#32
  ![11, v1257.toNat, 0]
def k0_off25 (k0_t1 : Fin k0_t1_loop.trips) : Fin 3 → Nat :=
  let c12_1165 : Index := 12#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1284 : Index := Scalar.indexCast v915
  let c0_1166 : Index := 0#32
  ![12, v1284.toNat, 0]
def k0_off26 (k0_t1 : Fin k0_t1_loop.trips) : Fin 3 → Nat :=
  let c12_1167 : Index := 12#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1287 : Index := Scalar.indexCast v915
  let c0_1168 : Index := 0#32
  ![12, v1287.toNat, 0]
def k0_off27 (k0_t1 : Fin k0_t1_loop.trips) : Fin 3 → Nat :=
  let c13_1169 : Index := 13#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1314 : Index := Scalar.indexCast v915
  let c0_1170 : Index := 0#32
  ![13, v1314.toNat, 0]
def k0_off28 (k0_t1 : Fin k0_t1_loop.trips) : Fin 3 → Nat :=
  let c13_1171 : Index := 13#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1317 : Index := Scalar.indexCast v915
  let c0_1172 : Index := 0#32
  ![13, v1317.toNat, 0]
def k0_off29 (k0_t1 : Fin k0_t1_loop.trips) : Fin 3 → Nat :=
  let c14_1173 : Index := 14#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1344 : Index := Scalar.indexCast v915
  let c0_1174 : Index := 0#32
  ![14, v1344.toNat, 0]
def k0_off30 (k0_t1 : Fin k0_t1_loop.trips) : Fin 3 → Nat :=
  let c14_1175 : Index := 14#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1347 : Index := Scalar.indexCast v915
  let c0_1176 : Index := 0#32
  ![14, v1347.toNat, 0]
def k0_off31 (k0_t1 : Fin k0_t1_loop.trips) : Fin 3 → Nat :=
  let c15_1177 : Index := 15#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1374 : Index := Scalar.indexCast v915
  let c0_1178 : Index := 0#32
  ![15, v1374.toNat, 0]
def k0_off32 (k0_t1 : Fin k0_t1_loop.trips) : Fin 3 → Nat :=
  let c15_1179 : Index := 15#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1377 : Index := Scalar.indexCast v915
  let c0_1180 : Index := 0#32
  ![15, v1377.toNat, 0]
def k0_off33 (k0_t1 : Fin k0_t1_loop.trips) : Fin 4 → Nat :=
  let c0_1181 : Index := 0#32
  let c0_1182 : Index := 0#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1404 : Index := Scalar.indexCast v915
  let c0_1183 : Index := 0#32
  ![0, 0, v1404.toNat, 0]
def k0_off34 (k0_t1 : Fin k0_t1_loop.trips) : Fin 4 → Nat :=
  let c0_1184 : Index := 0#32
  let c1_1185 : Index := 1#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1408 : Index := Scalar.indexCast v915
  let c0_1186 : Index := 0#32
  ![0, 1, v1408.toNat, 0]
def k0_off35 (k0_t1 : Fin k0_t1_loop.trips) : Fin 4 → Nat :=
  let c0_1187 : Index := 0#32
  let c2_1188 : Index := 2#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1412 : Index := Scalar.indexCast v915
  let c0_1189 : Index := 0#32
  ![0, 2, v1412.toNat, 0]
def k0_off36 (k0_t1 : Fin k0_t1_loop.trips) : Fin 4 → Nat :=
  let c0_1190 : Index := 0#32
  let c3_1191 : Index := 3#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1416 : Index := Scalar.indexCast v915
  let c0_1192 : Index := 0#32
  ![0, 3, v1416.toNat, 0]
def k0_off37 (k0_t1 : Fin k0_t1_loop.trips) : Fin 4 → Nat :=
  let c0_1193 : Index := 0#32
  let c4_1194 : Index := 4#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1420 : Index := Scalar.indexCast v915
  let c0_1195 : Index := 0#32
  ![0, 4, v1420.toNat, 0]
def k0_off38 (k0_t1 : Fin k0_t1_loop.trips) : Fin 4 → Nat :=
  let c0_1196 : Index := 0#32
  let c5_1197 : Index := 5#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1424 : Index := Scalar.indexCast v915
  let c0_1198 : Index := 0#32
  ![0, 5, v1424.toNat, 0]
def k0_off39 (k0_t1 : Fin k0_t1_loop.trips) : Fin 4 → Nat :=
  let c0_1199 : Index := 0#32
  let c6_1200 : Index := 6#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1428 : Index := Scalar.indexCast v915
  let c0_1201 : Index := 0#32
  ![0, 6, v1428.toNat, 0]
def k0_off40 (k0_t1 : Fin k0_t1_loop.trips) : Fin 4 → Nat :=
  let c0_1202 : Index := 0#32
  let c7_1203 : Index := 7#32
  let c0_i32_323 : BitVec 32 := 0#32
  let c1_i32 : BitVec 32 := 1#32
  let arg12 : BitVec 32 := Scf.iv c0_i32_323 c1_i32 k0_t1
  let c8_i32 : BitVec 32 := 8#32
  let v914 : BitVec 32 := Scalar.muli arg12 c8_i32
  let v915 : BitVec 32 := v914
  let v1432 : Index := Scalar.indexCast v915
  let c0_1204 : Index := 0#32
  ![0, 7, v1432.toNat, 0]
@[reducible] def k0_t2_loop : Scf.Loop 32 :=
  let c0_i32_420 : BitVec 32 := 0#32
  let c33_i32_421 : BitVec 32 := 33#32
  let v320 : BitVec 32 := Scalar.addi c0_i32_420 c33_i32_421
  let c1_i32_422 : BitVec 32 := 1#32
  ⟨c0_i32_420, v320, c1_i32_422⟩
def k0_mult2 (k0_t2 : Fin k0_t2_loop.trips) : BitVec 32 :=
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  v914
def k0_off41 (k0_t2 : Fin k0_t2_loop.trips) : Fin 3 → Nat :=
  let c0_1117 : Index := 0#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v924 : Index := Scalar.indexCast v915
  let c0_1118 : Index := 0#32
  ![0, v924.toNat, 0]
def k0_off42 (k0_t2 : Fin k0_t2_loop.trips) : Fin 3 → Nat :=
  let c0_1119 : Index := 0#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v927 : Index := Scalar.indexCast v915
  let c0_1120 : Index := 0#32
  ![0, v927.toNat, 0]
def k0_off43 (k0_t2 : Fin k0_t2_loop.trips) : Fin 3 → Nat :=
  let c1_1121 : Index := 1#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v954 : Index := Scalar.indexCast v915
  let c0_1122 : Index := 0#32
  ![1, v954.toNat, 0]
def k0_off44 (k0_t2 : Fin k0_t2_loop.trips) : Fin 3 → Nat :=
  let c1_1123 : Index := 1#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v957 : Index := Scalar.indexCast v915
  let c0_1124 : Index := 0#32
  ![1, v957.toNat, 0]
def k0_off45 (k0_t2 : Fin k0_t2_loop.trips) : Fin 3 → Nat :=
  let c2_1125 : Index := 2#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v984 : Index := Scalar.indexCast v915
  let c0_1126 : Index := 0#32
  ![2, v984.toNat, 0]
def k0_off46 (k0_t2 : Fin k0_t2_loop.trips) : Fin 3 → Nat :=
  let c2_1127 : Index := 2#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v987 : Index := Scalar.indexCast v915
  let c0_1128 : Index := 0#32
  ![2, v987.toNat, 0]
def k0_off47 (k0_t2 : Fin k0_t2_loop.trips) : Fin 3 → Nat :=
  let c3_1129 : Index := 3#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1014 : Index := Scalar.indexCast v915
  let c0_1130 : Index := 0#32
  ![3, v1014.toNat, 0]
def k0_off48 (k0_t2 : Fin k0_t2_loop.trips) : Fin 3 → Nat :=
  let c3_1131 : Index := 3#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1017 : Index := Scalar.indexCast v915
  let c0_1132 : Index := 0#32
  ![3, v1017.toNat, 0]
def k0_off49 (k0_t2 : Fin k0_t2_loop.trips) : Fin 3 → Nat :=
  let c4_1133 : Index := 4#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1044 : Index := Scalar.indexCast v915
  let c0_1134 : Index := 0#32
  ![4, v1044.toNat, 0]
def k0_off50 (k0_t2 : Fin k0_t2_loop.trips) : Fin 3 → Nat :=
  let c4_1135 : Index := 4#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1047 : Index := Scalar.indexCast v915
  let c0_1136 : Index := 0#32
  ![4, v1047.toNat, 0]
def k0_off51 (k0_t2 : Fin k0_t2_loop.trips) : Fin 3 → Nat :=
  let c5_1137 : Index := 5#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1074 : Index := Scalar.indexCast v915
  let c0_1138 : Index := 0#32
  ![5, v1074.toNat, 0]
def k0_off52 (k0_t2 : Fin k0_t2_loop.trips) : Fin 3 → Nat :=
  let c5_1139 : Index := 5#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1077 : Index := Scalar.indexCast v915
  let c0_1140 : Index := 0#32
  ![5, v1077.toNat, 0]
def k0_off53 (k0_t2 : Fin k0_t2_loop.trips) : Fin 3 → Nat :=
  let c6_1141 : Index := 6#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1104 : Index := Scalar.indexCast v915
  let c0_1142 : Index := 0#32
  ![6, v1104.toNat, 0]
def k0_off54 (k0_t2 : Fin k0_t2_loop.trips) : Fin 3 → Nat :=
  let c6_1143 : Index := 6#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1107 : Index := Scalar.indexCast v915
  let c0_1144 : Index := 0#32
  ![6, v1107.toNat, 0]
def k0_off55 (k0_t2 : Fin k0_t2_loop.trips) : Fin 3 → Nat :=
  let c7_1145 : Index := 7#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1134 : Index := Scalar.indexCast v915
  let c0_1146 : Index := 0#32
  ![7, v1134.toNat, 0]
def k0_off56 (k0_t2 : Fin k0_t2_loop.trips) : Fin 3 → Nat :=
  let c7_1147 : Index := 7#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1137 : Index := Scalar.indexCast v915
  let c0_1148 : Index := 0#32
  ![7, v1137.toNat, 0]
def k0_off57 (k0_t2 : Fin k0_t2_loop.trips) : Fin 3 → Nat :=
  let c8_1149 : Index := 8#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1164 : Index := Scalar.indexCast v915
  let c0_1150 : Index := 0#32
  ![8, v1164.toNat, 0]
def k0_off58 (k0_t2 : Fin k0_t2_loop.trips) : Fin 3 → Nat :=
  let c8_1151 : Index := 8#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1167 : Index := Scalar.indexCast v915
  let c0_1152 : Index := 0#32
  ![8, v1167.toNat, 0]
def k0_off59 (k0_t2 : Fin k0_t2_loop.trips) : Fin 3 → Nat :=
  let c9_1153 : Index := 9#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1194 : Index := Scalar.indexCast v915
  let c0_1154 : Index := 0#32
  ![9, v1194.toNat, 0]
def k0_off60 (k0_t2 : Fin k0_t2_loop.trips) : Fin 3 → Nat :=
  let c9_1155 : Index := 9#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1197 : Index := Scalar.indexCast v915
  let c0_1156 : Index := 0#32
  ![9, v1197.toNat, 0]
def k0_off61 (k0_t2 : Fin k0_t2_loop.trips) : Fin 3 → Nat :=
  let c10_1157 : Index := 10#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1224 : Index := Scalar.indexCast v915
  let c0_1158 : Index := 0#32
  ![10, v1224.toNat, 0]
def k0_off62 (k0_t2 : Fin k0_t2_loop.trips) : Fin 3 → Nat :=
  let c10_1159 : Index := 10#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1227 : Index := Scalar.indexCast v915
  let c0_1160 : Index := 0#32
  ![10, v1227.toNat, 0]
def k0_off63 (k0_t2 : Fin k0_t2_loop.trips) : Fin 3 → Nat :=
  let c11_1161 : Index := 11#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1254 : Index := Scalar.indexCast v915
  let c0_1162 : Index := 0#32
  ![11, v1254.toNat, 0]
def k0_off64 (k0_t2 : Fin k0_t2_loop.trips) : Fin 3 → Nat :=
  let c11_1163 : Index := 11#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1257 : Index := Scalar.indexCast v915
  let c0_1164 : Index := 0#32
  ![11, v1257.toNat, 0]
def k0_off65 (k0_t2 : Fin k0_t2_loop.trips) : Fin 3 → Nat :=
  let c12_1165 : Index := 12#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1284 : Index := Scalar.indexCast v915
  let c0_1166 : Index := 0#32
  ![12, v1284.toNat, 0]
def k0_off66 (k0_t2 : Fin k0_t2_loop.trips) : Fin 3 → Nat :=
  let c12_1167 : Index := 12#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1287 : Index := Scalar.indexCast v915
  let c0_1168 : Index := 0#32
  ![12, v1287.toNat, 0]
def k0_off67 (k0_t2 : Fin k0_t2_loop.trips) : Fin 3 → Nat :=
  let c13_1169 : Index := 13#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1314 : Index := Scalar.indexCast v915
  let c0_1170 : Index := 0#32
  ![13, v1314.toNat, 0]
def k0_off68 (k0_t2 : Fin k0_t2_loop.trips) : Fin 3 → Nat :=
  let c13_1171 : Index := 13#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1317 : Index := Scalar.indexCast v915
  let c0_1172 : Index := 0#32
  ![13, v1317.toNat, 0]
def k0_off69 (k0_t2 : Fin k0_t2_loop.trips) : Fin 3 → Nat :=
  let c14_1173 : Index := 14#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1344 : Index := Scalar.indexCast v915
  let c0_1174 : Index := 0#32
  ![14, v1344.toNat, 0]
def k0_off70 (k0_t2 : Fin k0_t2_loop.trips) : Fin 3 → Nat :=
  let c14_1175 : Index := 14#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1347 : Index := Scalar.indexCast v915
  let c0_1176 : Index := 0#32
  ![14, v1347.toNat, 0]
def k0_off71 (k0_t2 : Fin k0_t2_loop.trips) : Fin 3 → Nat :=
  let c15_1177 : Index := 15#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1374 : Index := Scalar.indexCast v915
  let c0_1178 : Index := 0#32
  ![15, v1374.toNat, 0]
def k0_off72 (k0_t2 : Fin k0_t2_loop.trips) : Fin 3 → Nat :=
  let c15_1179 : Index := 15#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1377 : Index := Scalar.indexCast v915
  let c0_1180 : Index := 0#32
  ![15, v1377.toNat, 0]
def k0_off73 (k0_t2 : Fin k0_t2_loop.trips) : Fin 4 → Nat :=
  let c1_1181 : Index := 1#32
  let c0_1182 : Index := 0#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1404 : Index := Scalar.indexCast v915
  let c0_1183 : Index := 0#32
  ![1, 0, v1404.toNat, 0]
def k0_off74 (k0_t2 : Fin k0_t2_loop.trips) : Fin 4 → Nat :=
  let c1_1184 : Index := 1#32
  let c1_1185 : Index := 1#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1408 : Index := Scalar.indexCast v915
  let c0_1186 : Index := 0#32
  ![1, 1, v1408.toNat, 0]
def k0_off75 (k0_t2 : Fin k0_t2_loop.trips) : Fin 4 → Nat :=
  let c1_1187 : Index := 1#32
  let c2_1188 : Index := 2#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1412 : Index := Scalar.indexCast v915
  let c0_1189 : Index := 0#32
  ![1, 2, v1412.toNat, 0]
def k0_off76 (k0_t2 : Fin k0_t2_loop.trips) : Fin 4 → Nat :=
  let c1_1190 : Index := 1#32
  let c3_1191 : Index := 3#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1416 : Index := Scalar.indexCast v915
  let c0_1192 : Index := 0#32
  ![1, 3, v1416.toNat, 0]
def k0_off77 (k0_t2 : Fin k0_t2_loop.trips) : Fin 4 → Nat :=
  let c1_1193 : Index := 1#32
  let c4_1194 : Index := 4#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1420 : Index := Scalar.indexCast v915
  let c0_1195 : Index := 0#32
  ![1, 4, v1420.toNat, 0]
def k0_off78 (k0_t2 : Fin k0_t2_loop.trips) : Fin 4 → Nat :=
  let c1_1196 : Index := 1#32
  let c5_1197 : Index := 5#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1424 : Index := Scalar.indexCast v915
  let c0_1198 : Index := 0#32
  ![1, 5, v1424.toNat, 0]
def k0_off79 (k0_t2 : Fin k0_t2_loop.trips) : Fin 4 → Nat :=
  let c1_1199 : Index := 1#32
  let c6_1200 : Index := 6#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1428 : Index := Scalar.indexCast v915
  let c0_1201 : Index := 0#32
  ![1, 6, v1428.toNat, 0]
def k0_off80 (k0_t2 : Fin k0_t2_loop.trips) : Fin 4 → Nat :=
  let c1_1202 : Index := 1#32
  let c7_1203 : Index := 7#32
  let c0_i32_420 : BitVec 32 := 0#32
  let c1_i32_422 : BitVec 32 := 1#32
  let arg12 : BitVec 32 := Scf.iv c0_i32_420 c1_i32_422 k0_t2
  let c8_i32 : BitVec 32 := 8#32
  let v914 : BitVec 32 := Scalar.muli arg12 c8_i32
  let v915 : BitVec 32 := v914
  let v1432 : Index := Scalar.indexCast v915
  let c0_1204 : Index := 0#32
  ![1, 7, v1432.toNat, 0]
@[reducible] def k0_t3_loop : Scf.Loop 32 :=
  let c0_i32_519 : BitVec 32 := 0#32
  let c33_i32_520 : BitVec 32 := 33#32
  let v405 : BitVec 32 := Scalar.addi c0_i32_519 c33_i32_520
  let c1_i32_521 : BitVec 32 := 1#32
  ⟨c0_i32_519, v405, c1_i32_521⟩
def k0_mult3 (k0_t3 : Fin k0_t3_loop.trips) : BitVec 32 :=
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  v914
def k0_off81 (k0_t3 : Fin k0_t3_loop.trips) : Fin 3 → Nat :=
  let c0_1117 : Index := 0#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v924 : Index := Scalar.indexCast v915
  let c0_1118 : Index := 0#32
  ![0, v924.toNat, 0]
def k0_off82 (k0_t3 : Fin k0_t3_loop.trips) : Fin 3 → Nat :=
  let c0_1119 : Index := 0#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v927 : Index := Scalar.indexCast v915
  let c0_1120 : Index := 0#32
  ![0, v927.toNat, 0]
def k0_off83 (k0_t3 : Fin k0_t3_loop.trips) : Fin 3 → Nat :=
  let c1_1121 : Index := 1#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v954 : Index := Scalar.indexCast v915
  let c0_1122 : Index := 0#32
  ![1, v954.toNat, 0]
def k0_off84 (k0_t3 : Fin k0_t3_loop.trips) : Fin 3 → Nat :=
  let c1_1123 : Index := 1#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v957 : Index := Scalar.indexCast v915
  let c0_1124 : Index := 0#32
  ![1, v957.toNat, 0]
def k0_off85 (k0_t3 : Fin k0_t3_loop.trips) : Fin 3 → Nat :=
  let c2_1125 : Index := 2#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v984 : Index := Scalar.indexCast v915
  let c0_1126 : Index := 0#32
  ![2, v984.toNat, 0]
def k0_off86 (k0_t3 : Fin k0_t3_loop.trips) : Fin 3 → Nat :=
  let c2_1127 : Index := 2#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v987 : Index := Scalar.indexCast v915
  let c0_1128 : Index := 0#32
  ![2, v987.toNat, 0]
def k0_off87 (k0_t3 : Fin k0_t3_loop.trips) : Fin 3 → Nat :=
  let c3_1129 : Index := 3#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1014 : Index := Scalar.indexCast v915
  let c0_1130 : Index := 0#32
  ![3, v1014.toNat, 0]
def k0_off88 (k0_t3 : Fin k0_t3_loop.trips) : Fin 3 → Nat :=
  let c3_1131 : Index := 3#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1017 : Index := Scalar.indexCast v915
  let c0_1132 : Index := 0#32
  ![3, v1017.toNat, 0]
def k0_off89 (k0_t3 : Fin k0_t3_loop.trips) : Fin 3 → Nat :=
  let c4_1133 : Index := 4#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1044 : Index := Scalar.indexCast v915
  let c0_1134 : Index := 0#32
  ![4, v1044.toNat, 0]
def k0_off90 (k0_t3 : Fin k0_t3_loop.trips) : Fin 3 → Nat :=
  let c4_1135 : Index := 4#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1047 : Index := Scalar.indexCast v915
  let c0_1136 : Index := 0#32
  ![4, v1047.toNat, 0]
def k0_off91 (k0_t3 : Fin k0_t3_loop.trips) : Fin 3 → Nat :=
  let c5_1137 : Index := 5#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1074 : Index := Scalar.indexCast v915
  let c0_1138 : Index := 0#32
  ![5, v1074.toNat, 0]
def k0_off92 (k0_t3 : Fin k0_t3_loop.trips) : Fin 3 → Nat :=
  let c5_1139 : Index := 5#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1077 : Index := Scalar.indexCast v915
  let c0_1140 : Index := 0#32
  ![5, v1077.toNat, 0]
def k0_off93 (k0_t3 : Fin k0_t3_loop.trips) : Fin 3 → Nat :=
  let c6_1141 : Index := 6#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1104 : Index := Scalar.indexCast v915
  let c0_1142 : Index := 0#32
  ![6, v1104.toNat, 0]
def k0_off94 (k0_t3 : Fin k0_t3_loop.trips) : Fin 3 → Nat :=
  let c6_1143 : Index := 6#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1107 : Index := Scalar.indexCast v915
  let c0_1144 : Index := 0#32
  ![6, v1107.toNat, 0]
def k0_off95 (k0_t3 : Fin k0_t3_loop.trips) : Fin 3 → Nat :=
  let c7_1145 : Index := 7#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1134 : Index := Scalar.indexCast v915
  let c0_1146 : Index := 0#32
  ![7, v1134.toNat, 0]
def k0_off96 (k0_t3 : Fin k0_t3_loop.trips) : Fin 3 → Nat :=
  let c7_1147 : Index := 7#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1137 : Index := Scalar.indexCast v915
  let c0_1148 : Index := 0#32
  ![7, v1137.toNat, 0]
def k0_off97 (k0_t3 : Fin k0_t3_loop.trips) : Fin 3 → Nat :=
  let c8_1149 : Index := 8#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1164 : Index := Scalar.indexCast v915
  let c0_1150 : Index := 0#32
  ![8, v1164.toNat, 0]
def k0_off98 (k0_t3 : Fin k0_t3_loop.trips) : Fin 3 → Nat :=
  let c8_1151 : Index := 8#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1167 : Index := Scalar.indexCast v915
  let c0_1152 : Index := 0#32
  ![8, v1167.toNat, 0]
def k0_off99 (k0_t3 : Fin k0_t3_loop.trips) : Fin 3 → Nat :=
  let c9_1153 : Index := 9#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1194 : Index := Scalar.indexCast v915
  let c0_1154 : Index := 0#32
  ![9, v1194.toNat, 0]
def k0_off100 (k0_t3 : Fin k0_t3_loop.trips) : Fin 3 → Nat :=
  let c9_1155 : Index := 9#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1197 : Index := Scalar.indexCast v915
  let c0_1156 : Index := 0#32
  ![9, v1197.toNat, 0]
def k0_off101 (k0_t3 : Fin k0_t3_loop.trips) : Fin 3 → Nat :=
  let c10_1157 : Index := 10#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1224 : Index := Scalar.indexCast v915
  let c0_1158 : Index := 0#32
  ![10, v1224.toNat, 0]
def k0_off102 (k0_t3 : Fin k0_t3_loop.trips) : Fin 3 → Nat :=
  let c10_1159 : Index := 10#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1227 : Index := Scalar.indexCast v915
  let c0_1160 : Index := 0#32
  ![10, v1227.toNat, 0]
def k0_off103 (k0_t3 : Fin k0_t3_loop.trips) : Fin 3 → Nat :=
  let c11_1161 : Index := 11#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1254 : Index := Scalar.indexCast v915
  let c0_1162 : Index := 0#32
  ![11, v1254.toNat, 0]
def k0_off104 (k0_t3 : Fin k0_t3_loop.trips) : Fin 3 → Nat :=
  let c11_1163 : Index := 11#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1257 : Index := Scalar.indexCast v915
  let c0_1164 : Index := 0#32
  ![11, v1257.toNat, 0]
def k0_off105 (k0_t3 : Fin k0_t3_loop.trips) : Fin 3 → Nat :=
  let c12_1165 : Index := 12#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1284 : Index := Scalar.indexCast v915
  let c0_1166 : Index := 0#32
  ![12, v1284.toNat, 0]
def k0_off106 (k0_t3 : Fin k0_t3_loop.trips) : Fin 3 → Nat :=
  let c12_1167 : Index := 12#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1287 : Index := Scalar.indexCast v915
  let c0_1168 : Index := 0#32
  ![12, v1287.toNat, 0]
def k0_off107 (k0_t3 : Fin k0_t3_loop.trips) : Fin 3 → Nat :=
  let c13_1169 : Index := 13#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1314 : Index := Scalar.indexCast v915
  let c0_1170 : Index := 0#32
  ![13, v1314.toNat, 0]
def k0_off108 (k0_t3 : Fin k0_t3_loop.trips) : Fin 3 → Nat :=
  let c13_1171 : Index := 13#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1317 : Index := Scalar.indexCast v915
  let c0_1172 : Index := 0#32
  ![13, v1317.toNat, 0]
def k0_off109 (k0_t3 : Fin k0_t3_loop.trips) : Fin 3 → Nat :=
  let c14_1173 : Index := 14#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1344 : Index := Scalar.indexCast v915
  let c0_1174 : Index := 0#32
  ![14, v1344.toNat, 0]
def k0_off110 (k0_t3 : Fin k0_t3_loop.trips) : Fin 3 → Nat :=
  let c14_1175 : Index := 14#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1347 : Index := Scalar.indexCast v915
  let c0_1176 : Index := 0#32
  ![14, v1347.toNat, 0]
def k0_off111 (k0_t3 : Fin k0_t3_loop.trips) : Fin 3 → Nat :=
  let c15_1177 : Index := 15#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1374 : Index := Scalar.indexCast v915
  let c0_1178 : Index := 0#32
  ![15, v1374.toNat, 0]
def k0_off112 (k0_t3 : Fin k0_t3_loop.trips) : Fin 3 → Nat :=
  let c15_1179 : Index := 15#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1377 : Index := Scalar.indexCast v915
  let c0_1180 : Index := 0#32
  ![15, v1377.toNat, 0]
def k0_off113 (k0_t3 : Fin k0_t3_loop.trips) : Fin 4 → Nat :=
  let c0_1181 : Index := 0#32
  let c0_1182 : Index := 0#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1404 : Index := Scalar.indexCast v915
  let c0_1183 : Index := 0#32
  ![0, 0, v1404.toNat, 0]
def k0_off114 (k0_t3 : Fin k0_t3_loop.trips) : Fin 4 → Nat :=
  let c0_1184 : Index := 0#32
  let c1_1185 : Index := 1#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1408 : Index := Scalar.indexCast v915
  let c0_1186 : Index := 0#32
  ![0, 1, v1408.toNat, 0]
def k0_off115 (k0_t3 : Fin k0_t3_loop.trips) : Fin 4 → Nat :=
  let c0_1187 : Index := 0#32
  let c2_1188 : Index := 2#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1412 : Index := Scalar.indexCast v915
  let c0_1189 : Index := 0#32
  ![0, 2, v1412.toNat, 0]
def k0_off116 (k0_t3 : Fin k0_t3_loop.trips) : Fin 4 → Nat :=
  let c0_1190 : Index := 0#32
  let c3_1191 : Index := 3#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1416 : Index := Scalar.indexCast v915
  let c0_1192 : Index := 0#32
  ![0, 3, v1416.toNat, 0]
def k0_off117 (k0_t3 : Fin k0_t3_loop.trips) : Fin 4 → Nat :=
  let c0_1193 : Index := 0#32
  let c4_1194 : Index := 4#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1420 : Index := Scalar.indexCast v915
  let c0_1195 : Index := 0#32
  ![0, 4, v1420.toNat, 0]
def k0_off118 (k0_t3 : Fin k0_t3_loop.trips) : Fin 4 → Nat :=
  let c0_1196 : Index := 0#32
  let c5_1197 : Index := 5#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1424 : Index := Scalar.indexCast v915
  let c0_1198 : Index := 0#32
  ![0, 5, v1424.toNat, 0]
def k0_off119 (k0_t3 : Fin k0_t3_loop.trips) : Fin 4 → Nat :=
  let c0_1199 : Index := 0#32
  let c6_1200 : Index := 6#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1428 : Index := Scalar.indexCast v915
  let c0_1201 : Index := 0#32
  ![0, 6, v1428.toNat, 0]
def k0_off120 (k0_t3 : Fin k0_t3_loop.trips) : Fin 4 → Nat :=
  let c0_1202 : Index := 0#32
  let c7_1203 : Index := 7#32
  let c0_i32_519 : BitVec 32 := 0#32
  let c1_i32_521 : BitVec 32 := 1#32
  let arg12 : BitVec 32 := Scf.iv c0_i32_519 c1_i32_521 k0_t3
  let c8_i32 : BitVec 32 := 8#32
  let v914 : BitVec 32 := Scalar.muli arg12 c8_i32
  let v915 : BitVec 32 := v914
  let v1432 : Index := Scalar.indexCast v915
  let c0_1204 : Index := 0#32
  ![0, 7, v1432.toNat, 0]
@[reducible] def k0_t4_loop : Scf.Loop 32 :=
  let c0_i32_618 : BitVec 32 := 0#32
  let c33_i32_619 : BitVec 32 := 33#32
  let v490 : BitVec 32 := Scalar.addi c0_i32_618 c33_i32_619
  let c1_i32_620 : BitVec 32 := 1#32
  ⟨c0_i32_618, v490, c1_i32_620⟩
def k0_mult4 (k0_t4 : Fin k0_t4_loop.trips) : BitVec 32 :=
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  v914
def k0_off121 (k0_t4 : Fin k0_t4_loop.trips) : Fin 3 → Nat :=
  let c0_1117 : Index := 0#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v924 : Index := Scalar.indexCast v915
  let c0_1118 : Index := 0#32
  ![0, v924.toNat, 0]
def k0_off122 (k0_t4 : Fin k0_t4_loop.trips) : Fin 3 → Nat :=
  let c0_1119 : Index := 0#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v927 : Index := Scalar.indexCast v915
  let c0_1120 : Index := 0#32
  ![0, v927.toNat, 0]
def k0_off123 (k0_t4 : Fin k0_t4_loop.trips) : Fin 3 → Nat :=
  let c1_1121 : Index := 1#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v954 : Index := Scalar.indexCast v915
  let c0_1122 : Index := 0#32
  ![1, v954.toNat, 0]
def k0_off124 (k0_t4 : Fin k0_t4_loop.trips) : Fin 3 → Nat :=
  let c1_1123 : Index := 1#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v957 : Index := Scalar.indexCast v915
  let c0_1124 : Index := 0#32
  ![1, v957.toNat, 0]
def k0_off125 (k0_t4 : Fin k0_t4_loop.trips) : Fin 3 → Nat :=
  let c2_1125 : Index := 2#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v984 : Index := Scalar.indexCast v915
  let c0_1126 : Index := 0#32
  ![2, v984.toNat, 0]
def k0_off126 (k0_t4 : Fin k0_t4_loop.trips) : Fin 3 → Nat :=
  let c2_1127 : Index := 2#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v987 : Index := Scalar.indexCast v915
  let c0_1128 : Index := 0#32
  ![2, v987.toNat, 0]
def k0_off127 (k0_t4 : Fin k0_t4_loop.trips) : Fin 3 → Nat :=
  let c3_1129 : Index := 3#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1014 : Index := Scalar.indexCast v915
  let c0_1130 : Index := 0#32
  ![3, v1014.toNat, 0]
def k0_off128 (k0_t4 : Fin k0_t4_loop.trips) : Fin 3 → Nat :=
  let c3_1131 : Index := 3#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1017 : Index := Scalar.indexCast v915
  let c0_1132 : Index := 0#32
  ![3, v1017.toNat, 0]
def k0_off129 (k0_t4 : Fin k0_t4_loop.trips) : Fin 3 → Nat :=
  let c4_1133 : Index := 4#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1044 : Index := Scalar.indexCast v915
  let c0_1134 : Index := 0#32
  ![4, v1044.toNat, 0]
def k0_off130 (k0_t4 : Fin k0_t4_loop.trips) : Fin 3 → Nat :=
  let c4_1135 : Index := 4#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1047 : Index := Scalar.indexCast v915
  let c0_1136 : Index := 0#32
  ![4, v1047.toNat, 0]
def k0_off131 (k0_t4 : Fin k0_t4_loop.trips) : Fin 3 → Nat :=
  let c5_1137 : Index := 5#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1074 : Index := Scalar.indexCast v915
  let c0_1138 : Index := 0#32
  ![5, v1074.toNat, 0]
def k0_off132 (k0_t4 : Fin k0_t4_loop.trips) : Fin 3 → Nat :=
  let c5_1139 : Index := 5#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1077 : Index := Scalar.indexCast v915
  let c0_1140 : Index := 0#32
  ![5, v1077.toNat, 0]
def k0_off133 (k0_t4 : Fin k0_t4_loop.trips) : Fin 3 → Nat :=
  let c6_1141 : Index := 6#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1104 : Index := Scalar.indexCast v915
  let c0_1142 : Index := 0#32
  ![6, v1104.toNat, 0]
def k0_off134 (k0_t4 : Fin k0_t4_loop.trips) : Fin 3 → Nat :=
  let c6_1143 : Index := 6#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1107 : Index := Scalar.indexCast v915
  let c0_1144 : Index := 0#32
  ![6, v1107.toNat, 0]
def k0_off135 (k0_t4 : Fin k0_t4_loop.trips) : Fin 3 → Nat :=
  let c7_1145 : Index := 7#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1134 : Index := Scalar.indexCast v915
  let c0_1146 : Index := 0#32
  ![7, v1134.toNat, 0]
def k0_off136 (k0_t4 : Fin k0_t4_loop.trips) : Fin 3 → Nat :=
  let c7_1147 : Index := 7#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1137 : Index := Scalar.indexCast v915
  let c0_1148 : Index := 0#32
  ![7, v1137.toNat, 0]
def k0_off137 (k0_t4 : Fin k0_t4_loop.trips) : Fin 3 → Nat :=
  let c8_1149 : Index := 8#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1164 : Index := Scalar.indexCast v915
  let c0_1150 : Index := 0#32
  ![8, v1164.toNat, 0]
def k0_off138 (k0_t4 : Fin k0_t4_loop.trips) : Fin 3 → Nat :=
  let c8_1151 : Index := 8#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1167 : Index := Scalar.indexCast v915
  let c0_1152 : Index := 0#32
  ![8, v1167.toNat, 0]
def k0_off139 (k0_t4 : Fin k0_t4_loop.trips) : Fin 3 → Nat :=
  let c9_1153 : Index := 9#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1194 : Index := Scalar.indexCast v915
  let c0_1154 : Index := 0#32
  ![9, v1194.toNat, 0]
def k0_off140 (k0_t4 : Fin k0_t4_loop.trips) : Fin 3 → Nat :=
  let c9_1155 : Index := 9#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1197 : Index := Scalar.indexCast v915
  let c0_1156 : Index := 0#32
  ![9, v1197.toNat, 0]
def k0_off141 (k0_t4 : Fin k0_t4_loop.trips) : Fin 3 → Nat :=
  let c10_1157 : Index := 10#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1224 : Index := Scalar.indexCast v915
  let c0_1158 : Index := 0#32
  ![10, v1224.toNat, 0]
def k0_off142 (k0_t4 : Fin k0_t4_loop.trips) : Fin 3 → Nat :=
  let c10_1159 : Index := 10#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1227 : Index := Scalar.indexCast v915
  let c0_1160 : Index := 0#32
  ![10, v1227.toNat, 0]
def k0_off143 (k0_t4 : Fin k0_t4_loop.trips) : Fin 3 → Nat :=
  let c11_1161 : Index := 11#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1254 : Index := Scalar.indexCast v915
  let c0_1162 : Index := 0#32
  ![11, v1254.toNat, 0]
def k0_off144 (k0_t4 : Fin k0_t4_loop.trips) : Fin 3 → Nat :=
  let c11_1163 : Index := 11#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1257 : Index := Scalar.indexCast v915
  let c0_1164 : Index := 0#32
  ![11, v1257.toNat, 0]
def k0_off145 (k0_t4 : Fin k0_t4_loop.trips) : Fin 3 → Nat :=
  let c12_1165 : Index := 12#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1284 : Index := Scalar.indexCast v915
  let c0_1166 : Index := 0#32
  ![12, v1284.toNat, 0]
def k0_off146 (k0_t4 : Fin k0_t4_loop.trips) : Fin 3 → Nat :=
  let c12_1167 : Index := 12#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1287 : Index := Scalar.indexCast v915
  let c0_1168 : Index := 0#32
  ![12, v1287.toNat, 0]
def k0_off147 (k0_t4 : Fin k0_t4_loop.trips) : Fin 3 → Nat :=
  let c13_1169 : Index := 13#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1314 : Index := Scalar.indexCast v915
  let c0_1170 : Index := 0#32
  ![13, v1314.toNat, 0]
def k0_off148 (k0_t4 : Fin k0_t4_loop.trips) : Fin 3 → Nat :=
  let c13_1171 : Index := 13#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1317 : Index := Scalar.indexCast v915
  let c0_1172 : Index := 0#32
  ![13, v1317.toNat, 0]
def k0_off149 (k0_t4 : Fin k0_t4_loop.trips) : Fin 3 → Nat :=
  let c14_1173 : Index := 14#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1344 : Index := Scalar.indexCast v915
  let c0_1174 : Index := 0#32
  ![14, v1344.toNat, 0]
def k0_off150 (k0_t4 : Fin k0_t4_loop.trips) : Fin 3 → Nat :=
  let c14_1175 : Index := 14#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1347 : Index := Scalar.indexCast v915
  let c0_1176 : Index := 0#32
  ![14, v1347.toNat, 0]
def k0_off151 (k0_t4 : Fin k0_t4_loop.trips) : Fin 3 → Nat :=
  let c15_1177 : Index := 15#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1374 : Index := Scalar.indexCast v915
  let c0_1178 : Index := 0#32
  ![15, v1374.toNat, 0]
def k0_off152 (k0_t4 : Fin k0_t4_loop.trips) : Fin 3 → Nat :=
  let c15_1179 : Index := 15#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1377 : Index := Scalar.indexCast v915
  let c0_1180 : Index := 0#32
  ![15, v1377.toNat, 0]
def k0_off153 (k0_t4 : Fin k0_t4_loop.trips) : Fin 4 → Nat :=
  let c1_1181 : Index := 1#32
  let c0_1182 : Index := 0#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1404 : Index := Scalar.indexCast v915
  let c0_1183 : Index := 0#32
  ![1, 0, v1404.toNat, 0]
def k0_off154 (k0_t4 : Fin k0_t4_loop.trips) : Fin 4 → Nat :=
  let c1_1184 : Index := 1#32
  let c1_1185 : Index := 1#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1408 : Index := Scalar.indexCast v915
  let c0_1186 : Index := 0#32
  ![1, 1, v1408.toNat, 0]
def k0_off155 (k0_t4 : Fin k0_t4_loop.trips) : Fin 4 → Nat :=
  let c1_1187 : Index := 1#32
  let c2_1188 : Index := 2#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1412 : Index := Scalar.indexCast v915
  let c0_1189 : Index := 0#32
  ![1, 2, v1412.toNat, 0]
def k0_off156 (k0_t4 : Fin k0_t4_loop.trips) : Fin 4 → Nat :=
  let c1_1190 : Index := 1#32
  let c3_1191 : Index := 3#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1416 : Index := Scalar.indexCast v915
  let c0_1192 : Index := 0#32
  ![1, 3, v1416.toNat, 0]
def k0_off157 (k0_t4 : Fin k0_t4_loop.trips) : Fin 4 → Nat :=
  let c1_1193 : Index := 1#32
  let c4_1194 : Index := 4#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1420 : Index := Scalar.indexCast v915
  let c0_1195 : Index := 0#32
  ![1, 4, v1420.toNat, 0]
def k0_off158 (k0_t4 : Fin k0_t4_loop.trips) : Fin 4 → Nat :=
  let c1_1196 : Index := 1#32
  let c5_1197 : Index := 5#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1424 : Index := Scalar.indexCast v915
  let c0_1198 : Index := 0#32
  ![1, 5, v1424.toNat, 0]
def k0_off159 (k0_t4 : Fin k0_t4_loop.trips) : Fin 4 → Nat :=
  let c1_1199 : Index := 1#32
  let c6_1200 : Index := 6#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1428 : Index := Scalar.indexCast v915
  let c0_1201 : Index := 0#32
  ![1, 6, v1428.toNat, 0]
def k0_off160 (k0_t4 : Fin k0_t4_loop.trips) : Fin 4 → Nat :=
  let c1_1202 : Index := 1#32
  let c7_1203 : Index := 7#32
  let c0_i32_618 : BitVec 32 := 0#32
  let c1_i32_620 : BitVec 32 := 1#32
  let arg12 : BitVec 32 := Scf.iv c0_i32_618 c1_i32_620 k0_t4
  let c8_i32 : BitVec 32 := 8#32
  let v914 : BitVec 32 := Scalar.muli arg12 c8_i32
  let v915 : BitVec 32 := v914
  let v1432 : Index := Scalar.indexCast v915
  let c0_1204 : Index := 0#32
  ![1, 7, v1432.toNat, 0]
@[reducible] def k0_t5_loop : Scf.Loop 32 :=
  let c0_i32_717 : BitVec 32 := 0#32
  let c33_i32_718 : BitVec 32 := 33#32
  let v575 : BitVec 32 := Scalar.addi c0_i32_717 c33_i32_718
  let c1_i32_719 : BitVec 32 := 1#32
  ⟨c0_i32_717, v575, c1_i32_719⟩
def k0_mult5 (k0_t5 : Fin k0_t5_loop.trips) : BitVec 32 :=
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  v914
def k0_off161 (k0_t5 : Fin k0_t5_loop.trips) : Fin 3 → Nat :=
  let c0_1117 : Index := 0#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v924 : Index := Scalar.indexCast v915
  let c0_1118 : Index := 0#32
  ![0, v924.toNat, 0]
def k0_off162 (k0_t5 : Fin k0_t5_loop.trips) : Fin 3 → Nat :=
  let c0_1119 : Index := 0#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v927 : Index := Scalar.indexCast v915
  let c0_1120 : Index := 0#32
  ![0, v927.toNat, 0]
def k0_off163 (k0_t5 : Fin k0_t5_loop.trips) : Fin 3 → Nat :=
  let c1_1121 : Index := 1#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v954 : Index := Scalar.indexCast v915
  let c0_1122 : Index := 0#32
  ![1, v954.toNat, 0]
def k0_off164 (k0_t5 : Fin k0_t5_loop.trips) : Fin 3 → Nat :=
  let c1_1123 : Index := 1#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v957 : Index := Scalar.indexCast v915
  let c0_1124 : Index := 0#32
  ![1, v957.toNat, 0]
def k0_off165 (k0_t5 : Fin k0_t5_loop.trips) : Fin 3 → Nat :=
  let c2_1125 : Index := 2#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v984 : Index := Scalar.indexCast v915
  let c0_1126 : Index := 0#32
  ![2, v984.toNat, 0]
def k0_off166 (k0_t5 : Fin k0_t5_loop.trips) : Fin 3 → Nat :=
  let c2_1127 : Index := 2#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v987 : Index := Scalar.indexCast v915
  let c0_1128 : Index := 0#32
  ![2, v987.toNat, 0]
def k0_off167 (k0_t5 : Fin k0_t5_loop.trips) : Fin 3 → Nat :=
  let c3_1129 : Index := 3#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1014 : Index := Scalar.indexCast v915
  let c0_1130 : Index := 0#32
  ![3, v1014.toNat, 0]
def k0_off168 (k0_t5 : Fin k0_t5_loop.trips) : Fin 3 → Nat :=
  let c3_1131 : Index := 3#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1017 : Index := Scalar.indexCast v915
  let c0_1132 : Index := 0#32
  ![3, v1017.toNat, 0]
def k0_off169 (k0_t5 : Fin k0_t5_loop.trips) : Fin 3 → Nat :=
  let c4_1133 : Index := 4#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1044 : Index := Scalar.indexCast v915
  let c0_1134 : Index := 0#32
  ![4, v1044.toNat, 0]
def k0_off170 (k0_t5 : Fin k0_t5_loop.trips) : Fin 3 → Nat :=
  let c4_1135 : Index := 4#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1047 : Index := Scalar.indexCast v915
  let c0_1136 : Index := 0#32
  ![4, v1047.toNat, 0]
def k0_off171 (k0_t5 : Fin k0_t5_loop.trips) : Fin 3 → Nat :=
  let c5_1137 : Index := 5#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1074 : Index := Scalar.indexCast v915
  let c0_1138 : Index := 0#32
  ![5, v1074.toNat, 0]
def k0_off172 (k0_t5 : Fin k0_t5_loop.trips) : Fin 3 → Nat :=
  let c5_1139 : Index := 5#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1077 : Index := Scalar.indexCast v915
  let c0_1140 : Index := 0#32
  ![5, v1077.toNat, 0]
def k0_off173 (k0_t5 : Fin k0_t5_loop.trips) : Fin 3 → Nat :=
  let c6_1141 : Index := 6#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1104 : Index := Scalar.indexCast v915
  let c0_1142 : Index := 0#32
  ![6, v1104.toNat, 0]
def k0_off174 (k0_t5 : Fin k0_t5_loop.trips) : Fin 3 → Nat :=
  let c6_1143 : Index := 6#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1107 : Index := Scalar.indexCast v915
  let c0_1144 : Index := 0#32
  ![6, v1107.toNat, 0]
def k0_off175 (k0_t5 : Fin k0_t5_loop.trips) : Fin 3 → Nat :=
  let c7_1145 : Index := 7#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1134 : Index := Scalar.indexCast v915
  let c0_1146 : Index := 0#32
  ![7, v1134.toNat, 0]
def k0_off176 (k0_t5 : Fin k0_t5_loop.trips) : Fin 3 → Nat :=
  let c7_1147 : Index := 7#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1137 : Index := Scalar.indexCast v915
  let c0_1148 : Index := 0#32
  ![7, v1137.toNat, 0]
def k0_off177 (k0_t5 : Fin k0_t5_loop.trips) : Fin 3 → Nat :=
  let c8_1149 : Index := 8#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1164 : Index := Scalar.indexCast v915
  let c0_1150 : Index := 0#32
  ![8, v1164.toNat, 0]
def k0_off178 (k0_t5 : Fin k0_t5_loop.trips) : Fin 3 → Nat :=
  let c8_1151 : Index := 8#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1167 : Index := Scalar.indexCast v915
  let c0_1152 : Index := 0#32
  ![8, v1167.toNat, 0]
def k0_off179 (k0_t5 : Fin k0_t5_loop.trips) : Fin 3 → Nat :=
  let c9_1153 : Index := 9#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1194 : Index := Scalar.indexCast v915
  let c0_1154 : Index := 0#32
  ![9, v1194.toNat, 0]
def k0_off180 (k0_t5 : Fin k0_t5_loop.trips) : Fin 3 → Nat :=
  let c9_1155 : Index := 9#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1197 : Index := Scalar.indexCast v915
  let c0_1156 : Index := 0#32
  ![9, v1197.toNat, 0]
def k0_off181 (k0_t5 : Fin k0_t5_loop.trips) : Fin 3 → Nat :=
  let c10_1157 : Index := 10#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1224 : Index := Scalar.indexCast v915
  let c0_1158 : Index := 0#32
  ![10, v1224.toNat, 0]
def k0_off182 (k0_t5 : Fin k0_t5_loop.trips) : Fin 3 → Nat :=
  let c10_1159 : Index := 10#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1227 : Index := Scalar.indexCast v915
  let c0_1160 : Index := 0#32
  ![10, v1227.toNat, 0]
def k0_off183 (k0_t5 : Fin k0_t5_loop.trips) : Fin 3 → Nat :=
  let c11_1161 : Index := 11#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1254 : Index := Scalar.indexCast v915
  let c0_1162 : Index := 0#32
  ![11, v1254.toNat, 0]
def k0_off184 (k0_t5 : Fin k0_t5_loop.trips) : Fin 3 → Nat :=
  let c11_1163 : Index := 11#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1257 : Index := Scalar.indexCast v915
  let c0_1164 : Index := 0#32
  ![11, v1257.toNat, 0]
def k0_off185 (k0_t5 : Fin k0_t5_loop.trips) : Fin 3 → Nat :=
  let c12_1165 : Index := 12#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1284 : Index := Scalar.indexCast v915
  let c0_1166 : Index := 0#32
  ![12, v1284.toNat, 0]
def k0_off186 (k0_t5 : Fin k0_t5_loop.trips) : Fin 3 → Nat :=
  let c12_1167 : Index := 12#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1287 : Index := Scalar.indexCast v915
  let c0_1168 : Index := 0#32
  ![12, v1287.toNat, 0]
def k0_off187 (k0_t5 : Fin k0_t5_loop.trips) : Fin 3 → Nat :=
  let c13_1169 : Index := 13#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1314 : Index := Scalar.indexCast v915
  let c0_1170 : Index := 0#32
  ![13, v1314.toNat, 0]
def k0_off188 (k0_t5 : Fin k0_t5_loop.trips) : Fin 3 → Nat :=
  let c13_1171 : Index := 13#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1317 : Index := Scalar.indexCast v915
  let c0_1172 : Index := 0#32
  ![13, v1317.toNat, 0]
def k0_off189 (k0_t5 : Fin k0_t5_loop.trips) : Fin 3 → Nat :=
  let c14_1173 : Index := 14#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1344 : Index := Scalar.indexCast v915
  let c0_1174 : Index := 0#32
  ![14, v1344.toNat, 0]
def k0_off190 (k0_t5 : Fin k0_t5_loop.trips) : Fin 3 → Nat :=
  let c14_1175 : Index := 14#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1347 : Index := Scalar.indexCast v915
  let c0_1176 : Index := 0#32
  ![14, v1347.toNat, 0]
def k0_off191 (k0_t5 : Fin k0_t5_loop.trips) : Fin 3 → Nat :=
  let c15_1177 : Index := 15#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1374 : Index := Scalar.indexCast v915
  let c0_1178 : Index := 0#32
  ![15, v1374.toNat, 0]
def k0_off192 (k0_t5 : Fin k0_t5_loop.trips) : Fin 3 → Nat :=
  let c15_1179 : Index := 15#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1377 : Index := Scalar.indexCast v915
  let c0_1180 : Index := 0#32
  ![15, v1377.toNat, 0]
def k0_off193 (k0_t5 : Fin k0_t5_loop.trips) : Fin 4 → Nat :=
  let c0_1181 : Index := 0#32
  let c0_1182 : Index := 0#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1404 : Index := Scalar.indexCast v915
  let c0_1183 : Index := 0#32
  ![0, 0, v1404.toNat, 0]
def k0_off194 (k0_t5 : Fin k0_t5_loop.trips) : Fin 4 → Nat :=
  let c0_1184 : Index := 0#32
  let c1_1185 : Index := 1#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1408 : Index := Scalar.indexCast v915
  let c0_1186 : Index := 0#32
  ![0, 1, v1408.toNat, 0]
def k0_off195 (k0_t5 : Fin k0_t5_loop.trips) : Fin 4 → Nat :=
  let c0_1187 : Index := 0#32
  let c2_1188 : Index := 2#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1412 : Index := Scalar.indexCast v915
  let c0_1189 : Index := 0#32
  ![0, 2, v1412.toNat, 0]
def k0_off196 (k0_t5 : Fin k0_t5_loop.trips) : Fin 4 → Nat :=
  let c0_1190 : Index := 0#32
  let c3_1191 : Index := 3#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1416 : Index := Scalar.indexCast v915
  let c0_1192 : Index := 0#32
  ![0, 3, v1416.toNat, 0]
def k0_off197 (k0_t5 : Fin k0_t5_loop.trips) : Fin 4 → Nat :=
  let c0_1193 : Index := 0#32
  let c4_1194 : Index := 4#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1420 : Index := Scalar.indexCast v915
  let c0_1195 : Index := 0#32
  ![0, 4, v1420.toNat, 0]
def k0_off198 (k0_t5 : Fin k0_t5_loop.trips) : Fin 4 → Nat :=
  let c0_1196 : Index := 0#32
  let c5_1197 : Index := 5#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1424 : Index := Scalar.indexCast v915
  let c0_1198 : Index := 0#32
  ![0, 5, v1424.toNat, 0]
def k0_off199 (k0_t5 : Fin k0_t5_loop.trips) : Fin 4 → Nat :=
  let c0_1199 : Index := 0#32
  let c6_1200 : Index := 6#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1428 : Index := Scalar.indexCast v915
  let c0_1201 : Index := 0#32
  ![0, 6, v1428.toNat, 0]
def k0_off200 (k0_t5 : Fin k0_t5_loop.trips) : Fin 4 → Nat :=
  let c0_1202 : Index := 0#32
  let c7_1203 : Index := 7#32
  let c0_i32_717 : BitVec 32 := 0#32
  let c1_i32_719 : BitVec 32 := 1#32
  let arg12 : BitVec 32 := Scf.iv c0_i32_717 c1_i32_719 k0_t5
  let c8_i32 : BitVec 32 := 8#32
  let v914 : BitVec 32 := Scalar.muli arg12 c8_i32
  let v915 : BitVec 32 := v914
  let v1432 : Index := Scalar.indexCast v915
  let c0_1204 : Index := 0#32
  ![0, 7, v1432.toNat, 0]
@[reducible] def k0_t6_loop : Scf.Loop 32 :=
  let c0_i32_816 : BitVec 32 := 0#32
  let c33_i32_817 : BitVec 32 := 33#32
  let v660 : BitVec 32 := Scalar.addi c0_i32_816 c33_i32_817
  let c1_i32_818 : BitVec 32 := 1#32
  ⟨c0_i32_816, v660, c1_i32_818⟩
def k0_mult6 (k0_t6 : Fin k0_t6_loop.trips) : BitVec 32 :=
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  v914
def k0_off201 (k0_t6 : Fin k0_t6_loop.trips) : Fin 3 → Nat :=
  let c0_1117 : Index := 0#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v924 : Index := Scalar.indexCast v915
  let c0_1118 : Index := 0#32
  ![0, v924.toNat, 0]
def k0_off202 (k0_t6 : Fin k0_t6_loop.trips) : Fin 3 → Nat :=
  let c0_1119 : Index := 0#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v927 : Index := Scalar.indexCast v915
  let c0_1120 : Index := 0#32
  ![0, v927.toNat, 0]
def k0_off203 (k0_t6 : Fin k0_t6_loop.trips) : Fin 3 → Nat :=
  let c1_1121 : Index := 1#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v954 : Index := Scalar.indexCast v915
  let c0_1122 : Index := 0#32
  ![1, v954.toNat, 0]
def k0_off204 (k0_t6 : Fin k0_t6_loop.trips) : Fin 3 → Nat :=
  let c1_1123 : Index := 1#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v957 : Index := Scalar.indexCast v915
  let c0_1124 : Index := 0#32
  ![1, v957.toNat, 0]
def k0_off205 (k0_t6 : Fin k0_t6_loop.trips) : Fin 3 → Nat :=
  let c2_1125 : Index := 2#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v984 : Index := Scalar.indexCast v915
  let c0_1126 : Index := 0#32
  ![2, v984.toNat, 0]
def k0_off206 (k0_t6 : Fin k0_t6_loop.trips) : Fin 3 → Nat :=
  let c2_1127 : Index := 2#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v987 : Index := Scalar.indexCast v915
  let c0_1128 : Index := 0#32
  ![2, v987.toNat, 0]
def k0_off207 (k0_t6 : Fin k0_t6_loop.trips) : Fin 3 → Nat :=
  let c3_1129 : Index := 3#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1014 : Index := Scalar.indexCast v915
  let c0_1130 : Index := 0#32
  ![3, v1014.toNat, 0]
def k0_off208 (k0_t6 : Fin k0_t6_loop.trips) : Fin 3 → Nat :=
  let c3_1131 : Index := 3#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1017 : Index := Scalar.indexCast v915
  let c0_1132 : Index := 0#32
  ![3, v1017.toNat, 0]
def k0_off209 (k0_t6 : Fin k0_t6_loop.trips) : Fin 3 → Nat :=
  let c4_1133 : Index := 4#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1044 : Index := Scalar.indexCast v915
  let c0_1134 : Index := 0#32
  ![4, v1044.toNat, 0]
def k0_off210 (k0_t6 : Fin k0_t6_loop.trips) : Fin 3 → Nat :=
  let c4_1135 : Index := 4#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1047 : Index := Scalar.indexCast v915
  let c0_1136 : Index := 0#32
  ![4, v1047.toNat, 0]
def k0_off211 (k0_t6 : Fin k0_t6_loop.trips) : Fin 3 → Nat :=
  let c5_1137 : Index := 5#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1074 : Index := Scalar.indexCast v915
  let c0_1138 : Index := 0#32
  ![5, v1074.toNat, 0]
def k0_off212 (k0_t6 : Fin k0_t6_loop.trips) : Fin 3 → Nat :=
  let c5_1139 : Index := 5#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1077 : Index := Scalar.indexCast v915
  let c0_1140 : Index := 0#32
  ![5, v1077.toNat, 0]
def k0_off213 (k0_t6 : Fin k0_t6_loop.trips) : Fin 3 → Nat :=
  let c6_1141 : Index := 6#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1104 : Index := Scalar.indexCast v915
  let c0_1142 : Index := 0#32
  ![6, v1104.toNat, 0]
def k0_off214 (k0_t6 : Fin k0_t6_loop.trips) : Fin 3 → Nat :=
  let c6_1143 : Index := 6#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1107 : Index := Scalar.indexCast v915
  let c0_1144 : Index := 0#32
  ![6, v1107.toNat, 0]
def k0_off215 (k0_t6 : Fin k0_t6_loop.trips) : Fin 3 → Nat :=
  let c7_1145 : Index := 7#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1134 : Index := Scalar.indexCast v915
  let c0_1146 : Index := 0#32
  ![7, v1134.toNat, 0]
def k0_off216 (k0_t6 : Fin k0_t6_loop.trips) : Fin 3 → Nat :=
  let c7_1147 : Index := 7#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1137 : Index := Scalar.indexCast v915
  let c0_1148 : Index := 0#32
  ![7, v1137.toNat, 0]
def k0_off217 (k0_t6 : Fin k0_t6_loop.trips) : Fin 3 → Nat :=
  let c8_1149 : Index := 8#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1164 : Index := Scalar.indexCast v915
  let c0_1150 : Index := 0#32
  ![8, v1164.toNat, 0]
def k0_off218 (k0_t6 : Fin k0_t6_loop.trips) : Fin 3 → Nat :=
  let c8_1151 : Index := 8#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1167 : Index := Scalar.indexCast v915
  let c0_1152 : Index := 0#32
  ![8, v1167.toNat, 0]
def k0_off219 (k0_t6 : Fin k0_t6_loop.trips) : Fin 3 → Nat :=
  let c9_1153 : Index := 9#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1194 : Index := Scalar.indexCast v915
  let c0_1154 : Index := 0#32
  ![9, v1194.toNat, 0]
def k0_off220 (k0_t6 : Fin k0_t6_loop.trips) : Fin 3 → Nat :=
  let c9_1155 : Index := 9#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1197 : Index := Scalar.indexCast v915
  let c0_1156 : Index := 0#32
  ![9, v1197.toNat, 0]
def k0_off221 (k0_t6 : Fin k0_t6_loop.trips) : Fin 3 → Nat :=
  let c10_1157 : Index := 10#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1224 : Index := Scalar.indexCast v915
  let c0_1158 : Index := 0#32
  ![10, v1224.toNat, 0]
def k0_off222 (k0_t6 : Fin k0_t6_loop.trips) : Fin 3 → Nat :=
  let c10_1159 : Index := 10#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1227 : Index := Scalar.indexCast v915
  let c0_1160 : Index := 0#32
  ![10, v1227.toNat, 0]
def k0_off223 (k0_t6 : Fin k0_t6_loop.trips) : Fin 3 → Nat :=
  let c11_1161 : Index := 11#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1254 : Index := Scalar.indexCast v915
  let c0_1162 : Index := 0#32
  ![11, v1254.toNat, 0]
def k0_off224 (k0_t6 : Fin k0_t6_loop.trips) : Fin 3 → Nat :=
  let c11_1163 : Index := 11#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1257 : Index := Scalar.indexCast v915
  let c0_1164 : Index := 0#32
  ![11, v1257.toNat, 0]
def k0_off225 (k0_t6 : Fin k0_t6_loop.trips) : Fin 3 → Nat :=
  let c12_1165 : Index := 12#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1284 : Index := Scalar.indexCast v915
  let c0_1166 : Index := 0#32
  ![12, v1284.toNat, 0]
def k0_off226 (k0_t6 : Fin k0_t6_loop.trips) : Fin 3 → Nat :=
  let c12_1167 : Index := 12#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1287 : Index := Scalar.indexCast v915
  let c0_1168 : Index := 0#32
  ![12, v1287.toNat, 0]
def k0_off227 (k0_t6 : Fin k0_t6_loop.trips) : Fin 3 → Nat :=
  let c13_1169 : Index := 13#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1314 : Index := Scalar.indexCast v915
  let c0_1170 : Index := 0#32
  ![13, v1314.toNat, 0]
def k0_off228 (k0_t6 : Fin k0_t6_loop.trips) : Fin 3 → Nat :=
  let c13_1171 : Index := 13#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1317 : Index := Scalar.indexCast v915
  let c0_1172 : Index := 0#32
  ![13, v1317.toNat, 0]
def k0_off229 (k0_t6 : Fin k0_t6_loop.trips) : Fin 3 → Nat :=
  let c14_1173 : Index := 14#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1344 : Index := Scalar.indexCast v915
  let c0_1174 : Index := 0#32
  ![14, v1344.toNat, 0]
def k0_off230 (k0_t6 : Fin k0_t6_loop.trips) : Fin 3 → Nat :=
  let c14_1175 : Index := 14#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1347 : Index := Scalar.indexCast v915
  let c0_1176 : Index := 0#32
  ![14, v1347.toNat, 0]
def k0_off231 (k0_t6 : Fin k0_t6_loop.trips) : Fin 3 → Nat :=
  let c15_1177 : Index := 15#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1374 : Index := Scalar.indexCast v915
  let c0_1178 : Index := 0#32
  ![15, v1374.toNat, 0]
def k0_off232 (k0_t6 : Fin k0_t6_loop.trips) : Fin 3 → Nat :=
  let c15_1179 : Index := 15#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1377 : Index := Scalar.indexCast v915
  let c0_1180 : Index := 0#32
  ![15, v1377.toNat, 0]
def k0_off233 (k0_t6 : Fin k0_t6_loop.trips) : Fin 4 → Nat :=
  let c1_1181 : Index := 1#32
  let c0_1182 : Index := 0#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1404 : Index := Scalar.indexCast v915
  let c0_1183 : Index := 0#32
  ![1, 0, v1404.toNat, 0]
def k0_off234 (k0_t6 : Fin k0_t6_loop.trips) : Fin 4 → Nat :=
  let c1_1184 : Index := 1#32
  let c1_1185 : Index := 1#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1408 : Index := Scalar.indexCast v915
  let c0_1186 : Index := 0#32
  ![1, 1, v1408.toNat, 0]
def k0_off235 (k0_t6 : Fin k0_t6_loop.trips) : Fin 4 → Nat :=
  let c1_1187 : Index := 1#32
  let c2_1188 : Index := 2#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1412 : Index := Scalar.indexCast v915
  let c0_1189 : Index := 0#32
  ![1, 2, v1412.toNat, 0]
def k0_off236 (k0_t6 : Fin k0_t6_loop.trips) : Fin 4 → Nat :=
  let c1_1190 : Index := 1#32
  let c3_1191 : Index := 3#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1416 : Index := Scalar.indexCast v915
  let c0_1192 : Index := 0#32
  ![1, 3, v1416.toNat, 0]
def k0_off237 (k0_t6 : Fin k0_t6_loop.trips) : Fin 4 → Nat :=
  let c1_1193 : Index := 1#32
  let c4_1194 : Index := 4#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1420 : Index := Scalar.indexCast v915
  let c0_1195 : Index := 0#32
  ![1, 4, v1420.toNat, 0]
def k0_off238 (k0_t6 : Fin k0_t6_loop.trips) : Fin 4 → Nat :=
  let c1_1196 : Index := 1#32
  let c5_1197 : Index := 5#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1424 : Index := Scalar.indexCast v915
  let c0_1198 : Index := 0#32
  ![1, 5, v1424.toNat, 0]
def k0_off239 (k0_t6 : Fin k0_t6_loop.trips) : Fin 4 → Nat :=
  let c1_1199 : Index := 1#32
  let c6_1200 : Index := 6#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1428 : Index := Scalar.indexCast v915
  let c0_1201 : Index := 0#32
  ![1, 6, v1428.toNat, 0]
def k0_off240 (k0_t6 : Fin k0_t6_loop.trips) : Fin 4 → Nat :=
  let c1_1202 : Index := 1#32
  let c7_1203 : Index := 7#32
  let c0_i32_816 : BitVec 32 := 0#32
  let c1_i32_818 : BitVec 32 := 1#32
  let arg12 : BitVec 32 := Scf.iv c0_i32_816 c1_i32_818 k0_t6
  let c8_i32 : BitVec 32 := 8#32
  let v914 : BitVec 32 := Scalar.muli arg12 c8_i32
  let v915 : BitVec 32 := v914
  let v1432 : Index := Scalar.indexCast v915
  let c0_1204 : Index := 0#32
  ![1, 7, v1432.toNat, 0]
@[reducible] def k0_t7_loop : Scf.Loop 32 :=
  let c0_i32_915 : BitVec 32 := 0#32
  let c33_i32_916 : BitVec 32 := 33#32
  let v745 : BitVec 32 := Scalar.addi c0_i32_915 c33_i32_916
  let c1_i32_917 : BitVec 32 := 1#32
  ⟨c0_i32_915, v745, c1_i32_917⟩
def k0_mult7 (k0_t7 : Fin k0_t7_loop.trips) : BitVec 32 :=
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  v914
def k0_off241 (k0_t7 : Fin k0_t7_loop.trips) : Fin 3 → Nat :=
  let c0_1117 : Index := 0#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v924 : Index := Scalar.indexCast v915
  let c0_1118 : Index := 0#32
  ![0, v924.toNat, 0]
def k0_off242 (k0_t7 : Fin k0_t7_loop.trips) : Fin 3 → Nat :=
  let c0_1119 : Index := 0#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v927 : Index := Scalar.indexCast v915
  let c0_1120 : Index := 0#32
  ![0, v927.toNat, 0]
def k0_off243 (k0_t7 : Fin k0_t7_loop.trips) : Fin 3 → Nat :=
  let c1_1121 : Index := 1#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v954 : Index := Scalar.indexCast v915
  let c0_1122 : Index := 0#32
  ![1, v954.toNat, 0]
def k0_off244 (k0_t7 : Fin k0_t7_loop.trips) : Fin 3 → Nat :=
  let c1_1123 : Index := 1#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v957 : Index := Scalar.indexCast v915
  let c0_1124 : Index := 0#32
  ![1, v957.toNat, 0]
def k0_off245 (k0_t7 : Fin k0_t7_loop.trips) : Fin 3 → Nat :=
  let c2_1125 : Index := 2#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v984 : Index := Scalar.indexCast v915
  let c0_1126 : Index := 0#32
  ![2, v984.toNat, 0]
def k0_off246 (k0_t7 : Fin k0_t7_loop.trips) : Fin 3 → Nat :=
  let c2_1127 : Index := 2#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v987 : Index := Scalar.indexCast v915
  let c0_1128 : Index := 0#32
  ![2, v987.toNat, 0]
def k0_off247 (k0_t7 : Fin k0_t7_loop.trips) : Fin 3 → Nat :=
  let c3_1129 : Index := 3#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1014 : Index := Scalar.indexCast v915
  let c0_1130 : Index := 0#32
  ![3, v1014.toNat, 0]
def k0_off248 (k0_t7 : Fin k0_t7_loop.trips) : Fin 3 → Nat :=
  let c3_1131 : Index := 3#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1017 : Index := Scalar.indexCast v915
  let c0_1132 : Index := 0#32
  ![3, v1017.toNat, 0]
def k0_off249 (k0_t7 : Fin k0_t7_loop.trips) : Fin 3 → Nat :=
  let c4_1133 : Index := 4#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1044 : Index := Scalar.indexCast v915
  let c0_1134 : Index := 0#32
  ![4, v1044.toNat, 0]
def k0_off250 (k0_t7 : Fin k0_t7_loop.trips) : Fin 3 → Nat :=
  let c4_1135 : Index := 4#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1047 : Index := Scalar.indexCast v915
  let c0_1136 : Index := 0#32
  ![4, v1047.toNat, 0]
def k0_off251 (k0_t7 : Fin k0_t7_loop.trips) : Fin 3 → Nat :=
  let c5_1137 : Index := 5#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1074 : Index := Scalar.indexCast v915
  let c0_1138 : Index := 0#32
  ![5, v1074.toNat, 0]
def k0_off252 (k0_t7 : Fin k0_t7_loop.trips) : Fin 3 → Nat :=
  let c5_1139 : Index := 5#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1077 : Index := Scalar.indexCast v915
  let c0_1140 : Index := 0#32
  ![5, v1077.toNat, 0]
def k0_off253 (k0_t7 : Fin k0_t7_loop.trips) : Fin 3 → Nat :=
  let c6_1141 : Index := 6#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1104 : Index := Scalar.indexCast v915
  let c0_1142 : Index := 0#32
  ![6, v1104.toNat, 0]
def k0_off254 (k0_t7 : Fin k0_t7_loop.trips) : Fin 3 → Nat :=
  let c6_1143 : Index := 6#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1107 : Index := Scalar.indexCast v915
  let c0_1144 : Index := 0#32
  ![6, v1107.toNat, 0]
def k0_off255 (k0_t7 : Fin k0_t7_loop.trips) : Fin 3 → Nat :=
  let c7_1145 : Index := 7#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1134 : Index := Scalar.indexCast v915
  let c0_1146 : Index := 0#32
  ![7, v1134.toNat, 0]
def k0_off256 (k0_t7 : Fin k0_t7_loop.trips) : Fin 3 → Nat :=
  let c7_1147 : Index := 7#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1137 : Index := Scalar.indexCast v915
  let c0_1148 : Index := 0#32
  ![7, v1137.toNat, 0]
def k0_off257 (k0_t7 : Fin k0_t7_loop.trips) : Fin 3 → Nat :=
  let c8_1149 : Index := 8#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1164 : Index := Scalar.indexCast v915
  let c0_1150 : Index := 0#32
  ![8, v1164.toNat, 0]
def k0_off258 (k0_t7 : Fin k0_t7_loop.trips) : Fin 3 → Nat :=
  let c8_1151 : Index := 8#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1167 : Index := Scalar.indexCast v915
  let c0_1152 : Index := 0#32
  ![8, v1167.toNat, 0]
def k0_off259 (k0_t7 : Fin k0_t7_loop.trips) : Fin 3 → Nat :=
  let c9_1153 : Index := 9#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1194 : Index := Scalar.indexCast v915
  let c0_1154 : Index := 0#32
  ![9, v1194.toNat, 0]
def k0_off260 (k0_t7 : Fin k0_t7_loop.trips) : Fin 3 → Nat :=
  let c9_1155 : Index := 9#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1197 : Index := Scalar.indexCast v915
  let c0_1156 : Index := 0#32
  ![9, v1197.toNat, 0]
def k0_off261 (k0_t7 : Fin k0_t7_loop.trips) : Fin 3 → Nat :=
  let c10_1157 : Index := 10#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1224 : Index := Scalar.indexCast v915
  let c0_1158 : Index := 0#32
  ![10, v1224.toNat, 0]
def k0_off262 (k0_t7 : Fin k0_t7_loop.trips) : Fin 3 → Nat :=
  let c10_1159 : Index := 10#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1227 : Index := Scalar.indexCast v915
  let c0_1160 : Index := 0#32
  ![10, v1227.toNat, 0]
def k0_off263 (k0_t7 : Fin k0_t7_loop.trips) : Fin 3 → Nat :=
  let c11_1161 : Index := 11#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1254 : Index := Scalar.indexCast v915
  let c0_1162 : Index := 0#32
  ![11, v1254.toNat, 0]
def k0_off264 (k0_t7 : Fin k0_t7_loop.trips) : Fin 3 → Nat :=
  let c11_1163 : Index := 11#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1257 : Index := Scalar.indexCast v915
  let c0_1164 : Index := 0#32
  ![11, v1257.toNat, 0]
def k0_off265 (k0_t7 : Fin k0_t7_loop.trips) : Fin 3 → Nat :=
  let c12_1165 : Index := 12#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1284 : Index := Scalar.indexCast v915
  let c0_1166 : Index := 0#32
  ![12, v1284.toNat, 0]
def k0_off266 (k0_t7 : Fin k0_t7_loop.trips) : Fin 3 → Nat :=
  let c12_1167 : Index := 12#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1287 : Index := Scalar.indexCast v915
  let c0_1168 : Index := 0#32
  ![12, v1287.toNat, 0]
def k0_off267 (k0_t7 : Fin k0_t7_loop.trips) : Fin 3 → Nat :=
  let c13_1169 : Index := 13#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1314 : Index := Scalar.indexCast v915
  let c0_1170 : Index := 0#32
  ![13, v1314.toNat, 0]
def k0_off268 (k0_t7 : Fin k0_t7_loop.trips) : Fin 3 → Nat :=
  let c13_1171 : Index := 13#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1317 : Index := Scalar.indexCast v915
  let c0_1172 : Index := 0#32
  ![13, v1317.toNat, 0]
def k0_off269 (k0_t7 : Fin k0_t7_loop.trips) : Fin 3 → Nat :=
  let c14_1173 : Index := 14#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1344 : Index := Scalar.indexCast v915
  let c0_1174 : Index := 0#32
  ![14, v1344.toNat, 0]
def k0_off270 (k0_t7 : Fin k0_t7_loop.trips) : Fin 3 → Nat :=
  let c14_1175 : Index := 14#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1347 : Index := Scalar.indexCast v915
  let c0_1176 : Index := 0#32
  ![14, v1347.toNat, 0]
def k0_off271 (k0_t7 : Fin k0_t7_loop.trips) : Fin 3 → Nat :=
  let c15_1177 : Index := 15#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1374 : Index := Scalar.indexCast v915
  let c0_1178 : Index := 0#32
  ![15, v1374.toNat, 0]
def k0_off272 (k0_t7 : Fin k0_t7_loop.trips) : Fin 3 → Nat :=
  let c15_1179 : Index := 15#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1377 : Index := Scalar.indexCast v915
  let c0_1180 : Index := 0#32
  ![15, v1377.toNat, 0]
def k0_off273 (k0_t7 : Fin k0_t7_loop.trips) : Fin 4 → Nat :=
  let c0_1181 : Index := 0#32
  let c0_1182 : Index := 0#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1404 : Index := Scalar.indexCast v915
  let c0_1183 : Index := 0#32
  ![0, 0, v1404.toNat, 0]
def k0_off274 (k0_t7 : Fin k0_t7_loop.trips) : Fin 4 → Nat :=
  let c0_1184 : Index := 0#32
  let c1_1185 : Index := 1#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1408 : Index := Scalar.indexCast v915
  let c0_1186 : Index := 0#32
  ![0, 1, v1408.toNat, 0]
def k0_off275 (k0_t7 : Fin k0_t7_loop.trips) : Fin 4 → Nat :=
  let c0_1187 : Index := 0#32
  let c2_1188 : Index := 2#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1412 : Index := Scalar.indexCast v915
  let c0_1189 : Index := 0#32
  ![0, 2, v1412.toNat, 0]
def k0_off276 (k0_t7 : Fin k0_t7_loop.trips) : Fin 4 → Nat :=
  let c0_1190 : Index := 0#32
  let c3_1191 : Index := 3#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1416 : Index := Scalar.indexCast v915
  let c0_1192 : Index := 0#32
  ![0, 3, v1416.toNat, 0]
def k0_off277 (k0_t7 : Fin k0_t7_loop.trips) : Fin 4 → Nat :=
  let c0_1193 : Index := 0#32
  let c4_1194 : Index := 4#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1420 : Index := Scalar.indexCast v915
  let c0_1195 : Index := 0#32
  ![0, 4, v1420.toNat, 0]
def k0_off278 (k0_t7 : Fin k0_t7_loop.trips) : Fin 4 → Nat :=
  let c0_1196 : Index := 0#32
  let c5_1197 : Index := 5#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1424 : Index := Scalar.indexCast v915
  let c0_1198 : Index := 0#32
  ![0, 5, v1424.toNat, 0]
def k0_off279 (k0_t7 : Fin k0_t7_loop.trips) : Fin 4 → Nat :=
  let c0_1199 : Index := 0#32
  let c6_1200 : Index := 6#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1428 : Index := Scalar.indexCast v915
  let c0_1201 : Index := 0#32
  ![0, 6, v1428.toNat, 0]
def k0_off280 (k0_t7 : Fin k0_t7_loop.trips) : Fin 4 → Nat :=
  let c0_1202 : Index := 0#32
  let c7_1203 : Index := 7#32
  let c0_i32_915 : BitVec 32 := 0#32
  let c1_i32_917 : BitVec 32 := 1#32
  let arg12 : BitVec 32 := Scf.iv c0_i32_915 c1_i32_917 k0_t7
  let c8_i32 : BitVec 32 := 8#32
  let v914 : BitVec 32 := Scalar.muli arg12 c8_i32
  let v915 : BitVec 32 := v914
  let v1432 : Index := Scalar.indexCast v915
  let c0_1204 : Index := 0#32
  ![0, 7, v1432.toNat, 0]
@[reducible] def k0_t8_loop : Scf.Loop 32 :=
  let c0_i32_1014 : BitVec 32 := 0#32
  let c33_i32_1015 : BitVec 32 := 33#32
  let v830 : BitVec 32 := Scalar.addi c0_i32_1014 c33_i32_1015
  let c1_i32_1016 : BitVec 32 := 1#32
  ⟨c0_i32_1014, v830, c1_i32_1016⟩
def k0_mult8 (k0_t8 : Fin k0_t8_loop.trips) : BitVec 32 :=
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  v914
def k0_off281 (k0_t8 : Fin k0_t8_loop.trips) : Fin 3 → Nat :=
  let c0_1117 : Index := 0#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v924 : Index := Scalar.indexCast v915
  let c0_1118 : Index := 0#32
  ![0, v924.toNat, 0]
def k0_off282 (k0_t8 : Fin k0_t8_loop.trips) : Fin 3 → Nat :=
  let c0_1119 : Index := 0#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v927 : Index := Scalar.indexCast v915
  let c0_1120 : Index := 0#32
  ![0, v927.toNat, 0]
def k0_off283 (k0_t8 : Fin k0_t8_loop.trips) : Fin 3 → Nat :=
  let c1_1121 : Index := 1#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v954 : Index := Scalar.indexCast v915
  let c0_1122 : Index := 0#32
  ![1, v954.toNat, 0]
def k0_off284 (k0_t8 : Fin k0_t8_loop.trips) : Fin 3 → Nat :=
  let c1_1123 : Index := 1#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v957 : Index := Scalar.indexCast v915
  let c0_1124 : Index := 0#32
  ![1, v957.toNat, 0]
def k0_off285 (k0_t8 : Fin k0_t8_loop.trips) : Fin 3 → Nat :=
  let c2_1125 : Index := 2#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v984 : Index := Scalar.indexCast v915
  let c0_1126 : Index := 0#32
  ![2, v984.toNat, 0]
def k0_off286 (k0_t8 : Fin k0_t8_loop.trips) : Fin 3 → Nat :=
  let c2_1127 : Index := 2#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v987 : Index := Scalar.indexCast v915
  let c0_1128 : Index := 0#32
  ![2, v987.toNat, 0]
def k0_off287 (k0_t8 : Fin k0_t8_loop.trips) : Fin 3 → Nat :=
  let c3_1129 : Index := 3#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1014 : Index := Scalar.indexCast v915
  let c0_1130 : Index := 0#32
  ![3, v1014.toNat, 0]
def k0_off288 (k0_t8 : Fin k0_t8_loop.trips) : Fin 3 → Nat :=
  let c3_1131 : Index := 3#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1017 : Index := Scalar.indexCast v915
  let c0_1132 : Index := 0#32
  ![3, v1017.toNat, 0]
def k0_off289 (k0_t8 : Fin k0_t8_loop.trips) : Fin 3 → Nat :=
  let c4_1133 : Index := 4#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1044 : Index := Scalar.indexCast v915
  let c0_1134 : Index := 0#32
  ![4, v1044.toNat, 0]
def k0_off290 (k0_t8 : Fin k0_t8_loop.trips) : Fin 3 → Nat :=
  let c4_1135 : Index := 4#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1047 : Index := Scalar.indexCast v915
  let c0_1136 : Index := 0#32
  ![4, v1047.toNat, 0]
def k0_off291 (k0_t8 : Fin k0_t8_loop.trips) : Fin 3 → Nat :=
  let c5_1137 : Index := 5#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1074 : Index := Scalar.indexCast v915
  let c0_1138 : Index := 0#32
  ![5, v1074.toNat, 0]
def k0_off292 (k0_t8 : Fin k0_t8_loop.trips) : Fin 3 → Nat :=
  let c5_1139 : Index := 5#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1077 : Index := Scalar.indexCast v915
  let c0_1140 : Index := 0#32
  ![5, v1077.toNat, 0]
def k0_off293 (k0_t8 : Fin k0_t8_loop.trips) : Fin 3 → Nat :=
  let c6_1141 : Index := 6#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1104 : Index := Scalar.indexCast v915
  let c0_1142 : Index := 0#32
  ![6, v1104.toNat, 0]
def k0_off294 (k0_t8 : Fin k0_t8_loop.trips) : Fin 3 → Nat :=
  let c6_1143 : Index := 6#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1107 : Index := Scalar.indexCast v915
  let c0_1144 : Index := 0#32
  ![6, v1107.toNat, 0]
def k0_off295 (k0_t8 : Fin k0_t8_loop.trips) : Fin 3 → Nat :=
  let c7_1145 : Index := 7#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1134 : Index := Scalar.indexCast v915
  let c0_1146 : Index := 0#32
  ![7, v1134.toNat, 0]
def k0_off296 (k0_t8 : Fin k0_t8_loop.trips) : Fin 3 → Nat :=
  let c7_1147 : Index := 7#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1137 : Index := Scalar.indexCast v915
  let c0_1148 : Index := 0#32
  ![7, v1137.toNat, 0]
def k0_off297 (k0_t8 : Fin k0_t8_loop.trips) : Fin 3 → Nat :=
  let c8_1149 : Index := 8#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1164 : Index := Scalar.indexCast v915
  let c0_1150 : Index := 0#32
  ![8, v1164.toNat, 0]
def k0_off298 (k0_t8 : Fin k0_t8_loop.trips) : Fin 3 → Nat :=
  let c8_1151 : Index := 8#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1167 : Index := Scalar.indexCast v915
  let c0_1152 : Index := 0#32
  ![8, v1167.toNat, 0]
def k0_off299 (k0_t8 : Fin k0_t8_loop.trips) : Fin 3 → Nat :=
  let c9_1153 : Index := 9#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1194 : Index := Scalar.indexCast v915
  let c0_1154 : Index := 0#32
  ![9, v1194.toNat, 0]
def k0_off300 (k0_t8 : Fin k0_t8_loop.trips) : Fin 3 → Nat :=
  let c9_1155 : Index := 9#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1197 : Index := Scalar.indexCast v915
  let c0_1156 : Index := 0#32
  ![9, v1197.toNat, 0]
def k0_off301 (k0_t8 : Fin k0_t8_loop.trips) : Fin 3 → Nat :=
  let c10_1157 : Index := 10#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1224 : Index := Scalar.indexCast v915
  let c0_1158 : Index := 0#32
  ![10, v1224.toNat, 0]
def k0_off302 (k0_t8 : Fin k0_t8_loop.trips) : Fin 3 → Nat :=
  let c10_1159 : Index := 10#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1227 : Index := Scalar.indexCast v915
  let c0_1160 : Index := 0#32
  ![10, v1227.toNat, 0]
def k0_off303 (k0_t8 : Fin k0_t8_loop.trips) : Fin 3 → Nat :=
  let c11_1161 : Index := 11#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1254 : Index := Scalar.indexCast v915
  let c0_1162 : Index := 0#32
  ![11, v1254.toNat, 0]
def k0_off304 (k0_t8 : Fin k0_t8_loop.trips) : Fin 3 → Nat :=
  let c11_1163 : Index := 11#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1257 : Index := Scalar.indexCast v915
  let c0_1164 : Index := 0#32
  ![11, v1257.toNat, 0]
def k0_off305 (k0_t8 : Fin k0_t8_loop.trips) : Fin 3 → Nat :=
  let c12_1165 : Index := 12#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1284 : Index := Scalar.indexCast v915
  let c0_1166 : Index := 0#32
  ![12, v1284.toNat, 0]
def k0_off306 (k0_t8 : Fin k0_t8_loop.trips) : Fin 3 → Nat :=
  let c12_1167 : Index := 12#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1287 : Index := Scalar.indexCast v915
  let c0_1168 : Index := 0#32
  ![12, v1287.toNat, 0]
def k0_off307 (k0_t8 : Fin k0_t8_loop.trips) : Fin 3 → Nat :=
  let c13_1169 : Index := 13#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1314 : Index := Scalar.indexCast v915
  let c0_1170 : Index := 0#32
  ![13, v1314.toNat, 0]
def k0_off308 (k0_t8 : Fin k0_t8_loop.trips) : Fin 3 → Nat :=
  let c13_1171 : Index := 13#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1317 : Index := Scalar.indexCast v915
  let c0_1172 : Index := 0#32
  ![13, v1317.toNat, 0]
def k0_off309 (k0_t8 : Fin k0_t8_loop.trips) : Fin 3 → Nat :=
  let c14_1173 : Index := 14#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1344 : Index := Scalar.indexCast v915
  let c0_1174 : Index := 0#32
  ![14, v1344.toNat, 0]
def k0_off310 (k0_t8 : Fin k0_t8_loop.trips) : Fin 3 → Nat :=
  let c14_1175 : Index := 14#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1347 : Index := Scalar.indexCast v915
  let c0_1176 : Index := 0#32
  ![14, v1347.toNat, 0]
def k0_off311 (k0_t8 : Fin k0_t8_loop.trips) : Fin 3 → Nat :=
  let c15_1177 : Index := 15#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1374 : Index := Scalar.indexCast v915
  let c0_1178 : Index := 0#32
  ![15, v1374.toNat, 0]
def k0_off312 (k0_t8 : Fin k0_t8_loop.trips) : Fin 3 → Nat :=
  let c15_1179 : Index := 15#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1377 : Index := Scalar.indexCast v915
  let c0_1180 : Index := 0#32
  ![15, v1377.toNat, 0]
def k0_off313 (k0_t8 : Fin k0_t8_loop.trips) : Fin 4 → Nat :=
  let c1_1181 : Index := 1#32
  let c0_1182 : Index := 0#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1404 : Index := Scalar.indexCast v915
  let c0_1183 : Index := 0#32
  ![1, 0, v1404.toNat, 0]
def k0_off314 (k0_t8 : Fin k0_t8_loop.trips) : Fin 4 → Nat :=
  let c1_1184 : Index := 1#32
  let c1_1185 : Index := 1#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1408 : Index := Scalar.indexCast v915
  let c0_1186 : Index := 0#32
  ![1, 1, v1408.toNat, 0]
def k0_off315 (k0_t8 : Fin k0_t8_loop.trips) : Fin 4 → Nat :=
  let c1_1187 : Index := 1#32
  let c2_1188 : Index := 2#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1412 : Index := Scalar.indexCast v915
  let c0_1189 : Index := 0#32
  ![1, 2, v1412.toNat, 0]
def k0_off316 (k0_t8 : Fin k0_t8_loop.trips) : Fin 4 → Nat :=
  let c1_1190 : Index := 1#32
  let c3_1191 : Index := 3#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1416 : Index := Scalar.indexCast v915
  let c0_1192 : Index := 0#32
  ![1, 3, v1416.toNat, 0]
def k0_off317 (k0_t8 : Fin k0_t8_loop.trips) : Fin 4 → Nat :=
  let c1_1193 : Index := 1#32
  let c4_1194 : Index := 4#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1420 : Index := Scalar.indexCast v915
  let c0_1195 : Index := 0#32
  ![1, 4, v1420.toNat, 0]
def k0_off318 (k0_t8 : Fin k0_t8_loop.trips) : Fin 4 → Nat :=
  let c1_1196 : Index := 1#32
  let c5_1197 : Index := 5#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1424 : Index := Scalar.indexCast v915
  let c0_1198 : Index := 0#32
  ![1, 5, v1424.toNat, 0]
def k0_off319 (k0_t8 : Fin k0_t8_loop.trips) : Fin 4 → Nat :=
  let c1_1199 : Index := 1#32
  let c6_1200 : Index := 6#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1428 : Index := Scalar.indexCast v915
  let c0_1201 : Index := 0#32
  ![1, 6, v1428.toNat, 0]
def k0_off320 (k0_t8 : Fin k0_t8_loop.trips) : Fin 4 → Nat :=
  let c1_1202 : Index := 1#32
  let c7_1203 : Index := 7#32
  let c0_i32_1014 : BitVec 32 := 0#32
  let c1_i32_1016 : BitVec 32 := 1#32
  let arg12 : BitVec 32 := Scf.iv c0_i32_1014 c1_i32_1016 k0_t8
  let c8_i32 : BitVec 32 := 8#32
  let v914 : BitVec 32 := Scalar.muli arg12 c8_i32
  let v915 : BitVec 32 := v914
  let v1432 : Index := Scalar.indexCast v915
  let c0_1204 : Index := 0#32
  ![1, 7, v1432.toNat, 0]
def k0_cond2 (i : grid0.Coords) : BitVec 1 :=
  let arg1 : BitVec 32 := BitVec.ofNat 32 (i 1).val
  let c1_i32_1107 : BitVec 32 := 1#32
  let v911 : BitVec 1 := Scalar.cmpi .eq arg1 c1_i32_1107
  let v912 : BitVec 32 := Scalar.extui v911
  let c0_i32_1108 : BitVec 32 := 0#32
  let v913 : BitVec 1 := Scalar.cmpi .ne v912 c0_i32_1108
  v913

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S264x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x7x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x7x64x64 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S1x3x32x256x256 : Shape := ⟨5, ![1, 3, 32, 256, 256]⟩
abbrev S1x3x2x256x256 : Shape := ⟨5, ![1, 3, 2, 256, 256]⟩
abbrev S1 : Shape := ⟨1, ![1]⟩
abbrev S262 : Shape := ⟨1, ![262]⟩
abbrev S8 : Shape := ⟨1, ![8]⟩
abbrev S_ : Shape := ⟨0, ![]⟩
abbrev S3x32x256x256 : Shape := ⟨4, ![3, 32, 256, 256]⟩
abbrev S262x1 : Shape := ⟨2, ![262, 1]⟩
abbrev S3x32x262x256 : Shape := ⟨4, ![3, 32, 262, 256]⟩
abbrev S3x32x262x262 : Shape := ⟨4, ![3, 32, 262, 262]⟩
abbrev S1x262 : Shape := ⟨2, ![1, 262]⟩
abbrev S8x1 : Shape := ⟨2, ![8, 1]⟩
abbrev S8x262 : Shape := ⟨2, ![8, 262]⟩
abbrev S8x262x1 : Shape := ⟨3, ![8, 262, 1]⟩
abbrev S3x32x8x262x256 : Shape := ⟨5, ![3, 32, 8, 262, 256]⟩
abbrev S3x32x8x262x8x262 : Shape := ⟨6, ![3, 32, 8, 262, 8, 262]⟩
abbrev S3x32x1x262x1x262 : Shape := ⟨6, ![3, 32, 1, 262, 1, 262]⟩
abbrev S3x8x262x8x262 : Shape := ⟨5, ![3, 8, 262, 8, 262]⟩
abbrev S3x8x263x8x263 : Shape := ⟨5, ![3, 8, 263, 8, 263]⟩
abbrev S64 : Shape := ⟨1, ![64]⟩
abbrev S64x1 : Shape := ⟨2, ![64, 1]⟩
abbrev S3x8x64x8x263 : Shape := ⟨5, ![3, 8, 64, 8, 263]⟩
abbrev S3x8x64x8x64 : Shape := ⟨5, ![3, 8, 64, 8, 64]⟩
abbrev S3x64x64x8x8 : Shape := ⟨5, ![3, 64, 64, 8, 8]⟩
abbrev S1x12288x64 : Shape := ⟨3, ![1, 12288, 64]⟩
abbrev S1x12288x7 : Shape := ⟨3, ![1, 12288, 7]⟩
abbrev S3 : Shape := ⟨1, ![3]⟩
abbrev S3x4096 : Shape := ⟨2, ![3, 4096]⟩
abbrev S12288 : Shape := ⟨1, ![12288]⟩
abbrev S64x64 : Shape := ⟨2, ![64, 64]⟩
abbrev S4096 : Shape := ⟨1, ![4096]⟩
abbrev S1x4096 : Shape := ⟨2, ![1, 4096]⟩
abbrev S1x64 : Shape := ⟨2, ![1, 64]⟩
abbrev S1x12288x1 : Shape := ⟨3, ![1, 12288, 1]⟩
abbrev S1x12288x7x1 : Shape := ⟨4, ![1, 12288, 7, 1]⟩
abbrev S1x12288x7x3 : Shape := ⟨4, ![1, 12288, 7, 3]⟩
abbrev S1x1x12288x7 : Shape := ⟨4, ![1, 1, 12288, 7]⟩
abbrev S1x1x12288x7x3 : Shape := ⟨5, ![1, 1, 12288, 7, 3]⟩

abbrev nBuf : Space → Nat
  | .hbm => 246
  | .vmem => 0
  | .smem => 0
  | _ => 0

abbrev hbmTy0_0 (i : Nat) : BufTy := match i % 128 with
  | 0 => ⟨S1x3x32x256x256, .f32⟩
  | 1 => ⟨S1x3x32x256x256, .f32⟩
  | 2 => ⟨S1x3x2x256x256, .f32⟩
  | 3 => ⟨S1, .f32⟩
  | 4 => ⟨S262, .i32⟩
  | 5 => ⟨S8, .i32⟩
  | 6 => ⟨S_, .i32⟩
  | 7 => ⟨S8, .i32⟩
  | 8 => ⟨S8, .i32⟩
  | 9 => ⟨S262, .i32⟩
  | 10 => ⟨S_, .i32⟩
  | 11 => ⟨S262, .i32⟩
  | 12 => ⟨S262, .i1⟩
  | 13 => ⟨S_, .i32⟩
  | 14 => ⟨S262, .i32⟩
  | 15 => ⟨S262, .i32⟩
  | 16 => ⟨S262, .i32⟩
  | 17 => ⟨S3x32x256x256, .f32⟩
  | 18 => ⟨S_, .i32⟩
  | 19 => ⟨S262, .i32⟩
  | 20 => ⟨S262, .i1⟩
  | 21 => ⟨S_, .i32⟩
  | 22 => ⟨S262, .i32⟩
  | 23 => ⟨S262, .i32⟩
  | 24 => ⟨S262, .i32⟩
  | 25 => ⟨S262x1, .i32⟩
  | 26 => ⟨S3x32x262x256, .f32⟩
  | 27 => ⟨S_, .i32⟩
  | 28 => ⟨S262, .i32⟩
  | 29 => ⟨S262, .i1⟩
  | 30 => ⟨S_, .i32⟩
  | 31 => ⟨S262, .i32⟩
  | 32 => ⟨S262, .i32⟩
  | 33 => ⟨S262, .i32⟩
  | 34 => ⟨S262x1, .i32⟩
  | 35 => ⟨S3x32x262x262, .f32⟩
  | 36 => ⟨S1x262, .i32⟩
  | 37 => ⟨S8x1, .i32⟩
  | 38 => ⟨S8x262, .i32⟩
  | 39 => ⟨S8x262, .i32⟩
  | 40 => ⟨S8x262, .i32⟩
  | 41 => ⟨S8x262, .i32⟩
  | 42 => ⟨S_, .i32⟩
  | 43 => ⟨S8x262, .i32⟩
  | 44 => ⟨S8x262, .i1⟩
  | 45 => ⟨S_, .i32⟩
  | 46 => ⟨S8x262, .i32⟩
  | 47 => ⟨S8x262, .i32⟩
  | 48 => ⟨S8x262, .i32⟩
  | 49 => ⟨S3x32x256x256, .f32⟩
  | 50 => ⟨S_, .i32⟩
  | 51 => ⟨S8x262, .i32⟩
  | 52 => ⟨S8x262, .i1⟩
  | 53 => ⟨S_, .i32⟩
  | 54 => ⟨S8x262, .i32⟩
  | 55 => ⟨S8x262, .i32⟩
  | 56 => ⟨S8x262, .i32⟩
  | 57 => ⟨S8x262x1, .i32⟩
  | 58 => ⟨S3x32x8x262x256, .f32⟩
  | 59 => ⟨S_, .i32⟩
  | 60 => ⟨S8x262, .i32⟩
  | 61 => ⟨S8x262, .i1⟩
  | 62 => ⟨S_, .i32⟩
  | 63 => ⟨S8x262, .i32⟩
  | 64 => ⟨S8x262, .i32⟩
  | 65 => ⟨S8x262, .i32⟩
  | 66 => ⟨S8x262x1, .i32⟩
  | 67 => ⟨S3x32x8x262x8x262, .f32⟩
  | 68 => ⟨S3x32x1x262x1x262, .f32⟩
  | 69 => ⟨S3x32x8x262x8x262, .f32⟩
  | 70 => ⟨S3x32x8x262x8x262, .f32⟩
  | 71 => ⟨S_, .f32⟩
  | 72 => ⟨S3x8x262x8x262, .f32⟩
  | 73 => ⟨S_, .i32⟩
  | 74 => ⟨S_, .f32⟩
  | 75 => ⟨S3x8x263x8x263, .f32⟩
  | 76 => ⟨S_, .f32⟩
  | 77 => ⟨S_, .f32⟩
  | 78 => ⟨S3x8x263x8x263, .f32⟩
  | 79 => ⟨S_, .f32⟩
  | 80 => ⟨S_, .f32⟩
  | 81 => ⟨S3x8x263x8x263, .f32⟩
  | 82 => ⟨S64, .i32⟩
  | 83 => ⟨S_, .i32⟩
  | 84 => ⟨S64, .i32⟩
  | 85 => ⟨S64, .i32⟩
  | 86 => ⟨S_, .i32⟩
  | 87 => ⟨S64, .i32⟩
  | 88 => ⟨S64, .i32⟩
  | 89 => ⟨S_, .i32⟩
  | 90 => ⟨S64, .i32⟩
  | 91 => ⟨S64, .i1⟩
  | 92 => ⟨S_, .i32⟩
  | 93 => ⟨S64, .i32⟩
  | 94 => ⟨S64, .i32⟩
  | 95 => ⟨S64, .i32⟩
  | 96 => ⟨S64x1, .i32⟩
  | 97 => ⟨S3x8x64x8x263, .f32⟩
  | 98 => ⟨S_, .i32⟩
  | 99 => ⟨S64, .i32⟩
  | 100 => ⟨S64, .i1⟩
  | 101 => ⟨S_, .i32⟩
  | 102 => ⟨S64, .i32⟩
  | 103 => ⟨S64, .i32⟩
  | 104 => ⟨S64, .i32⟩
  | 105 => ⟨S64x1, .i32⟩
  | 106 => ⟨S3x8x64x8x263, .f32⟩
  | 107 => ⟨S_, .i32⟩
  | 108 => ⟨S64, .i32⟩
  | 109 => ⟨S64, .i32⟩
  | 110 => ⟨S_, .i32⟩
  | 111 => ⟨S64, .i32⟩
  | 112 => ⟨S64, .i1⟩
  | 113 => ⟨S_, .i32⟩
  | 114 => ⟨S64, .i32⟩
  | 115 => ⟨S64, .i32⟩
  | 116 => ⟨S64, .i32⟩
  | 117 => ⟨S64x1, .i32⟩
  | 118 => ⟨S3x8x64x8x64, .f32⟩
  | 119 => ⟨S_, .i32⟩
  | 120 => ⟨S64, .i32⟩
  | 121 => ⟨S64, .i1⟩
  | 122 => ⟨S_, .i32⟩
  | 123 => ⟨S64, .i32⟩
  | 124 => ⟨S64, .i32⟩
  | 125 => ⟨S64, .i32⟩
  | 126 => ⟨S64x1, .i32⟩
  | 127 => ⟨S3x8x64x8x64, .f32⟩
  | _ => ⟨S1x3x32x256x256, .f32⟩

abbrev hbmTy0_1 (i : Nat) : BufTy := match i % 128 with
  | 0 => ⟨S3x8x64x8x64, .f32⟩
  | 1 => ⟨S_, .i32⟩
  | 2 => ⟨S64, .i32⟩
  | 3 => ⟨S64, .i32⟩
  | 4 => ⟨S_, .i32⟩
  | 5 => ⟨S64, .i32⟩
  | 6 => ⟨S64, .i1⟩
  | 7 => ⟨S_, .i32⟩
  | 8 => ⟨S64, .i32⟩
  | 9 => ⟨S64, .i32⟩
  | 10 => ⟨S64, .i32⟩
  | 11 => ⟨S64x1, .i32⟩
  | 12 => ⟨S3x8x64x8x64, .f32⟩
  | 13 => ⟨S3x8x64x8x64, .f32⟩
  | 14 => ⟨S_, .i32⟩
  | 15 => ⟨S64, .i32⟩
  | 16 => ⟨S64, .i1⟩
  | 17 => ⟨S_, .i32⟩
  | 18 => ⟨S64, .i32⟩
  | 19 => ⟨S64, .i32⟩
  | 20 => ⟨S64, .i32⟩
  | 21 => ⟨S64x1, .i32⟩
  | 22 => ⟨S3x8x64x8x64, .f32⟩
  | 23 => ⟨S3x8x64x8x64, .f32⟩
  | 24 => ⟨S3x64x64x8x8, .f32⟩
  | 25 => ⟨S1x12288x64, .f32⟩
  | 26 => ⟨S1x12288x7, .f32⟩
  | 27 => ⟨S1x12288x7, .i32⟩
  | 28 => ⟨S_, .i32⟩
  | 29 => ⟨S_, .i32⟩
  | 30 => ⟨S1x12288x7, .i32⟩
  | 31 => ⟨S1x12288x7, .i32⟩
  | 32 => ⟨S1x12288x7, .i32⟩
  | 33 => ⟨S_, .i32⟩
  | 34 => ⟨S1x12288x7, .i32⟩
  | 35 => ⟨S1x12288x7, .i1⟩
  | 36 => ⟨S1x12288x7, .i32⟩
  | 37 => ⟨S1x12288x7, .i32⟩
  | 38 => ⟨S_, .i32⟩
  | 39 => ⟨S1x12288x7, .i32⟩
  | 40 => ⟨S1x12288x7, .i1⟩
  | 41 => ⟨S1x12288x7, .i1⟩
  | 42 => ⟨S_, .i32⟩
  | 43 => ⟨S1x12288x7, .i32⟩
  | 44 => ⟨S1x12288x7, .i32⟩
  | 45 => ⟨S1x12288x7, .i32⟩
  | 46 => ⟨S_, .i32⟩
  | 47 => ⟨S1x12288x7, .i32⟩
  | 48 => ⟨S1x12288x7, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S1x12288x7, .i32⟩
  | 56 => ⟨S1x12288x7, .i32⟩
  | 57 => ⟨S_, .i32⟩
  | 58 => ⟨S1x12288x7, .i32⟩
  | 59 => ⟨S1x12288x7, .i1⟩
  | 60 => ⟨S_, .i32⟩
  | 61 => ⟨S1x12288x7, .i32⟩
  | 62 => ⟨S1x12288x7, .i1⟩
  | 63 => ⟨S_, .i32⟩
  | 64 => ⟨S_, .i1⟩
  | 65 => ⟨S1x12288x7, .i1⟩
  | 66 => ⟨S1x12288x7, .i1⟩
  | 67 => ⟨S1x12288x7, .i1⟩
  | 68 => ⟨S1x12288x7, .i32⟩
  | 69 => ⟨S1x12288x7, .i32⟩
  | 70 => ⟨S1x12288x7, .i32⟩
  | 71 => ⟨S_, .i32⟩
  | 72 => ⟨S1x12288x7, .i32⟩
  | 73 => ⟨S1x12288x7, .i32⟩
  | 74 => ⟨S3, .i32⟩
  | 75 => ⟨S3x4096, .i32⟩
  | 76 => ⟨S12288, .i32⟩
  | 77 => ⟨S64x64, .i32⟩
  | 78 => ⟨S4096, .i32⟩
  | 79 => ⟨S1x4096, .i32⟩
  | 80 => ⟨S3x4096, .i32⟩
  | 81 => ⟨S12288, .i32⟩
  | 82 => ⟨S1x64, .i32⟩
  | 83 => ⟨S64x64, .i32⟩
  | 84 => ⟨S4096, .i32⟩
  | 85 => ⟨S1x4096, .i32⟩
  | 86 => ⟨S3x4096, .i32⟩
  | 87 => ⟨S12288, .i32⟩
  | 88 => ⟨S1x12288x1, .i32⟩
  | 89 => ⟨S1x12288x7, .i32⟩
  | 90 => ⟨S1x12288x7, .i32⟩
  | 91 => ⟨S1x12288x7, .i32⟩
  | 92 => ⟨S_, .i32⟩
  | 93 => ⟨S1x12288x7, .i32⟩
  | 94 => ⟨S1x12288x7, .i1⟩
  | 95 => ⟨S_, .i32⟩
  | 96 => ⟨S1x12288x7, .i32⟩
  | 97 => ⟨S1x12288x7, .i32⟩
  | 98 => ⟨S1x12288x7, .i32⟩
  | 99 => ⟨S1x12288x1, .i32⟩
  | 100 => ⟨S1x12288x7, .i32⟩
  | 101 => ⟨S1x12288x7, .i32⟩
  | 102 => ⟨S1x12288x7, .i32⟩
  | 103 => ⟨S_, .i32⟩
  | 104 => ⟨S1x12288x7, .i32⟩
  | 105 => ⟨S1x12288x7, .i1⟩
  | 106 => ⟨S_, .i32⟩
  | 107 => ⟨S1x12288x7, .i32⟩
  | 108 => ⟨S1x12288x7, .i32⟩
  | 109 => ⟨S1x12288x7, .i32⟩
  | 110 => ⟨S1x12288x1, .i32⟩
  | 111 => ⟨S1x12288x7, .i32⟩
  | 112 => ⟨S1x12288x7x1, .i32⟩
  | 113 => ⟨S1x12288x7x1, .i32⟩
  | 114 => ⟨S1x12288x7x1, .i32⟩
  | 115 => ⟨S1x12288x7x3, .i32⟩
  | 116 => ⟨S1x1x12288x7, .f32⟩
  | 117 => ⟨S1x1x12288x7x3, .i32⟩
  | _ => ⟨S1x3x32x256x256, .f32⟩

abbrev hbmTy (i : Nat) : BufTy := match i / 128 with
  | 0 => hbmTy0_0 i
  | 1 => hbmTy0_1 i
  | _ => ⟨S1x3x32x256x256, .f32⟩

abbrev bufTy : (tb : Table) → Fin (tcTables nBuf tb) → BufTy
  | .hbm, ⟨i, _⟩ => hbmTy i
  | _, _ => ⟨S1x3x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_8 : Ref sig .tc := ⟨.hbm, 50, rfl⟩
abbrev main_v37 : Ref sig .tc := ⟨.hbm, 51, rfl⟩
abbrev main_v38 : Ref sig .tc := ⟨.hbm, 52, rfl⟩
abbrev main_c_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_10 : Ref sig .tc := ⟨.hbm, 59, rfl⟩
abbrev main_v44 : Ref sig .tc := ⟨.hbm, 60, rfl⟩
abbrev main_v45 : Ref sig .tc := ⟨.hbm, 61, rfl⟩
abbrev main_c_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst : Ref sig .tc := ⟨.hbm, 71, rfl⟩
abbrev main_v54 : Ref sig .tc := ⟨.hbm, 72, rfl⟩
abbrev main_c_12 : Ref sig .tc := ⟨.hbm, 73, rfl⟩
abbrev main_call2_v0 : Ref sig .tc := ⟨.hbm, 74, rfl⟩
abbrev main_v55 : Ref sig .tc := ⟨.hbm, 75, rfl⟩
abbrev main_call3_call0_cst : Ref sig .tc := ⟨.hbm, 76, rfl⟩
abbrev main_call3_call0_v0 : Ref sig .tc := ⟨.hbm, 77, rfl⟩
abbrev main_v56 : Ref sig .tc := ⟨.hbm, 78, rfl⟩
abbrev main_call4_call0_cst : Ref sig .tc := ⟨.hbm, 79, rfl⟩
abbrev main_call4_call0_v0 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_v64 : Ref sig .tc := ⟨.hbm, 91, rfl⟩
abbrev main_c_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_17 : Ref sig .tc := ⟨.hbm, 98, rfl⟩
abbrev main_v70 : Ref sig .tc := ⟨.hbm, 99, rfl⟩
abbrev main_v71 : Ref sig .tc := ⟨.hbm, 100, rfl⟩
abbrev main_c_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_19 : Ref sig .tc := ⟨.hbm, 107, rfl⟩
abbrev main_v77 : Ref sig .tc := ⟨.hbm, 108, rfl⟩
abbrev main_v78 : Ref sig .tc := ⟨.hbm, 109, rfl⟩
abbrev main_c_20 : Ref sig .tc := ⟨.hbm, 110, rfl⟩
abbrev main_v79 : Ref sig .tc := ⟨.hbm, 111, rfl⟩
abbrev main_v80 : Ref sig .tc := ⟨.hbm, 112, rfl⟩
abbrev main_c_21 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_22 : Ref sig .tc := ⟨.hbm, 119, rfl⟩
abbrev main_v86 : Ref sig .tc := ⟨.hbm, 120, rfl⟩
abbrev main_v87 : Ref sig .tc := ⟨.hbm, 121, rfl⟩
abbrev main_c_23 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_24 : Ref sig .tc := ⟨.hbm, 129, rfl⟩
abbrev main_v94 : Ref sig .tc := ⟨.hbm, 130, rfl⟩
abbrev main_v95 : Ref sig .tc := ⟨.hbm, 131, rfl⟩
abbrev main_c_25 : Ref sig .tc := ⟨.hbm, 132, rfl⟩
abbrev main_v96 : Ref sig .tc := ⟨.hbm, 133, rfl⟩
abbrev main_v97 : Ref sig .tc := ⟨.hbm, 134, rfl⟩
abbrev main_c_26 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_27 : Ref sig .tc := ⟨.hbm, 142, rfl⟩
abbrev main_v104 : Ref sig .tc := ⟨.hbm, 143, rfl⟩
abbrev main_v105 : Ref sig .tc := ⟨.hbm, 144, rfl⟩
abbrev main_c_28 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_values : Ref sig .tc := ⟨.hbm, 154, rfl⟩
abbrev main_indices : Ref sig .tc := ⟨.hbm, 155, rfl⟩
abbrev main_c_29 : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_v6 : Ref sig .tc := ⟨.hbm, 163, rfl⟩
abbrev main_call5_v7 : Ref sig .tc := ⟨.hbm, 164, rfl⟩
abbrev main_call5_v8 : Ref sig .tc := ⟨.hbm, 165, rfl⟩
abbrev main_call5_c : Ref sig .tc := ⟨.hbm, 166, rfl⟩
abbrev main_call5_v9 : Ref sig .tc := ⟨.hbm, 167, rfl⟩
abbrev main_call5_v10 : Ref sig .tc := ⟨.hbm, 168, rfl⟩
abbrev main_call5_v11 : Ref sig .tc := ⟨.hbm, 169, rfl⟩
abbrev main_call5_c_0 : Ref sig .tc := ⟨.hbm, 170, rfl⟩
abbrev main_call5_v12 : Ref sig .tc := ⟨.hbm, 171, rfl⟩
abbrev main_call5_v13 : Ref sig .tc := ⟨.hbm, 172, rfl⟩
abbrev main_v114 : Ref sig .tc := ⟨.hbm, 173, rfl⟩
abbrev main_c_30 : Ref sig .tc := ⟨.hbm, 174, rfl⟩
abbrev main_v115 : Ref sig .tc := ⟨.hbm, 175, rfl⟩
abbrev main_v116 : Ref sig .tc := ⟨.hbm, 176, rfl⟩
abbrev main_c_31 : Ref sig .tc := ⟨.hbm, 177, rfl⟩
abbrev main_call6_v0 : Ref sig .tc := ⟨.hbm, 178, rfl⟩
abbrev main_call6_c : Ref sig .tc := ⟨.hbm, 179, rfl⟩
abbrev main_call6_v1 : Ref sig .tc := ⟨.hbm, 180, rfl⟩
abbrev main_call6_c_0 : Ref sig .tc := ⟨.hbm, 181, rfl⟩
abbrev main_call6_v2 : Ref sig .tc := ⟨.hbm, 182, rfl⟩
abbrev main_call6_v3 : Ref sig .tc := ⟨.hbm, 183, rfl⟩
abbrev main_call6_v4 : Ref sig .tc := ⟨.hbm, 184, rfl⟩
abbrev main_call6_c_1 : Ref sig .tc := ⟨.hbm, 185, rfl⟩
abbrev main_call6_v5 : Ref sig .tc := ⟨.hbm, 186, rfl⟩
abbrev main_call6_v6 : Ref sig .tc := ⟨.hbm, 187, rfl⟩
abbrev main_call6_c_2 : Ref sig .tc := ⟨.hbm, 188, rfl⟩
abbrev main_call6_v7 : Ref sig .tc := ⟨.hbm, 189, rfl⟩
abbrev main_call6_v8 : Ref sig .tc := ⟨.hbm, 190, rfl⟩
abbrev main_call6_c_3 : Ref sig .tc := ⟨.hbm, 191, rfl⟩
abbrev main_call6_v9 : Ref sig .tc := ⟨.hbm, 192, rfl⟩
abbrev main_call6_v10 : Ref sig .tc := ⟨.hbm, 193, rfl⟩
abbrev main_call6_v11 : Ref sig .tc := ⟨.hbm, 194, rfl⟩
abbrev main_call6_v12 : Ref sig .tc := ⟨.hbm, 195, rfl⟩
abbrev main_call6_v13 : Ref sig .tc := ⟨.hbm, 196, rfl⟩
abbrev main_call6_v14 : Ref sig .tc := ⟨.hbm, 197, rfl⟩
abbrev main_v117 : Ref sig .tc := ⟨.hbm, 198, rfl⟩
abbrev main_c_32 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_c_33 : Ref sig .tc := ⟨.hbm, 220, rfl⟩
abbrev main_v138 : Ref sig .tc := ⟨.hbm, 221, rfl⟩
abbrev main_v139 : Ref sig .tc := ⟨.hbm, 222, rfl⟩
abbrev main_c_34 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_c_35 : Ref sig .tc := ⟨.hbm, 231, rfl⟩
abbrev main_v147 : Ref sig .tc := ⟨.hbm, 232, rfl⟩
abbrev main_v148 : Ref sig .tc := ⟨.hbm, 233, rfl⟩
abbrev main_c_36 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩

abbrev nD : Nat := 1
abbrev τ : Topo := Topo.v7x

variable {F : FTy → Type} [FloatOps F]
-- ==== Proof.KProg.lean ====
module

public import proofs.«01_k».proof.Proof.Gen.KernelIdeal
public import proofs.«01_k».proof.Proof.Gen.KernelIdeal.Skeleton

@[expose] public section

set_option maxRecDepth 16384

noncomputable section

/-! The kernel's body, written again as short loops over its regular structure: the padded copies of both frames,
the eight horizontal shifts (a shifted copy, the strip loop, eight distance rows), and the seven rounds of the
selection. The printed body is this program. -/

namespace Cert.Proof

open Cert.KernelIdeal Cert.KernelIdeal.Gen
open Idealize.ShloMosaic
open Idealize.ShloMosaic.TcCoe
open Idealize.SL Idealize.SL.Sem

variable {F : FTy → Type} [FloatOps F]

/-- The programs of the kernel's body. -/
abbrev KP (F : FTy → Type) [FloatOps F] (α : Type) := Prog (TpuEff nD τ sig (Elt F) Λ₀ .tc) α

/-- Load a unit-stride block. -/
def ldB {S : Shape} {e : EltTy} (M : Memref sig .tc .vmem S e) (off size : Fin S.rank → ℕ)
    (inb : ∀ a, off a + size a ≤ S.size a) (h : 0 < (⟨S.rank, size⟩ : Shape).numel) :
    KP F ((⟨S.rank, size⟩ : Shape).Idx → Elt F e) :=
  .op (.load M (Rect.unit (s := S) off size inb).toLoadRect (View.loadsAt_vmem h)) .ret

/-- Store a unit-stride block whole. -/
def stB {S : Shape} {e : EltTy} (M : Memref sig .tc .vmem S e) (off size : Fin S.rank → ℕ)
    (inb : ∀ a, off a + size a ≤ S.size a) (h : 0 < (⟨S.rank, size⟩ : Shape).numel) (he : e.bits = 32)
    (w : (⟨S.rank, size⟩ : Shape).Idx → Elt F e) : KP F PUnit :=
  .op (.store M (Rect.unit (s := S) off size inb) w Finset.univ (View.stores_vmem_bits_univ h he) (.inl rfl)) .ret

/-- Run `f i, f (i+1), …`, `n` programs in all. -/
def seqFrom {N : ℕ} (f : Fin N → KP F PUnit) : (n i : ℕ) → i + n ≤ N → KP F PUnit
  | 0, _, _ => .ret ⟨⟩
  | n + 1, i, h => f ⟨i, by omega⟩ >>= fun _ => seqFrom f n (i + 1) (by omega)

/-- Carry a value through `f i, f (i+1), …`, `n` programs in all. -/
def foldFrom {N : ℕ} {σ : Type} (f : Fin N → σ → KP F σ) : (n i : ℕ) → i + n ≤ N → σ → KP F σ
  | 0, _, _, a => .ret a
  | n + 1, i, h, a => f ⟨i, by omega⟩ a >>= fun b => foldFrom f n (i + 1) (by omega) b

/-- Two sequenced programs agree when their first halves do and their continuations do at every value. -/
theorem bindCongr {α β : Type} {x y : KP F α} {f g : α → KP F β} (h : x = y) (k : ∀ a, f a = g a) :
    x >>= f = y >>= g := by
  subst h; exact congrArg _ (funext k)

section pads
variable (M2 M3 : Memref sig .tc .vmem S1x1x16x256x256 .f32)
  (M8 : Memref sig .tc .vmem S16x264x264 .f32) (M9 : Memref sig .tc .vmem S16x272x272 .f32)

/-- Row `j` of the first frame's lower border: row `254 - j` of the frame. -/
def rowA (j : Fin 8) : KP F PUnit := do
  let v ← ldB M2 ![0, 0, 0, 254 - j, 0] S1x1x16x1x256.size
    (by intro a; fin_cases a <;> simp [S1x1x16x1x256, S1x1x16x256x256] <;> omega) h_S1x1x16x1x256
  let _ ← ldB M8 ![0, 256 + j, 0] S16x1x256.size (by intro a; fin_cases a <;> simp [S16x1x256, S16x264x264] <;> omega) h_S16x1x256
  stB M8 ![0, 256 + j, 0] S16x1x256.size (by intro a; fin_cases a <;> simp [S16x1x256, S16x264x264] <;> omega) h_S16x1x256 rfl
    (shapeCast S16x1x256 (shapeCast S16x256 v shapeCasts_S1x1x16x1x256_S16x256) shapeCasts_S16x256_S16x1x256)

/-- Column `j` of the first frame's right border: column `254 - j` of the padded array. -/
def colA (j : Fin 8) : KP F PUnit := do
  let v ← ldB M8 ![0, 0, 254 - j] S16x264x1.size (by intro a; fin_cases a <;> simp [S16x264x1, S16x264x264] <;> omega) h_S16x264x1
  let _ ← ldB M8 ![0, 0, 256 + j] S16x264x1.size (by intro a; fin_cases a <;> simp [S16x264x1, S16x264x264] <;> omega) h_S16x264x1
  stB M8 ![0, 0, 256 + j] S16x264x1.size (by intro a; fin_cases a <;> simp [S16x264x1, S16x264x264] <;> omega) h_S16x264x1 rfl
    (shapeCast S16x264x1 v shapeCasts_S16x264x1_S16x264x1)

/-- The first frame, padded by reflection below and to the right. -/
def padA : KP F PUnit := do
  let v ← ldB M2 ![0, 0, 0, 0, 0] S1x1x16x256x256.size inb_S1x1x16x256x256_S1x1x16x256x256_0_0_0_0_0 h_S1x1x16x256x256
  let _ ← ldB M8 ![0, 0, 0] S16x256x256.size inb_S16x264x264_S16x256x256_0_0_0 h_S16x256x256
  stB M8 ![0, 0, 0] S16x256x256.size inb_S16x264x264_S16x256x256_0_0_0 h_S16x256x256 rfl
    (shapeCast S16x256x256 (shapeCast S16x256x256 v shapeCasts_S1x1x16x256x256_S16x256x256) shapeCasts_S16x256x256_S16x256x256)
  seqFrom (rowA M2 M8) 8 0 (by omega)
  seqFrom (colA M8) 8 0 (by omega)

/-- A border row of the second frame: row `src` of the frame, at row `dst`. -/
def rowB (src dst : ℕ) (hs : src < 256) (hd : dst < 272) : KP F PUnit := do
  let v ← ldB M3 ![0, 0, 0, src, 0] S1x1x16x1x256.size
    (by intro a; fin_cases a <;> simp [S1x1x16x1x256, S1x1x16x256x256] <;> omega) h_S1x1x16x1x256
  let _ ← ldB M9 ![0, dst, 4] S16x1x256.size (by intro a; fin_cases a <;> simp [S16x1x256, S16x272x272] <;> omega) h_S16x1x256
  stB M9 ![0, dst, 4] S16x1x256.size (by intro a; fin_cases a <;> simp [S16x1x256, S16x272x272] <;> omega) h_S16x1x256 rfl
    (shapeCast S16x1x256 (shapeCast S16x256 v shapeCasts_S1x1x16x1x256_S16x256) shapeCasts_S16x256_S16x1x256)

/-- A border column of the second frame: column `src` of the padded array, at column `dst`. -/
def colB (src dst : ℕ) (hs : src < 272) (hd : dst < 272) : KP F PUnit := do
  let v ← ldB M9 ![0, 0, src] S16x272x1.size (by intro a; fin_cases a <;> simp [S16x272x1, S16x272x272] <;> omega) h_S16x272x1
  let _ ← ldB M9 ![0, 0, dst] S16x272x1.size (by intro a; fin_cases a <;> simp [S16x272x1, S16x272x272] <;> omega) h_S16x272x1
  stB M9 ![0, 0, dst] S16x272x1.size (by intro a; fin_cases a <;> simp [S16x272x1, S16x272x272] <;> omega) h_S16x272x1 rfl
    (shapeCast S16x272x1 v shapeCasts_S16x272x1_S16x272x1)

/-- The second frame, padded by reflection on all four sides. -/
def padB : KP F PUnit := do
  let v ← ldB M3 ![0, 0, 0, 0, 0] S1x1x16x256x256.size inb_S1x1x16x256x256_S1x1x16x256x256_0_0_0_0_0 h_S1x1x16x256x256
  let _ ← ldB M9 ![0, 4, 4] S16x256x256.size inb_S16x272x272_S16x256x256_0_4_4 h_S16x256x256
  stB M9 ![0, 4, 4] S16x256x256.size inb_S16x272x272_S16x256x256_0_4_4 h_S16x256x256 rfl
    (shapeCast S16x256x256 (shapeCast S16x256x256 v shapeCasts_S1x1x16x256x256_S16x256x256) shapeCasts_S16x256x256_S16x256x256)
  seqFrom (N := 4) (fun j => rowB M3 M9 (j + 1) (3 - j) (by omega) (by omega)) 4 0 (by omega)
  seqFrom (N := 12) (fun j => rowB M3 M9 (254 - j) (260 + j) (by omega) (by omega)) 12 0 (by omega)
  seqFrom (N := 4) (fun j => colB M9 (5 + j) (3 - j) (by omega) (by omega)) 4 0 (by omega)
  seqFrom (N := 12) (fun j => colB M9 (258 - j) (260 + j) (by omega) (by omega)) 12 0 (by omega)

end pads

section shifts
variable (M7 : Memref sig .tc .vmem S64x64x64 .f32) (M8 : Memref sig .tc .vmem S16x264x264 .f32)
  (M9 : Memref sig .tc .vmem S16x272x272 .f32) (M10 : Memref sig .tc .vmem S16x272x264 .f32)
  (M11 : Memref sig .tc .vmem S2x8x264x264 .f32)

/-- The first row of strip `k`, as the loop computes it. -/
def rs (k : Fin k0_t1_loop.trips) : ℕ := (Scalar.indexCast (Scalar.muli (Scf.iv 0#32 1#32 k.val) 8#32) : Index).toNat

theorem rs_eq (k : Fin k0_t1_loop.trips) : rs k = 8 * k.val := by
  have h : k.val < 33 := Nat.lt_of_lt_of_le k.isLt k0_t1_abs.2.1
  have : ∀ j : Fin 33, (Scalar.indexCast (Scalar.muli (Scf.iv 0#32 1#32 j.val) 8#32) : Index).toNat = 8 * j.val := by decide
  exact this ⟨k.val, h⟩

theorem trips_lt (k : Fin k0_t1_loop.trips) : k.val < 33 := Nat.lt_of_lt_of_le k.isLt k0_t1_abs.2.1

/-- Rows `d … d+7` of a block of sixteen rows. -/
def rows8 (d : Fin 8) (w : FVec F S16x264 .f32) : FVec F S8x264 .f32 :=
  extractStridedSlice S8x264 ![(d : ℕ), 0] w (show S16x264.Slices ![(d : ℕ), 0] S8x264 from
    ⟨rfl, by intro a; fin_cases a <;> simp [S16x264, S8x264] <;> omega⟩)

/-- One channel's contribution to the eight running sums of a strip. -/
def chStep (k : Fin k0_t1_loop.trips) (ch : Fin 16) (acc : Fin 8 → FVec F S8x264 .f32) : KP F (Fin 8 → FVec F S8x264 .f32) := do
  let a ← ldB M8 ![ch, rs k, 0] S1x8x264.size
    (by have := trips_lt k; intro a; fin_cases a <;> simp [S1x8x264, S16x264x264, rs_eq] <;> omega) h_S1x8x264
  let b ← ldB M10 ![ch, rs k, 0] S1x16x264.size
    (by have := trips_lt k; intro a; fin_cases a <;> simp [S1x16x264, S16x272x264, rs_eq] <;> omega) h_S1x16x264
  .ret fun d => addf (acc d) (mulf (shapeCast S8x264 a shapeCasts_S1x8x264_S8x264) (rows8 d (shapeCast S16x264 b shapeCasts_S1x16x264_S16x264)))

/-- Store the running sum of vertical shift `d`. -/
def stripOut (g : Fin 2) (k : Fin k0_t1_loop.trips) (acc : Fin 8 → FVec F S8x264 .f32) (d : Fin 8) : KP F PUnit := do
  let _ ← ldB M11 ![g, d, rs k, 0] S1x1x8x264.size
    (by have := trips_lt k; intro a; fin_cases a <;> simp [S1x1x8x264, S2x8x264x264, rs_eq] <;> omega) h_S1x1x8x264
  stB M11 ![g, d, rs k, 0] S1x1x8x264.size
    (by have := trips_lt k; intro a; fin_cases a <;> simp [S1x1x8x264, S2x8x264x264, rs_eq] <;> omega) h_S1x1x8x264 rfl
    (shapeCast S1x1x8x264 (acc d) shapeCasts_S8x264_S1x1x8x264)

/-- One strip of eight rows: sixteen channels summed for eight vertical shifts, and the eight sums stored. -/
def strip (g : Fin 2) (k : Fin k0_t1_loop.trips) (_ : Unit) : KP F Unit := do
  let acc ← foldFrom (chStep M8 M10 k) 16 0 (by omega) (fun _ => broadcast S8x264 (Scalar.ofBits .f32 0x00000000#32))
  seqFrom (stripOut M11 g k acc) 8 0 (by omega)

/-- The row of the distance table an offset adds: both sides multiplied by the band matrix. -/
def boxed (s : FVec F S264x64 .f32) (g : FVec F S264x264 .f32) : FVec F S64x64 .f32 :=
  matmul dot_S64x264_S264x64_S64x64_1_0_0_1_n_n (some .fp32)
    (matmul dot_S264x64_S264x264_S64x264_0_0_1_1_n_n (some .fp32) s g (constant S64x264 .f32 0x00000000#32)) s
    (constant S64x64 .f32 0x00000000#32)

/-- Add the boxed sums of vertical shift `d` to their row of the distance table. -/
def distRow (s : FVec F S264x64 .f32) (dw : Fin 8) (g : Fin 2) (d : Fin 8) : KP F PUnit := do
  let v ← ldB M11 ![g, d, 0, 0] S1x1x264x264.size
    (by intro a; fin_cases a <;> simp [S1x1x264x264, S2x8x264x264] <;> omega) h_S1x1x264x264
  let w ← ldB M7 ![d * 8 + dw, 0, 0] S1x64x64.size (by intro a; fin_cases a <;> simp [S1x64x64, S64x64x64] <;> omega) h_S1x64x64
  let _ ← ldB M7 ![d * 8 + dw, 0, 0] S1x64x64.size (by intro a; fin_cases a <;> simp [S1x64x64, S64x64x64] <;> omega) h_S1x64x64
  stB M7 ![d * 8 + dw, 0, 0] S1x64x64.size (by intro a; fin_cases a <;> simp [S1x64x64, S64x64x64] <;> omega) h_S1x64x64 rfl
    (shapeCast S1x64x64 (addf (shapeCast S64x64 w shapeCasts_S1x64x64_S64x64)
      (boxed s (shapeCast S264x264 v shapeCasts_S1x1x264x264_S264x264))) shapeCasts_S64x64_S1x64x64)

/-- The buffer a shift uses: its parity. -/
def buf (dw : Fin 8) : Fin 2 := ⟨dw.val % 2, Nat.mod_lt _ (by decide)⟩

/-- One horizontal shift: the shifted copy, the strips, the eight rows of the distance table. -/
def shift (s : FVec F S264x64 .f32) (dw : Fin 8) : KP F PUnit := do
  let v ← ldB M9 ![0, 0, dw] S16x272x264.size (by intro a; fin_cases a <;> simp [S16x272x264, S16x272x272] <;> omega) h_S16x272x264
  let _ ← ldB M10 ![0, 0, 0] S16x272x264.size inb_S16x272x264_S16x272x264_0_0_0 h_S16x272x264
  stB M10 ![0, 0, 0] S16x272x264.size inb_S16x272x264_S16x272x264_0_0_0 h_S16x272x264 rfl
    (shapeCast S16x272x264 v shapeCasts_S16x272x264_S16x272x264)
  let _ ← Scf.Loop.for k0_t1_loop k0_t1_ok () (strip M8 M10 M11 (buf dw))
  seqFrom (distRow M7 M11 s dw (buf dw)) 8 0 (by omega)

end shifts

section select
variable (M5 : Memref sig .tc .vmem S1x7x64x64 .f32) (M6 : Memref sig .tc .vmem S1x3x7x64x64 .i32)
  (M7 : Memref sig .tc .vmem S64x64x64 .f32)

/-- The largest distance of each query over the 64 offsets. -/
def kmax (D : FVec F S64x64x64 .f32) : FVec F S64x64 .f32 :=
  multiReduction .maximumf [0] S64x64 D 0xFF800000#32 reduces_S64x64x64_S64x64 (.inl rfl) rfl

/-- The offsets' numbers, along the first axis. -/
def offs : IVec S64x64x64 32 := iota .tc S64x64x64 32 [0] iota_S64x64x64_d0_w32

/-- The first offset at which each query takes its largest distance. -/
def ksel (D : FVec F S64x64x64 .f32) : IVec S64x64 32 :=
  multiReductionI .minsi [0] S64x64
    (select (cmpf .oeq D (broadcastTo S64x64x64 (shapeCast S1x64x64 (kmax D) shapeCasts_S64x64_S1x64x64) broadcasts_S1x64x64_S64x64x64))
      offs (broadcast S64x64x64 64#32)) 2147483647#32 reduces_S64x64x64_S64x64 rfl

/-- The distances with each query's chosen offset set to minus infinity. -/
def kmask (D : FVec F S64x64x64 .f32) (sel : IVec S64x64 32) : FVec F S64x64x64 .f32 :=
  select (cmpi .eq offs (broadcastTo S64x64x64 (shapeCast S1x64x64 sel shapeCasts_S64x64_S1x64x64) broadcasts_S1x64x64_S64x64x64))
    (broadcast S64x64x64 (Scalar.ofBits .f32 0xFF800000#32)) D

/-- The floor quotient by eight, as the kernel computes it on words. -/
def div8 (s : IVec S64x64 32) : IVec S64x64 32 :=
  select (andi (cmpi .ne (subi (extui 32 (cmpi .sgt s (broadcast S64x64 0#32)) natLt_1_32) (extui 32 (cmpi .slt s (broadcast S64x64 0#32)) natLt_1_32))
      (broadcast S64x64 (Scalar.subi (Scalar.extui (Scalar.cmpi .sgt (8#32 : BitVec 32) 0#32)) (Scalar.extui (Scalar.cmpi .slt (8#32 : BitVec 32) 0#32)))))
      (cmpi .ne (remsi s (broadcast S64x64 8#32)) (broadcast S64x64 0#32)))
    (subi (divsi s (broadcast S64x64 8#32)) (broadcast S64x64 1#32)) (divsi s (broadcast S64x64 8#32))

/-- The divisor of the remainder: eight, guarded against zero. -/
def eight : BitVec 32 := Scalar.select (Scalar.cmpi .eq (8#32 : BitVec 32) 0#32) 1#32 8#32

/-- The floor remainder by eight, as the kernel computes it on words. -/
def mod8 (s : IVec S64x64 32) : IVec S64x64 32 :=
  select (andi (xori (cmpi .slt (remsi s (broadcast S64x64 eight)) (broadcast S64x64 0#32))
      (broadcastTo S64x64 (broadcast S64x64 (Scalar.cmpi .slt eight 0#32)) broadcasts_S64x64_S64x64))
      (cmpi .ne (remsi s (broadcast S64x64 eight)) (broadcast S64x64 0#32)))
    (addi (remsi s (broadcast S64x64 eight)) (broadcast S64x64 eight)) (remsi s (broadcast S64x64 eight))

/-- The vertical coordinate of the chosen patch. -/
def kh (s : IVec S64x64 32) : IVec S64x64 32 :=
  absi (addi (muli (broadcast S64x64 4#32) (iota .tc S64x64 32 [0] iota_S64x64_d0_w32)) (subi (div8 s) (broadcast S64x64 4#32)))

/-- The horizontal coordinate of the chosen patch. -/
def kw (s : IVec S64x64 32) : IVec S64x64 32 :=
  absi (addi (muli (broadcast S64x64 4#32) (iota .tc S64x64 32 [1] iota_S64x64_d1_w32)) (subi (mod8 s) (broadcast S64x64 4#32)))

/-- The frame number, at every query. -/
def kt (t : BitVec 32) : IVec S64x64 32 := addi (broadcast S64x64 0#32) (broadcast S64x64 t)

/-- Store one of the three coordinates of round `r`. -/
def stI (a : Fin 3) (r : Fin 7) (w : IVec S64x64 32) : KP F PUnit := do
  let _ ← ldB M6 ![0, a, r, 0, 0] S1x1x1x64x64.size (by intro a; fin_cases a <;> simp [S1x1x1x64x64, S1x3x7x64x64] <;> omega) h_S1x1x1x64x64
  stB M6 ![0, a, r, 0, 0] S1x1x1x64x64.size (by intro a; fin_cases a <;> simp [S1x1x1x64x64, S1x3x7x64x64] <;> omega) h_S1x1x1x64x64 rfl
    (shapeCast S1x1x1x64x64 w shapeCasts_S64x64_S1x1x1x64x64)

/-- One round of the selection: the largest distance, its coordinates, and its offset struck out. -/
def round (t : BitVec 32) (r : Fin 7) : KP F PUnit := do
  let D ← ldB M7 ![0, 0, 0] S64x64x64.size inb_S64x64x64_S64x64x64_0_0_0 h_S64x64x64
  let _ ← ldB M5 ![0, r, 0, 0] S1x1x64x64.size (by intro a; fin_cases a <;> simp [S1x1x64x64, S1x7x64x64] <;> omega) h_S1x1x64x64
  stB M5 ![0, r, 0, 0] S1x1x64x64.size (by intro a; fin_cases a <;> simp [S1x1x64x64, S1x7x64x64] <;> omega) h_S1x1x64x64 rfl
    (shapeCast S1x1x64x64 (kmax D) shapeCasts_S64x64_S1x1x64x64)
  stI M6 0 r (kt t)
  stI M6 1 r (kh (ksel D))
  stI M6 2 r (kw (ksel D))
  let _ ← ldB M7 ![0, 0, 0] S64x64x64.size inb_S64x64x64_S64x64x64_0_0_0 h_S64x64x64
  stB M7 ![0, 0, 0] S64x64x64.size inb_S64x64x64_S64x64x64_0_0_0 h_S64x64x64 rfl
    (shapeCast S64x64x64 (kmask D (ksel D)) shapeCasts_S64x64x64_S64x64x64)

end select

/-- The kernel's body as loops. -/
def bodyL (i : grid0.Coords) (M2 M3 : Memref sig .tc .vmem S1x1x16x256x256 .f32) (M4 : Memref sig .tc .vmem S264x64 .f32)
    (M5 : Memref sig .tc .vmem S1x7x64x64 .f32) (M6 : Memref sig .tc .vmem S1x3x7x64x64 .i32)
    (M7 : Memref sig .tc .vmem S64x64x64 .f32) (M8 : Memref sig .tc .vmem S16x264x264 .f32) (M9 : Memref sig .tc .vmem S16x272x272 .f32)
    (M10 : Memref sig .tc .vmem S16x272x264 .f32) (M11 : Memref sig .tc .vmem S2x8x264x264 .f32) : KP F PUnit := do
  if Scalar.cmpi .ne (Scalar.extui (Scalar.cmpi .eq (BitVec.ofNat 32 (i 1).val) 0#32) : BitVec 32) 0#32 = 1#1 then do
    let _ ← ldB M7 ![0, 0, 0] S64x64x64.size inb_S64x64x64_S64x64x64_0_0_0 h_S64x64x64
    stB M7 ![0, 0, 0] S64x64x64.size inb_S64x64x64_S64x64x64_0_0_0 h_S64x64x64 rfl
      (shapeCast S64x64x64 (broadcast S64x64x64 (Scalar.ofBits .f32 0x00000000#32)) shapeCasts_S64x64x64_S64x64x64)
    else pure ⟨⟩
  let v ← ldB M4 ![0, 0] S264x64.size inb_S264x64_S264x64_0_0 h_S264x64
  padA M2 M8
  padB M3 M9
  seqFrom (shift M7 M8 M9 M10 M11 (shapeCast S264x64 v shapeCasts_S264x64_S264x64)) 8 0 (by omega)
  if k0_cond2 i = 1#1 then do seqFrom (round M5 M6 M7 (BitVec.ofNat 32 (i 0).val)) 7 0 (by omega)
    else pure ⟨⟩

end Cert.Proof

end
-- ==== Proof.KRules.lean ====
module

public import proofs.«01_k».proof.Proof.KProg
public import Idealize.ShloMosaic.Lib.Tactic
public import Idealize.ShloMosaic.Lib.Pipeline.Value
public import Idealize.ShloMosaic.Lib.Memref

@[expose] public section

set_option maxRecDepth 16384

noncomputable section

/-! Rules for the loads, stores and loops of the loop program, over memrefs known to agree with a stated function on a
stated region. -/

namespace Cert.Proof

open Cert.KernelIdeal Cert.KernelIdeal.Gen
open Idealize.ShloMosaic
open Idealize.ShloMosaic.TcCoe Idealize.ShloMosaic.Tactic
open Idealize.SL Idealize.SL.RA Idealize.SL.BI
open Idealize.ShloMosaic.Pipeline
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weakest precondition of a program of the body on core `c`. -/
abbrev WP (c : Dev nD) (E : Set ℕ) {α : Type} (p : KP F α) (Q : α → sProp 𝕄) : sProp 𝕄 :=
  wp frame (wpE (defs₀ (F := F)) Variants.none (c : Thread nD τ) none) E p Q

/-- Core `c` owns the memref, whose elements agree with `G` wherever `P` holds. -/
def ag (c : Dev nD) {S : Shape} {e : EltTy} (M : Memref sig .tc .vmem S e) (P : S.Idx → Prop) (G : S.Idx → Elt F e) : sProp 𝕄 :=
  iprop(∃ f : Buf (Elt F) (M.view.loc (c : Thread nD τ)), ⌜∀ y, P y → M.view.read (Elt F) f y = G y⌝
    ∗ (M.view.loc (c : Thread nD τ) ↦[M.view.set]{fullShare} f))

/-- The element of a block under an index of the block. -/
def at_ {S : Shape} (off size : Fin S.rank → ℕ) (inb : ∀ a, off a + size a ≤ S.size a) (j : (⟨S.rank, size⟩ : Shape).Idx) : S.Idx :=
  (Rect.unit (s := S) off size inb).idx j

theorem at_val {S : Shape} (off size : Fin S.rank → ℕ) (inb : ∀ a, off a + size a ≤ S.size a) (j : (⟨S.rank, size⟩ : Shape).Idx)
    (a : Fin S.rank) : (at_ off size inb j a : ℕ) = off a + (j a : ℕ) := by
  show off a + 1 * (j a : ℕ) = _
  omega

/-- What is known of a memref may be restated where both statements agree. -/
theorem ag_mono (c : Dev nD) {S : Shape} {e : EltTy} (M : Memref sig .tc .vmem S e) {P P' : S.Idx → Prop} {G G' : S.Idx → Elt F e}
    (h : ∀ y, P' y → P y ∧ G y = G' y) : ag c M P G ⊢ ag c M P' G' := by
  unfold ag
  iintro ⟨%f, %hf, H⟩
  iexists f
  isplitr
  · ipureintro; exact fun y hy => (hf y (h y hy).1).trans (h y hy).2
  · iexact H

/-- The memref is owned at some contents. -/
theorem ag_any (c : Dev nD) {S : Shape} {e : EltTy} (M : Memref sig .tc .vmem S e) {P : S.Idx → Prop} {G : S.Idx → Elt F e} :
    ag c M P G ⊢ iprop(∃ G' : S.Idx → Elt F e, ag c M (fun _ => True) G') := by
  unfold ag
  iintro ⟨%f, %hf, H⟩
  iexists M.view.read (Elt F) f
  iexists f
  isplitr
  · ipureintro; exact fun _ _ => rfl
  · iexact H

/-- A load of a block on which the memref is known reads the known values. -/
theorem ld (c : Dev nD) {S : Shape} {e : EltTy} (M : Memref sig .tc .vmem S e) {P : S.Idx → Prop} {G : S.Idx → Elt F e}
    {off size : Fin S.rank → ℕ} {inb : ∀ a, off a + size a ≤ S.size a} {h : 0 < (⟨S.rank, size⟩ : Shape).numel}
    (hP : ∀ j, P (at_ off size inb j)) {E : Set ℕ} {α : Type} {k : _ → KP F α} {Q : α → sProp 𝕄} :
    ag c M P G ⊢ iprop((ag c M P G -∗ WP c E (k fun j => G (at_ off size inb j)) Q) -∗ WP c E (ldB M off size inb h >>= k) Q) := by
  unfold ag
  iintro ⟨%f, %hf, H⟩ HK
  unfold ldB WP
  iapply (wp_load Variants.none (c : Thread nD τ) none E (m := M) (View.setOn_subset_set _ _)) $$ H; iintro H
  have e : M.view.readAt (Elt F) (Rect.unit (s := S) off size inb).toLoadRect f = fun j => G (at_ off size inb j) :=
    funext fun j => hf _ (hP j)
  rw [e]
  iapply HK
  iexists f
  isplitr
  · ipureintro; exact hf
  · iexact H

/-- A load whose value is not needed. -/
theorem ldAny (c : Dev nD) {S : Shape} {e : EltTy} (M : Memref sig .tc .vmem S e) {P : S.Idx → Prop} {G : S.Idx → Elt F e}
    {off size : Fin S.rank → ℕ} {inb : ∀ a, off a + size a ≤ S.size a} {h : 0 < (⟨S.rank, size⟩ : Shape).numel}
    {E : Set ℕ} {α : Type} {k : _ → KP F α} {Q : α → sProp 𝕄} :
    ag c M P G ⊢ iprop((∀ v, ag c M P G -∗ WP c E (k v) Q) -∗ WP c E (ldB M off size inb h >>= k) Q) := by
  unfold ag
  iintro ⟨%f, %hf, H⟩ HK
  unfold ldB WP
  iapply (wp_load Variants.none (c : Thread nD τ) none E (m := M) (View.setOn_subset_set _ _)) $$ H; iintro H
  have hb : ∀ v, ((Prog.ret v : KP F _).bind k) = k v := fun _ => rfl
  rw [hb]
  iapply HK
  iexists f
  isplitr
  · ipureintro; exact hf
  · iexact H

/-- A store of a block: afterwards the memref is known on the block by the stored values, and elsewhere as before. -/
theorem stp (c : Dev nD) {S : Shape} {e : EltTy} (M : Memref sig .tc .vmem S e) {P P' : S.Idx → Prop} {G G' : S.Idx → Elt F e}
    {off size : Fin S.rank → ℕ} {inb : ∀ a, off a + size a ≤ S.size a} {h : 0 < (⟨S.rank, size⟩ : Shape).numel} {he : e.bits = 32}
    {w : (⟨S.rank, size⟩ : Shape).Idx → Elt F e} (hw : ∀ j, w j = G' (at_ off size inb j))
    (hP : ∀ y, P' y → (∃ a, (y a : ℕ) < off a ∨ off a + size a ≤ (y a : ℕ)) → P y ∧ G y = G' y) {E : Set ℕ} {Q : PUnit → sProp 𝕄} :
    ag c M P G ⊢ iprop((ag c M P' G' -∗ Q ⟨⟩) -∗ WP c E (stB M off size inb h he w) Q) := by
  unfold ag
  iintro ⟨%f, %hf, H⟩ HK
  unfold stB WP
  iapply (wp_store Variants.none (c : Thread nD τ) none E (m := M) (r := Rect.unit (s := S) off size inb) (S := M.view.set)
    ((View.setOn_subset_set _ _).trans (View.set_slice_subset _ _))) $$ H; iintro H
  rw [wp_ret]; imodintro
  iapply HK
  iexists _
  isplitr [H]
  rotate_left
  · iexact H
  · ipureintro
    intro y hy
    by_cases hm : y ∈ (Rect.unit (s := S) off size inb).set
    · obtain ⟨j, rfl⟩ := (Rect.unit (s := S) off size inb).exists_idx_of_mem hm
      exact (View.read_slice_write_emb (v := M.view) (Rect.unit (s := S) off size inb) _ w (Finset.mem_univ j)).trans (hw j)
    · rw [View.read_slice_write_of_not_mem _ _ _ _ (by rwa [Rect.map_emb_univ])]
      rw [Rect.mem_set_unit] at hm
      simp only [not_forall, not_and, not_lt] at hm
      obtain ⟨a, ha⟩ := hm
      have := hP y hy ⟨a, by by_cases h1 : off a ≤ (y a : ℕ) <;> [exact .inr (ha h1); exact .inl (by omega)]⟩
      exact (hf y this.1).trans this.2

/-- Programs in sequence: the first takes `I` to `J`, the rest runs from `J`. -/
theorem seq (c : Dev nD) {E : Set ℕ} {α β : Type} {p : KP F α} {k : α → KP F β} {I : sProp 𝕄} {J : α → sProp 𝕄} {Q : β → sProp 𝕄}
    (hp : I ⊢ WP c E p J) : I ⊢ iprop((∀ a, J a -∗ WP c E (k a) Q) -∗ WP c E (p >>= k) Q) := by
  iintro HI HK
  unfold WP
  rw [wp_bind]
  iapply (wp_wand_r frame (wpE (defs₀ (F := F)) Variants.none (c : Thread nD τ) none) E)
  isplitl [HI]
  · iapply hp; iexact HI
  · iexact HK

/-- A store of a block with the rest of the program after it. -/
theorem stk (c : Dev nD) {S : Shape} {e : EltTy} (M : Memref sig .tc .vmem S e) {P P' : S.Idx → Prop} {G G' : S.Idx → Elt F e}
    {off size : Fin S.rank → ℕ} {inb : ∀ a, off a + size a ≤ S.size a} {h : 0 < (⟨S.rank, size⟩ : Shape).numel} {he : e.bits = 32}
    {w : (⟨S.rank, size⟩ : Shape).Idx → Elt F e} (hw : ∀ j, w j = G' (at_ off size inb j))
    (hP : ∀ y, P' y → (∃ a, (y a : ℕ) < off a ∨ off a + size a ≤ (y a : ℕ)) → P y ∧ G y = G' y) {E : Set ℕ} {α : Type}
    {k : PUnit → KP F α} {Q : α → sProp 𝕄} :
    ag c M P G ⊢ iprop((ag c M P' G' -∗ WP c E (k ⟨⟩) Q) -∗ WP c E (stB M off size inb h he w >>= k) Q) := by
  iintro H HK
  have hs : ag c M P G ⊢ WP c E (stB M off size inb h he w) (fun _ => ag c M P' G') := by
    iintro H
    iapply (stp c M hw hP) $$ H
    iintro H
    iexact H
  iapply (seq c hs) $$ H
  iintro %_ H
  iapply HK
  iexact H

/-- The end of a program. -/
theorem fin (c : Dev nD) {E : Set ℕ} {α : Type} {a : α} {Q : α → sProp 𝕄} : Q a ⊢ WP c E (.ret a : KP F α) Q := by
  unfold WP
  rw [wp_ret]
  iintro H
  imodintro
  iexact H

/-- A run of programs, by an invariant over how many have run. -/
theorem seqFrom_wp (c : Dev nD) {E : Set ℕ} {N : ℕ} (f : Fin N → KP F PUnit) (I : ℕ → sProp 𝕄)
    (h : ∀ j : Fin N, I j.val ⊢ WP c E (f j) (fun _ => I (j.val + 1))) :
    ∀ (n i : ℕ) (hi : i + n ≤ N), I i ⊢ WP c E (seqFrom f n i hi) (fun _ => I (i + n)) := by
  intro n
  induction n with
  | zero => intro i hi; exact fin c
  | succ n ih =>
    intro i hi
    unfold seqFrom
    iintro H
    iapply (seq c (h ⟨i, _⟩)) $$ H
    iintro %_ H
    have := ih (i + 1) (by omega)
    rw [show (fun _ : PUnit => I (i + 1 + n)) = fun _ => I (i + (n + 1)) by rw [show i + 1 + n = i + (n + 1) by omega]] at this
    iapply this
    iexact H

/-- A run of programs carrying a value. -/
theorem foldFrom_wp (c : Dev nD) {E : Set ℕ} {N : ℕ} {σ : Type} (f : Fin N → σ → KP F σ) (I : ℕ → σ → sProp 𝕄)
    (h : ∀ (j : Fin N) (a : σ), I j.val a ⊢ WP c E (f j a) (I (j.val + 1))) :
    ∀ (n i : ℕ) (hi : i + n ≤ N) (a : σ), I i a ⊢ WP c E (foldFrom f n i hi a) (I (i + n)) := by
  intro n
  induction n with
  | zero => intro i hi a; exact fin c
  | succ n ih =>
    intro i hi a
    unfold foldFrom
    iintro H
    iapply (seq c (h ⟨i, _⟩ a)) $$ H
    iintro %b H
    have := ih (i + 1) (by omega) b
    rw [show I (i + 1 + n) = I (i + (n + 1)) by rw [show i + 1 + n = i + (n + 1) by omega]] at this
    iapply this
    iexact H

end Cert.Proof

end
-- ==== Proof.KCasts.lean ====
module

public import proofs.«01_k».proof.Proof.KRules
public import Idealize.ShloMosaic.Lib.ValueIdxCoords

@[expose] public section

set_option maxRecDepth 16384

noncomputable section

/-! The body's casts that drop or add axes of extent one, by what an element reads. -/

namespace Cert.Proof

open Cert.KernelIdeal Cert.KernelIdeal.Gen
open Idealize.ShloMosaic Idealize.ShloMosaic.ValueIdx Idealize.ShloMosaic.Pipeline

variable {α : Type}

theorem cast_frame (v : S1x1x16x256x256.Idx → α) (h : S1x1x16x256x256.ShapeCasts S16x256x256) (j : S16x256x256.Idx) :
    shapeCast S16x256x256 v h j = v (ix5 0 0 (j 0) (j 1) (j 2)) := by
  refine shapeCast_apply v h j _ ((Shape.rowMajor_val_five _).trans (Eq.trans ?_ (Shape.rowMajor_val_three _).symm))
  show ((((0 * 1 + 0) * 16 + (j 0).val) * 256 + (j 1).val) * 256 + (j 2).val) = (((j 0).val * 256 + (j 1).val) * 256 + (j 2).val)
  omega

theorem cast_row (v : S1x1x16x1x256.Idx → α) (h : S1x1x16x1x256.ShapeCasts S16x256) (j : S16x256.Idx) :
    shapeCast S16x256 v h j = v (ix5 0 0 (j 0) 0 (j 1)) := by
  refine shapeCast_apply v h j _ ((Shape.rowMajor_val_five _).trans (Eq.trans ?_ (Shape.rowMajor_val_two _).symm))
  show ((((0 * 1 + 0) * 16 + (j 0).val) * 1 + 0) * 256 + (j 1).val) = ((j 0).val * 256 + (j 1).val)
  omega

theorem cast_row_up (v : S16x256.Idx → α) (h : S16x256.ShapeCasts S16x1x256) (j : S16x1x256.Idx) :
    shapeCast S16x1x256 v h j = v (ix2 (j 0) (j 2)) := by
  refine shapeCast_apply v h j _ ((Shape.rowMajor_val_two _).trans (Eq.trans ?_ (Shape.rowMajor_val_three _).symm))
  have h1 : (j 1).val < 1 := (j 1).isLt
  show ((j 0).val * 256 + (j 2).val) = (((j 0).val * 1 + (j 1).val) * 256 + (j 2).val)
  omega

theorem cast_a (v : S1x8x264.Idx → α) (h : S1x8x264.ShapeCasts S8x264) (j : S8x264.Idx) :
    shapeCast S8x264 v h j = v (ix3 0 (j 0) (j 1)) := by
  refine shapeCast_apply v h j _ ((Shape.rowMajor_val_three _).trans (Eq.trans ?_ (Shape.rowMajor_val_two _).symm))
  show ((0 * 8 + (j 0).val) * 264 + (j 1).val) = ((j 0).val * 264 + (j 1).val)
  omega

theorem cast_b (v : S1x16x264.Idx → α) (h : S1x16x264.ShapeCasts S16x264) (j : S16x264.Idx) :
    shapeCast S16x264 v h j = v (ix3 0 (j 0) (j 1)) := by
  refine shapeCast_apply v h j _ ((Shape.rowMajor_val_three _).trans (Eq.trans ?_ (Shape.rowMajor_val_two _).symm))
  show ((0 * 16 + (j 0).val) * 264 + (j 1).val) = ((j 0).val * 264 + (j 1).val)
  omega

theorem cast_g_up (v : S8x264.Idx → α) (h : S8x264.ShapeCasts S1x1x8x264) (j : S1x1x8x264.Idx) :
    shapeCast S1x1x8x264 v h j = v (ix2 (j 2) (j 3)) := by
  refine shapeCast_apply v h j _ ((Shape.rowMajor_val_two _).trans (Eq.trans ?_ (Shape.rowMajor_val_four _).symm))
  have h0 : (j 0).val < 1 := (j 0).isLt
  have h1 : (j 1).val < 1 := (j 1).isLt
  show ((j 2).val * 264 + (j 3).val) = ((((j 0).val * 1 + (j 1).val) * 8 + (j 2).val) * 264 + (j 3).val)
  omega

theorem cast_g (v : S1x1x264x264.Idx → α) (h : S1x1x264x264.ShapeCasts S264x264) (j : S264x264.Idx) :
    shapeCast S264x264 v h j = v (ix4 0 0 (j 0) (j 1)) := by
  refine shapeCast_apply v h j _ ((Shape.rowMajor_val_four _).trans (Eq.trans ?_ (Shape.rowMajor_val_two _).symm))
  show (((0 * 1 + 0) * 264 + (j 0).val) * 264 + (j 1).val) = ((j 0).val * 264 + (j 1).val)
  omega

theorem cast_d (v : S1x64x64.Idx → α) (h : S1x64x64.ShapeCasts S64x64) (j : S64x64.Idx) :
    shapeCast S64x64 v h j = v (ix3 0 (j 0) (j 1)) := by
  refine shapeCast_apply v h j _ ((Shape.rowMajor_val_three _).trans (Eq.trans ?_ (Shape.rowMajor_val_two _).symm))
  show ((0 * 64 + (j 0).val) * 64 + (j 1).val) = ((j 0).val * 64 + (j 1).val)
  omega

theorem cast_d_up (v : S64x64.Idx → α) (h : S64x64.ShapeCasts S1x64x64) (j : S1x64x64.Idx) :
    shapeCast S1x64x64 v h j = v (ix2 (j 1) (j 2)) := by
  refine shapeCast_apply v h j _ ((Shape.rowMajor_val_two _).trans (Eq.trans ?_ (Shape.rowMajor_val_three _).symm))
  have h0 : (j 0).val < 1 := (j 0).isLt
  show ((j 1).val * 64 + (j 2).val) = (((j 0).val * 64 + (j 1).val) * 64 + (j 2).val)
  omega

theorem cast_o_up (v : S64x64.Idx → α) (h : S64x64.ShapeCasts S1x1x64x64) (j : S1x1x64x64.Idx) :
    shapeCast S1x1x64x64 v h j = v (ix2 (j 2) (j 3)) := by
  refine shapeCast_apply v h j _ ((Shape.rowMajor_val_two _).trans (Eq.trans ?_ (Shape.rowMajor_val_four _).symm))
  have h0 : (j 0).val < 1 := (j 0).isLt
  have h1 : (j 1).val < 1 := (j 1).isLt
  show ((j 2).val * 64 + (j 3).val) = ((((j 0).val * 1 + (j 1).val) * 64 + (j 2).val) * 64 + (j 3).val)
  omega

theorem cast_i_up (v : S64x64.Idx → α) (h : S64x64.ShapeCasts S1x1x1x64x64) (j : S1x1x1x64x64.Idx) :
    shapeCast S1x1x1x64x64 v h j = v (ix2 (j 3) (j 4)) := by
  refine shapeCast_apply v h j _ ((Shape.rowMajor_val_two _).trans (Eq.trans ?_ (Shape.rowMajor_val_five _).symm))
  have h0 : (j 0).val < 1 := (j 0).isLt
  have h1 : (j 1).val < 1 := (j 1).isLt
  have h2 : (j 2).val < 1 := (j 2).isLt
  show ((j 3).val * 64 + (j 4).val) = (((((j 0).val * 1 + (j 1).val) * 1 + (j 2).val) * 64 + (j 3).val) * 64 + (j 4).val)
  omega

end Cert.Proof

end
-- ==== Proof.KPads.lean ====
module

public import proofs.«01_k».proof.Proof.KCasts

@[expose] public section

set_option maxRecDepth 16384

noncomputable section

/-! The padded copies: what the two padding passes leave in their buffers. -/

namespace Cert.Proof

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open Idealize.ShloMosaic.Pipeline
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole memref is known. -/
abbrev own (c : Dev nD) {S : Shape} {e : EltTy} (M : Memref sig .tc .vmem S e) (G : S.Idx → Elt F e) : sProp 𝕄 :=
  ag c M (fun _ => True) G

/-- Nothing is known of the memref but that it is owned. -/
abbrev any (c : Dev nD) {S : Shape} {e : EltTy} (M : Memref sig .tc .vmem S e) : sProp 𝕄 :=
  iprop(∃ G : S.Idx → Elt F e, ag c M (fun _ => True) G)

/-- The coordinate of a frame at a coordinate of its lower or right padding by reflection. -/
def reA (n : ℕ) : ℕ := if n < 256 then n else 510 - n

/-- The coordinate of a frame at a coordinate of its padding by reflection on both sides. -/
def reB (n : ℕ) : ℕ := if n < 4 then 4 - n else if n < 260 then n - 4 else 514 - n

theorem reA_lt {n : ℕ} (h : n < 264) : reA n < 256 := by unfold reA; split <;> omega

theorem reB_lt {n : ℕ} (h : n < 272) : reB n < 256 := by unfold reB; (repeat' split) <;> omega

/-- The first frame, padded. -/
def padAv (a : S1x1x16x256x256.Idx → F .f32) (y : S16x264x264.Idx) : F .f32 :=
  a (ix5 0 0 (y 0) ⟨reA (y 1).val, reA_lt (y 1).isLt⟩ ⟨reA (y 2).val, reA_lt (y 2).isLt⟩)

/-- The second frame, padded. -/
def padBv (b : S1x1x16x256x256.Idx → F .f32) (y : S16x272x272.Idx) : F .f32 :=
  b (ix5 0 0 (y 0) ⟨reB (y 1).val, reB_lt (y 1).isLt⟩ ⟨reB (y 2).val, reB_lt (y 2).isLt⟩)

theorem ext3 {d : Fin 3 → ℕ} {x y : (⟨3, d⟩ : Shape).Idx} (h0 : (x 0).val = (y 0).val) (h1 : (x 1).val = (y 1).val)
    (h2 : (x 2).val = (y 2).val) : x = y :=
  funext fun k => Fin.ext (by fin_cases k <;> assumption)

theorem ext5 {d : Fin 5 → ℕ} {x y : (⟨5, d⟩ : Shape).Idx} (h0 : (x 0).val = (y 0).val) (h1 : (x 1).val = (y 1).val)
    (h2 : (x 2).val = (y 2).val) (h3 : (x 3).val = (y 3).val) (h4 : (x 4).val = (y 4).val) : x = y :=
  funext fun k => Fin.ext (by fin_cases k <;> assumption)

theorem padAv_eq (a : S1x1x16x256x256.Idx → F .f32) (x : S1x1x16x256x256.Idx) (y : S16x264x264.Idx)
    (h0 : (x 2).val = (y 0).val) (h1 : (x 3).val = reA (y 1).val) (h2 : (x 4).val = reA (y 2).val) : a x = padAv a y := by
  have a0 : (x 0).val < 1 := (x 0).isLt
  have a1 : (x 1).val < 1 := (x 1).isLt
  exact congrArg a (ext5 (show (x 0).val = 0 by omega) (show (x 1).val = 0 by omega) h0 h1 h2)

theorem padBv_eq (b : S1x1x16x256x256.Idx → F .f32) (x : S1x1x16x256x256.Idx) (y : S16x272x272.Idx)
    (h0 : (x 2).val = (y 0).val) (h1 : (x 3).val = reB (y 1).val) (h2 : (x 4).val = reB (y 2).val) : b x = padBv b y := by
  have a0 : (x 0).val < 1 := (x 0).isLt
  have a1 : (x 1).val < 1 := (x 1).isLt
  exact congrArg b (ext5 (show (x 0).val = 0 by omega) (show (x 1).val = 0 by omega) h0 h1 h2)

section
variable (c : Dev nD) (E : Set ℕ) (M2 M3 : Memref sig .tc .vmem S1x1x16x256x256 .f32)
  (M8 : Memref sig .tc .vmem S16x264x264 .f32) (M9 : Memref sig .tc .vmem S16x272x272 .f32)
  (a b : S1x1x16x256x256.Idx → F .f32)

/-- A border row of the first frame. -/
theorem rowA_wp (j : Fin 8) :
    iprop(own c M2 a ∗ ag c M8 (fun y => (y 2).val < 256 ∧ (y 1).val < 256 + j.val) (padAv a))
      ⊢ WP c E (rowA M2 M8 j) (fun _ => iprop(own c M2 a ∗ ag c M8 (fun y => (y 2).val < 256 ∧ (y 1).val < 256 + (j.val + 1)) (padAv a))) := by
  unfold rowA
  iintro ⟨H2, H8⟩
  iapply (ld c M2 (fun _ => trivial)) $$ H2; iintro H2
  iapply (ldAny c M8) $$ H8; iintro %_ H8
  iapply (stp c M8 (P' := fun y => (y 2).val < 256 ∧ (y 1).val < 256 + (j.val + 1)) (G' := padAv a) ?_ ?_) $$ H8
  · intro i
    rw [cast_row_up, cast_row]
    have h1 : (i 1).val < 1 := (i 1).isLt
    have h2 : (i 2).val < 256 := (i 2).isLt
    refine padAv_eq a _ _ rfl ?_ ?_
    · show 254 - j.val + 1 * 0 = reA (256 + j.val + 1 * (i 1).val)
      unfold reA; split <;> omega
    · show 0 + 1 * (i 2).val = reA (0 + 1 * (i 2).val)
      unfold reA; split <;> omega
  · rintro y ⟨h1, h2⟩ ⟨k, hk⟩
    have h0 : (y 0).val < 16 := (y 0).isLt
    refine ⟨?_, rfl⟩
    fin_cases k <;> simp at hk <;> omega
  · iintro H8
    isplitl [H2]
    · iexact H2
    · iexact H8

/-- A border column of the first frame. -/
theorem colA_wp (j : Fin 8) :
    ag c M8 (fun y => (y 2).val < 256 + j.val) (padAv a)
      ⊢ WP c E (colA M8 j) (fun _ => ag c M8 (fun y => (y 2).val < 256 + (j.val + 1)) (padAv a)) := by
  unfold colA
  iintro H8
  iapply (ld c M8 ?_) $$ H8
  · intro i
    have h2 : (i 2).val < 1 := (i 2).isLt
    show 254 - j.val + 1 * (i 2).val < 256 + j.val
    omega
  iintro H8
  iapply (ldAny c M8) $$ H8; iintro %_ H8
  iapply (stp c M8 (P' := fun y => (y 2).val < 256 + (j.val + 1)) (G' := padAv a) ?_ ?_) $$ H8
  · intro i
    rw [shapeCast_self]
    have h2 : (i 2).val < 1 := (i 2).isLt
    refine padAv_eq a _ _ rfl rfl ?_
    show reA (254 - j.val + 1 * (i 2).val) = reA (256 + j.val + 1 * (i 2).val)
    unfold reA; (repeat' split) <;> omega
  · rintro y h2 ⟨k, hk⟩
    have h0 : (y 0).val < 16 := (y 0).isLt
    have h1 : (y 1).val < 264 := (y 1).isLt
    refine ⟨?_, rfl⟩
    fin_cases k <;> simp at hk <;> omega
  · iintro H8
    iexact H8

/-- The first padding pass. -/
theorem padA_wp : iprop(own c M2 a ∗ any c M8) ⊢ WP c E (padA M2 M8) (fun _ => iprop(own c M2 a ∗ own c M8 (padAv a))) := by
  unfold padA
  iintro ⟨H2, %G, H8⟩
  iapply (ld c M2 (fun _ => trivial)) $$ H2; iintro H2
  iapply (ldAny c M8) $$ H8; iintro %_ H8
  iapply (stk c M8 (P' := fun y => (y 2).val < 256 ∧ (y 1).val < 256 + 0) (G' := padAv a) ?_ ?_) $$ H8
  · intro i
    rw [shapeCast_self, cast_frame]
    have h1 : (i 1).val < 256 := (i 1).isLt
    have h2 : (i 2).val < 256 := (i 2).isLt
    refine padAv_eq a _ _ rfl ?_ ?_
    · show 0 + 1 * (i 1).val = reA (0 + 1 * (i 1).val)
      unfold reA; split <;> omega
    · show 0 + 1 * (i 2).val = reA (0 + 1 * (i 2).val)
      unfold reA; split <;> omega
  · rintro y ⟨h1, h2⟩ ⟨k, hk⟩
    have h0 : (y 0).val < 16 := (y 0).isLt
    exfalso
    fin_cases k <;> simp at hk <;> omega
  · iintro H8
    iapply (seq c (seqFrom_wp c (rowA M2 M8) (fun j => iprop(own c M2 a ∗ ag c M8 (fun y => (y 2).val < 256 ∧ (y 1).val < 256 + j) (padAv a)))
      (rowA_wp c E M2 M8 a) 8 0 _)) $$ [H2 H8]
    · isplitl [H2]
      · iexact H2
      · iexact H8
    iintro %_ ⟨H2, H8⟩
    iapply (wp_wand_r frame (wpE (defs₀ (F := F)) Variants.none (c : Thread nD τ) none) E)
    isplitl [H8]
    · iapply (seqFrom_wp c (colA M8) (fun j => ag c M8 (fun y => (y 2).val < 256 + j) (padAv a)) (colA_wp c E M8 a) 8 0 _)
      iapply (ag_mono c M8 ?_) $$ H8
      intro y hy
      have h1 : (y 1).val < 264 := (y 1).isLt
      exact ⟨⟨by omega, by omega⟩, rfl⟩
    · iintro %_ H8
      isplitl [H2]
      · iexact H2
      · iapply (ag_mono c M8 ?_) $$ H8
        intro y _
        have h1 : (y 2).val < 264 := (y 2).isLt
        exact ⟨by omega, rfl⟩

/-- A border row of the second frame. -/
theorem rowB_wp {src dst : ℕ} {hs : src < 256} {hd : dst < 272} (P P' : S16x272x272.Idx → Prop) (hr : src = reB dst)
    (hP : ∀ y, P' y → (4 ≤ (y 2).val ∧ (y 2).val < 260) ∧ ((y 1).val = dst ∨ P y)) :
    iprop(own c M3 b ∗ ag c M9 P (padBv b)) ⊢ WP c E (rowB M3 M9 src dst hs hd) (fun _ => iprop(own c M3 b ∗ ag c M9 P' (padBv b))) := by
  unfold rowB
  iintro ⟨H2, H8⟩
  iapply (ld c M3 (fun _ => trivial)) $$ H2; iintro H2
  iapply (ldAny c M9) $$ H8; iintro %_ H8
  iapply (stp c M9 (P' := P') (G' := padBv b) ?_ ?_) $$ H8
  · intro i
    rw [cast_row_up, cast_row]
    have h1 : (i 1).val < 1 := (i 1).isLt
    have h2 : (i 2).val < 256 := (i 2).isLt
    refine padBv_eq b _ _ rfl ?_ ?_
    · show src + 1 * 0 = reB (dst + 1 * (i 1).val)
      rw [show dst + 1 * (i 1).val = dst by omega]; omega
    · show 0 + 1 * (i 2).val = reB (4 + 1 * (i 2).val)
      unfold reB; (repeat' split) <;> omega
  · rintro y hy ⟨k, hk⟩
    have h0 : (y 0).val < 16 := (y 0).isLt
    obtain ⟨h2, h⟩ := hP y hy
    refine ⟨h.resolve_left fun h1 => ?_, rfl⟩
    fin_cases k <;> simp at hk <;> omega
  · iintro H8
    isplitl [H2]
    · iexact H2
    · iexact H8

/-- A border column of the second frame. -/
theorem colB_wp {src dst : ℕ} {hs : src < 272} {hd : dst < 272} (P P' : S16x272x272.Idx → Prop) (hr : reB src = reB dst)
    (hl : ∀ y, (y 2).val = src → P y) (hP : ∀ y, P' y → (y 2).val = dst ∨ P y) :
    ag c M9 P (padBv b) ⊢ WP c E (colB M9 src dst hs hd) (fun _ => ag c M9 P' (padBv b)) := by
  unfold colB
  iintro H8
  iapply (ld c M9 ?_) $$ H8
  · intro i
    have h2 : (i 2).val < 1 := (i 2).isLt
    refine hl _ ?_
    show src + 1 * (i 2).val = src
    omega
  iintro H8
  iapply (ldAny c M9) $$ H8; iintro %_ H8
  iapply (stp c M9 (P' := P') (G' := padBv b) ?_ ?_) $$ H8
  · intro i
    rw [shapeCast_self]
    have h2 : (i 2).val < 1 := (i 2).isLt
    refine padBv_eq b _ _ rfl rfl ?_
    show reB (src + 1 * (i 2).val) = reB (dst + 1 * (i 2).val)
    rw [show src + 1 * (i 2).val = src by omega, show dst + 1 * (i 2).val = dst by omega, hr]
  · rintro y hy ⟨k, hk⟩
    have h0 : (y 0).val < 16 := (y 0).isLt
    have h1 : (y 1).val < 272 := (y 1).isLt
    refine ⟨(hP y hy).resolve_left fun h2 => ?_, rfl⟩
    fin_cases k <;> simp at hk <;> omega
  · iintro H8
    iexact H8

/-- The second padding pass. -/
theorem padB_wp : iprop(own c M3 b ∗ any c M9) ⊢ WP c E (padB M3 M9) (fun _ => iprop(own c M3 b ∗ own c M9 (padBv b))) := by
  unfold padB
  iintro ⟨H2, %G, H8⟩
  iapply (ld c M3 (fun _ => trivial)) $$ H2; iintro H2
  iapply (ldAny c M9) $$ H8; iintro %_ H8
  iapply (stk c M9 (P' := fun y => (4 ≤ (y 2).val ∧ (y 2).val < 260) ∧ 4 ≤ (y 1).val + 0 ∧ (y 1).val < 260) (G' := padBv b) ?_ ?_) $$ H8
  · intro i
    rw [shapeCast_self, cast_frame]
    have h1 : (i 1).val < 256 := (i 1).isLt
    have h2 : (i 2).val < 256 := (i 2).isLt
    refine padBv_eq b _ _ rfl ?_ ?_
    · show 0 + 1 * (i 1).val = reB (4 + 1 * (i 1).val)
      unfold reB; (repeat' split) <;> omega
    · show 0 + 1 * (i 2).val = reB (4 + 1 * (i 2).val)
      unfold reB; (repeat' split) <;> omega
  · rintro y ⟨h1, h2⟩ ⟨k, hk⟩
    have h0 : (y 0).val < 16 := (y 0).isLt
    exfalso
    fin_cases k <;> simp at hk <;> omega
  · iintro H8
    iapply (seq c (seqFrom_wp c _ (fun j => iprop(own c M3 b ∗ ag c M9
        (fun y => (4 ≤ (y 2).val ∧ (y 2).val < 260) ∧ 4 ≤ (y 1).val + j ∧ (y 1).val < 260) (padBv b)))
      (fun j => rowB_wp c E M3 M9 b _ _ (by unfold reB; (repeat' split) <;> omega) (fun y hy => by omega)) 4 0 _)) $$ [H2 H8]
    · isplitl [H2]
      · iexact H2
      · iexact H8
    iintro %_ ⟨H2, H8⟩
    iapply (seq c (seqFrom_wp c _ (fun j => iprop(own c M3 b ∗ ag c M9
        (fun y => (4 ≤ (y 2).val ∧ (y 2).val < 260) ∧ (y 1).val < 260 + j) (padBv b)))
      (fun j => rowB_wp c E M3 M9 b _ _ (by unfold reB; (repeat' split) <;> omega) (fun y hy => by omega)) 12 0 _)) $$ [H2 H8]
    · isplitl [H2]
      · iexact H2
      · iapply (ag_mono c M9 ?_) $$ H8
        intro y hy
        exact ⟨by omega, rfl⟩
    iintro %_ ⟨H2, H8⟩
    iapply (seq c (seqFrom_wp c _ (fun j => ag c M9 (fun y => 4 ≤ (y 2).val + j ∧ (y 2).val < 260) (padBv b))
      (fun j => colB_wp c E M9 b _ _ (by unfold reB; (repeat' split) <;> omega) (fun y hy => by omega) (fun y hy => by omega)) 4 0 _)) $$ [H8]
    · iapply (ag_mono c M9 ?_) $$ H8
      intro y hy
      have h1 : (y 1).val < 272 := (y 1).isLt
      exact ⟨by omega, rfl⟩
    iintro %_ H8
    iapply (wp_wand_r frame (wpE (defs₀ (F := F)) Variants.none (c : Thread nD τ) none) E)
    isplitl [H8]
    · iapply (seqFrom_wp c _ (fun j => ag c M9 (fun y => (y 2).val < 260 + j) (padBv b))
        (fun j => colB_wp c E M9 b _ _ (by unfold reB; (repeat' split) <;> omega) (fun y hy => by omega) (fun y hy => by omega)) 12 0 _)
      iapply (ag_mono c M9 ?_) $$ H8
      intro y hy
      exact ⟨by omega, rfl⟩
    · iintro %_ H8
      isplitl [H2]
      · iexact H2
      · iapply (ag_mono c M9 ?_) $$ H8
        intro y _
        have h1 : (y 2).val < 272 := (y 2).isLt
        exact ⟨by omega, rfl⟩

end

end Cert.Proof

end
-- ==== Proof.KStrips.lean ====
module

public import proofs.«01_k».proof.Proof.KPads

@[expose] public section

set_option maxRecDepth 16384

noncomputable section

/-! The strip loop, and one horizontal shift: the running sums, and the distance table they add to. -/

namespace Cert.Proof

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open Idealize.ShloMosaic.Pipeline
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Channel `n`. -/
def chAt (n : ℕ) : Fin 16 := ⟨n % 16, Nat.mod_lt _ (by decide)⟩

/-- The first `n` channels' products at row `r` and column `w`, the second array `d` rows further down. -/
def sumCh (A : S16x264x264.Idx → F .f32) (B : S16x272x264.Idx → F .f32) (d : Fin 8) (r w : Fin 264) : ℕ → F .f32
  | 0 => Scalar.ofBits .f32 0x00000000#32
  | n + 1 => FloatOps.addf (sumCh A B d r w n)
      (FloatOps.mulf (A (ix3 (chAt n) r w)) (B (ix3 (chAt n) ⟨r.val + d.val, by omega⟩ w)))

/-- An array `dw` columns further to the right. -/
def shiftv (B : S16x272x272.Idx → F .f32) (dw : Fin 8) (y : S16x272x264.Idx) : F .f32 :=
  B (ix3 (y 0) (y 1) ⟨(y 2).val + dw.val, by have : (y 2).val < 264 := (y 2).isLt; omega⟩)

/-- The sums over the channels for one offset. -/
def offSum (A : S16x264x264.Idx → F .f32) (B : S16x272x264.Idx → F .f32) (d : Fin 8) (z : S264x264.Idx) : F .f32 :=
  sumCh A B d (z 0) (z 1) 16

/-- The buffer of the eight vertical shifts' sums. -/
def sums (A : S16x264x264.Idx → F .f32) (B : S16x272x264.Idx → F .f32) (y : S2x8x264x264.Idx) : F .f32 :=
  sumCh A B (y 1) (y 2) (y 3) 16

/-- The distance table with every offset's boxed sums added. -/
def addAll (A : S16x264x264.Idx → F .f32) (B : S16x272x272.Idx → F .f32) (s : FVec F S264x64 .f32) (D : S64x64x64.Idx → F .f32)
    (y : S64x64x64.Idx) : F .f32 :=
  FloatOps.addf (D y) (boxed s (offSum A (shiftv B ⟨(y 0).val % 8, Nat.mod_lt _ (by decide)⟩)
    ⟨(y 0).val / 8, by have : (y 0).val < 64 := (y 0).isLt; omega⟩) (ix2 (y 1) (y 2)))

/-- The distance table with the first `n` rows added, in the order in which the kernel takes them. -/
def addUpTo (A : S16x264x264.Idx → F .f32) (B : S16x272x272.Idx → F .f32) (s : FVec F S264x64 .f32) (D : S64x64x64.Idx → F .f32)
    (n : ℕ) (y : S64x64x64.Idx) : F .f32 :=
  if (y 0).val % 8 * 8 + (y 0).val / 8 < n then addAll A B s D y else D y

theorem addUpTo_todo (A : S16x264x264.Idx → F .f32) (B : S16x272x272.Idx → F .f32) (s : FVec F S264x64 .f32)
    (D : S64x64x64.Idx → F .f32) (n : ℕ) (y : S64x64x64.Idx) (h : ¬ (y 0).val % 8 * 8 + (y 0).val / 8 < n) :
    addUpTo A B s D n y = D y := if_neg h

theorem addUpTo_row (A : S16x264x264.Idx → F .f32) (B : S16x272x272.Idx → F .f32) (s : FVec F S264x64 .f32)
    (D : S64x64x64.Idx → F .f32) (n : ℕ) (y : S64x64x64.Idx) (dw d : Fin 8) (hy : (y 0).val = d.val * 8 + dw.val)
    (hn : dw.val * 8 + d.val < n) :
    addUpTo A B s D n y = FloatOps.addf (D y) (boxed s (offSum A (shiftv B dw) d) (ix2 (y 1) (y 2))) := by
  have e1 : (⟨(y 0).val % 8, Nat.mod_lt _ (by decide)⟩ : Fin 8) = dw := Fin.ext (by show (y 0).val % 8 = dw.val; omega)
  have e2 : (⟨(y 0).val / 8, by have : (y 0).val < 64 := (y 0).isLt; omega⟩ : Fin 8) = d := Fin.ext (by show (y 0).val / 8 = d.val; omega)
  unfold addUpTo
  rw [if_pos (by omega)]
  unfold addAll
  rw [e1, e2]

theorem rows8_apply (d : Fin 8) (w : FVec F S16x264 .f32) (j : S8x264.Idx) :
    rows8 d w j = w (ix2 ⟨d.val + (j 0).val, by have : (j 0).val < 8 := (j 0).isLt; omega⟩ (j 1)) := by
  unfold rows8
  refine extractStridedSlice_apply _ _ _ _ _ fun a => ?_
  fin_cases a
  · rfl
  · show (j 1).val = 0 + (j 1).val
    omega

section
variable (c : Dev nD) (E : Set ℕ) (M7 : Memref sig .tc .vmem S64x64x64 .f32) (M8 : Memref sig .tc .vmem S16x264x264 .f32)
  (M9 : Memref sig .tc .vmem S16x272x272 .f32) (M10 : Memref sig .tc .vmem S16x272x264 .f32)
  (M11 : Memref sig .tc .vmem S2x8x264x264 .f32) (A : S16x264x264.Idx → F .f32) (B : S16x272x264.Idx → F .f32)

/-- The running sums of strip `k` after `n` channels. -/
def runSum (k : Fin k0_t1_loop.trips) (n : ℕ) (d : Fin 8) (j : S8x264.Idx) : F .f32 :=
  sumCh A B d ⟨8 * k.val + (j 0).val, by have := trips_lt k; have : (j 0).val < 8 := (j 0).isLt; omega⟩ (j 1) n

/-- One channel of a strip. -/
theorem chStep_wp (k : Fin k0_t1_loop.trips) (ch : Fin 16) (acc : Fin 8 → FVec F S8x264 .f32) :
    iprop(own c M8 A ∗ own c M10 B ∗ ⌜acc = runSum A B k ch.val⌝)
      ⊢ WP c E (chStep M8 M10 k ch acc) (fun acc => iprop(own c M8 A ∗ own c M10 B ∗ ⌜acc = runSum A B k (ch.val + 1)⌝)) := by
  unfold chStep
  iintro ⟨H8, H10, %h⟩
  iapply (ld c M8 (fun _ => trivial)) $$ H8; iintro H8
  iapply (ld c M10 (fun _ => trivial)) $$ H10; iintro H10
  iapply (fin c)
  isplitl [H8]
  · iexact H8
  isplitl [H10]
  · iexact H10
  ipureintro
  subst h
  funext d j
  have hk := trips_lt k
  have hj : (j 0).val < 8 := (j 0).isLt
  have e : chAt ch.val = ch := Fin.ext (Nat.mod_eq_of_lt ch.isLt)
  show FloatOps.addf _ (FloatOps.mulf (shapeCast S8x264 _ _ j) (rows8 d _ j)) = FloatOps.addf _ (FloatOps.mulf _ _)
  rw [cast_a, rows8_apply, cast_b, e]
  refine congrArg₂ _ rfl (congrArg₂ _ (congrArg A (ext3 ?_ ?_ ?_)) (congrArg B (ext3 ?_ ?_ ?_)))
  · show ch.val + 1 * 0 = ch.val
    omega
  · show rs k + 1 * (j 0).val = 8 * k.val + (j 0).val
    rw [rs_eq]; omega
  · show 0 + 1 * (j 1).val = (j 1).val
    omega
  · show ch.val + 1 * 0 = ch.val
    omega
  · show rs k + 1 * (d.val + (j 0).val) = 8 * k.val + (j 0).val + d.val
    rw [rs_eq]; omega
  · show 0 + 1 * (j 1).val = (j 1).val
    omega

/-- One vertical shift's sums of a strip, stored. -/
theorem stripOut_wp (g : Fin 2) (k : Fin k0_t1_loop.trips) (d : Fin 8) :
    ag c M11 (fun y => (y 0).val = g.val ∧ ((y 2).val < 8 * k.val ∨ (y 2).val < 8 * k.val + 8 ∧ (y 1).val < d.val)) (sums A B)
      ⊢ WP c E (stripOut M11 g k (runSum A B k 16) d) (fun _ =>
        ag c M11 (fun y => (y 0).val = g.val ∧ ((y 2).val < 8 * k.val ∨ (y 2).val < 8 * k.val + 8 ∧ (y 1).val < d.val + 1)) (sums A B)) := by
  unfold stripOut
  iintro H
  iapply (ldAny c M11) $$ H; iintro %_ H
  iapply (stp c M11 (P' := fun y => (y 0).val = g.val ∧ ((y 2).val < 8 * k.val ∨ (y 2).val < 8 * k.val + 8 ∧ (y 1).val < d.val + 1))
    (G' := sums A B) ?_ ?_) $$ H
  · intro i
    rw [cast_g_up]
    have h1 : (i 1).val < 1 := (i 1).isLt
    unfold runSum sums
    congr 1
    · apply Fin.ext
      show d.val = d.val + 1 * (i 1).val
      omega
    · apply Fin.ext
      show 8 * k.val + (i 2).val = rs k + 1 * (i 2).val
      rw [rs_eq]; omega
    · apply Fin.ext
      show (i 3).val = 0 + 1 * (i 3).val
      omega
  · rintro y ⟨h0, h1⟩ ⟨a, ha⟩
    have h3 : (y 3).val < 264 := (y 3).isLt
    refine ⟨⟨h0, ?_⟩, rfl⟩
    fin_cases a <;> simp [rs_eq] at ha <;> omega
  · iintro H
    iexact H

/-- One strip. -/
theorem strip_wp (g : Fin 2) (k : Fin k0_t1_loop.trips) (u : Unit) :
    iprop(own c M8 A ∗ own c M10 B ∗ ag c M11 (fun y => (y 0).val = g.val ∧ (y 2).val < 8 * k.val) (sums A B))
      ⊢ WP c E (strip M8 M10 M11 g k u) (fun _ => iprop(own c M8 A ∗ own c M10 B ∗
        ag c M11 (fun y => (y 0).val = g.val ∧ (y 2).val < 8 * (k.val + 1)) (sums A B))) := by
  unfold strip
  iintro ⟨H8, H10, H11⟩
  iapply (seq c (foldFrom_wp c (chStep M8 M10 k) (fun n acc => iprop(own c M8 A ∗ own c M10 B ∗ ⌜acc = runSum A B k n⌝))
    (chStep_wp c E M8 M10 A B k) 16 0 _ _)) $$ [H8 H10]
  · isplitl [H8]
    · iexact H8
    isplitl [H10]
    · iexact H10
    ipureintro
    rfl
  iintro %acc ⟨H8, H10, %h⟩
  have h' : acc = runSum A B k 16 := h
  rw [h']
  iapply (wp_wand_r frame (wpE (defs₀ (F := F)) Variants.none (c : Thread nD τ) none) E)
  isplitl [H11]
  · iapply (seqFrom_wp c (stripOut M11 g k (runSum A B k 16)) (fun n => ag c M11 (fun y => (y 0).val = g.val ∧
      ((y 2).val < 8 * k.val ∨ (y 2).val < 8 * k.val + 8 ∧ (y 1).val < n)) (sums A B)) (stripOut_wp c E M11 A B g k) 8 0 _)
    iapply (ag_mono c M11 ?_) $$ H11
    intro y hy
    exact ⟨by omega, rfl⟩
  · iintro %_ H11
    isplitl [H8]
    · iexact H8
    isplitl [H10]
    · iexact H10
    iapply (ag_mono c M11 ?_) $$ H11
    intro y hy
    have h1 : (y 1).val < 8 := (y 1).isLt
    exact ⟨by omega, rfl⟩

/-- One row of the distance table. -/
theorem distRow_wp (B : S16x272x272.Idx → F .f32) (s : FVec F S264x64 .f32) (D : S64x64x64.Idx → F .f32) (dw : Fin 8) (g : Fin 2) (d : Fin 8) :
    iprop(ag c M11 (fun y => (y 0).val = g.val) (sums A (shiftv B dw)) ∗ own c M7 (addUpTo A B s D (dw.val * 8 + d.val)))
      ⊢ WP c E (distRow M7 M11 s dw g d) (fun _ => iprop(ag c M11 (fun y => (y 0).val = g.val) (sums A (shiftv B dw)) ∗
        own c M7 (addUpTo A B s D (dw.val * 8 + (d.val + 1))))) := by
  unfold distRow
  iintro ⟨H11, H7⟩
  iapply (ld c M11 ?_) $$ H11
  · intro i
    have h0 : (i 0).val < 1 := (i 0).isLt
    show g.val + 1 * (i 0).val = g.val
    omega
  iintro H11
  iapply (ld c M7 (fun _ => trivial)) $$ H7; iintro H7
  iapply (ldAny c M7) $$ H7; iintro %_ H7
  iapply (stp c M7 (P' := fun _ => True) (G' := addUpTo A B s D (dw.val * 8 + (d.val + 1))) ?_ ?_) $$ H7
  · intro i
    have h0 : (i 0).val < 1 := (i 0).isLt
    rw [cast_d_up]
    show FloatOps.addf (shapeCast S64x64 _ _ _) _ = _
    rw [cast_d]
    refine Eq.trans (congrArg₂ FloatOps.addf (addUpTo_todo A B s D _ _ ?_) rfl) (Eq.trans ?_ (addUpTo_row A B s D _ _ dw d ?_ ?_).symm)
    · show ¬ (d.val * 8 + dw.val + 1 * 0) % 8 * 8 + (d.val * 8 + dw.val + 1 * 0) / 8 < dw.val * 8 + d.val
      omega
    · refine congrArg₂ _ (congrArg D (ext3 ?_ ?_ ?_)) ?_
      · show d.val * 8 + dw.val + 1 * 0 = d.val * 8 + dw.val + 1 * (i 0).val
        omega
      · rfl
      · rfl
      refine Eq.trans (congrFun (congrArg (boxed s) (funext fun z => ?_)) _) (congrArg _ (funext fun k => Fin.ext ?_))
      · rw [cast_g]
        unfold sums offSum
        congr 1
        · apply Fin.ext
          show 0 + 1 * (z 0).val = (z 0).val
          omega
        · apply Fin.ext
          show 0 + 1 * (z 1).val = (z 1).val
          omega
      · fin_cases k
        · show (i 1).val = 0 + 1 * (i 1).val
          omega
        · show (i 2).val = 0 + 1 * (i 2).val
          omega
    · show d.val * 8 + dw.val + 1 * (i 0).val = d.val * 8 + dw.val
      omega
    · omega
  · rintro y - ⟨a, ha⟩
    have h0 : (y 0).val < 64 := (y 0).isLt
    have h1 : (y 1).val < 64 := (y 1).isLt
    have h2 : (y 2).val < 64 := (y 2).isLt
    refine ⟨trivial, ?_⟩
    have hne : (y 0).val ≠ d.val * 8 + dw.val := by
      fin_cases a <;> simp at ha <;> omega
    unfold addUpTo
    have : ((y 0).val % 8 * 8 + (y 0).val / 8 < dw.val * 8 + d.val) ↔ ((y 0).val % 8 * 8 + (y 0).val / 8 < dw.val * 8 + (d.val + 1)) := by omega
    simp only [this]
  · iintro H7
    isplitl [H11]
    · iexact H11
    · iexact H7

/-- One horizontal shift. -/
theorem shift_wp (B : S16x272x272.Idx → F .f32) (s : FVec F S264x64 .f32) (D : S64x64x64.Idx → F .f32) (dw : Fin 8) :
    iprop(own c M8 A ∗ own c M9 B ∗ any c M10 ∗ any c M11 ∗ own c M7 (addUpTo A B s D (dw.val * 8)))
      ⊢ WP c E (shift M7 M8 M9 M10 M11 s dw) (fun _ => iprop(own c M8 A ∗ own c M9 B ∗ any c M10 ∗ any c M11 ∗
        own c M7 (addUpTo A B s D ((dw.val + 1) * 8)))) := by
  unfold shift
  iintro ⟨H8, H9, ⟨%G10, H10⟩, ⟨%G11, H11⟩, H7⟩
  iapply (ld c M9 (fun _ => trivial)) $$ H9; iintro H9
  iapply (ldAny c M10) $$ H10; iintro %_ H10
  iapply (stk c M10 (P' := fun _ => True) (G' := shiftv B dw) ?_ ?_) $$ H10
  · intro i
    rw [shapeCast_self]
    refine congrArg B (ext3 ?_ ?_ ?_)
    · rfl
    · rfl
    · show dw.val + 1 * (i 2).val = 0 + 1 * (i 2).val + dw.val
      omega
  · rintro y - ⟨a, ha⟩
    have h0 : (y 0).val < 16 := (y 0).isLt
    have h1 : (y 1).val < 272 := (y 1).isLt
    have h2 : (y 2).val < 264 := (y 2).isLt
    exfalso
    fin_cases a <;> simp at ha <;> omega
  iintro H10
  have hl : iprop(own c M8 A ∗ own c M10 (shiftv B dw) ∗ any c M11) ⊢ WP c E (Scf.Loop.for k0_t1_loop k0_t1_ok () (strip M8 M10 M11 (buf dw)))
      (fun _ => iprop(own c M8 A ∗ own c M10 (shiftv B dw) ∗
        ag c M11 (fun y => (y 0).val = (buf dw).val ∧ (y 2).val < 8 * k0_t1_loop.trips) (sums A (shiftv B dw)))) := by
    iintro ⟨H8, H10, ⟨%G, H11⟩⟩
    iapply (Scf.wp_for frame (wpE (defs₀ (F := F)) Variants.none (c : Thread nD τ) none) E _ _ _ k0_t1_ok () (strip M8 M10 M11 (buf dw))
      (fun k _ => iprop(own c M8 A ∗ own c M10 (shiftv B dw) ∗ ag c M11 (fun y => (y 0).val = (buf dw).val ∧ (y 2).val < 8 * k) (sums A (shiftv B dw))))
      (fun k u => strip_wp c E M8 M10 M11 A (shiftv B dw) (buf dw) k u))
    isplitl [H8 H10 H11]
    · isplitl [H8]
      · iexact H8
      isplitl [H10]
      · iexact H10
      iapply (ag_mono c M11 ?_) $$ H11
      intro y hy
      omega
    · iintro %_ H
      iexact H
  iapply (seq c hl) $$ [H8 H10 H11]
  · isplitl [H8]
    · iexact H8
    isplitl [H10]
    · iexact H10
    iexists G11
    iexact H11
  iintro %_ ⟨H8, H10, H11⟩
  iapply (wp_wand_r frame (wpE (defs₀ (F := F)) Variants.none (c : Thread nD τ) none) E)
  isplitl [H11 H7]
  · iapply (seqFrom_wp c (distRow M7 M11 s dw (buf dw)) (fun d => iprop(ag c M11 (fun y => (y 0).val = (buf dw).val) (sums A (shiftv B dw)) ∗
      own c M7 (addUpTo A B s D (dw.val * 8 + d)))) (distRow_wp c E M7 M11 A B s D dw (buf dw)) 8 0 _)
    isplitl [H11]
    · iapply (ag_mono c M11 ?_) $$ H11
      intro y hy
      have h2 : (y 2).val < 264 := (y 2).isLt
      exact ⟨⟨hy, by rw [show k0_t1_loop.trips = 33 by decide]; omega⟩, rfl⟩
    · iexact H7
  · iintro %_ ⟨H11, H7⟩
    isplitl [H8]
    · iexact H8
    isplitl [H9]
    · iexact H9
    isplitl [H10]
    · iexists _; iexact H10
    isplitl [H11]
    · iapply (ag_any c M11); iexact H11
    · rw [show (dw.val + 1) * 8 = dw.val * 8 + (0 + 8) by omega]
      iexact H7

/-- The eight horizontal shifts. -/
theorem shifts_wp (B : S16x272x272.Idx → F .f32) (s : FVec F S264x64 .f32) (D : S64x64x64.Idx → F .f32) {h} :
    iprop(own c M8 A ∗ own c M9 B ∗ any c M10 ∗ any c M11 ∗ own c M7 D)
      ⊢ WP c E (seqFrom (shift M7 M8 M9 M10 M11 s) 8 0 h) (fun _ => iprop(own c M8 A ∗ own c M9 B ∗ any c M10 ∗ any c M11 ∗
        own c M7 (addAll A B s D))) := by
  have e0 : addUpTo A B s D (0 * 8) = D := funext fun y => addUpTo_todo A B s D _ y (by omega)
  have e8 : addUpTo A B s D ((0 + 8) * 8) = addAll A B s D :=
    funext fun y => if_pos (by have h0 : (y 0).val < 64 := (y 0).isLt; omega)
  have := seqFrom_wp c (shift M7 M8 M9 M10 M11 s) (fun n => iprop(own c M8 A ∗ own c M9 B ∗ any c M10 ∗ any c M11 ∗
    own c M7 (addUpTo A B s D (n * 8)))) (shift_wp c E M7 M8 M9 M10 M11 A B s D) 8 0 h
  rw [e0, e8] at this
  exact this

end

end Cert.Proof

end
-- ==== Proof.KBody.lean ====
module

public import proofs.«01_k».proof.Proof.KStrips

@[expose] public section

set_option maxRecDepth 16384

noncomputable section

/-! The rounds of the selection, and the body at a grid point: what it leaves in its buffers. -/

namespace Cert.Proof

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open Idealize.ShloMosaic.Pipeline
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The distances after `n` rounds: each round strikes out every query's chosen offset. -/
def kD (D : FVec F S64x64x64 .f32) : ℕ → FVec F S64x64x64 .f32
  | 0 => D
  | n + 1 => kmask (kD D n) (ksel (kD D n))

/-- The distances the rounds choose. -/
def outD (D : FVec F S64x64x64 .f32) (y : S1x7x64x64.Idx) : F .f32 := kmax (kD D (y 1).val) (ix2 (y 2) (y 3))

/-- Coordinate `a` of the patch that round `n` chooses. -/
def coord (t : BitVec 32) (D : FVec F S64x64x64 .f32) (a n : ℕ) : IVec S64x64 32 :=
  if a = 0 then kt t else if a = 1 then kh (ksel (kD D n)) else kw (ksel (kD D n))

/-- The coordinates the rounds choose. -/
def outI (t : BitVec 32) (D : FVec F S64x64x64 .f32) (y : S1x3x7x64x64.Idx) : BitVec 32 :=
  coord t D (y 1).val (y 2).val (ix2 (y 3) (y 4))

theorem at_whole {S : Shape} {off : Fin S.rank → ℕ} {inb : ∀ a, off a + S.size a ≤ S.size a} (j : S.Idx) : at_ off S.size inb j = j := by
  funext a
  apply Fin.ext
  rw [at_val]
  have := inb a
  omega

section
variable (c : Dev nD) (E : Set ℕ) (M5 : Memref sig .tc .vmem S1x7x64x64 .f32) (M6 : Memref sig .tc .vmem S1x3x7x64x64 .i32)
  (M7 : Memref sig .tc .vmem S64x64x64 .f32) (D : FVec F S64x64x64 .f32) (t : BitVec 32)

/-- One coordinate of a round, stored. -/
theorem stI_wp (a : Fin 3) (r : Fin 7) (w : IVec S64x64 32) (hw : w = coord t D a.val r.val) {β : Type} {k : PUnit → KP F β} {Q : β → sProp 𝕄} :
    ag c M6 (fun y => (y 2).val < r.val ∨ (y 2).val = r.val ∧ (y 1).val < a.val) (outI t D)
      ⊢ iprop((ag c M6 (fun y => (y 2).val < r.val ∨ (y 2).val = r.val ∧ (y 1).val < a.val + 1) (outI t D) -∗ WP c E (k ⟨⟩) Q)
        -∗ WP c E (stI M6 a r w >>= k) Q) := by
  have h : ag c M6 (fun y => (y 2).val < r.val ∨ (y 2).val = r.val ∧ (y 1).val < a.val) (outI t D)
      ⊢ WP c E (stI (F := F) M6 a r w) (fun _ => ag c M6 (fun y => (y 2).val < r.val ∨ (y 2).val = r.val ∧ (y 1).val < a.val + 1) (outI t D)) := by
    unfold stI
    iintro H
    iapply (ldAny c M6) $$ H; iintro %_ H
    iapply (stp c M6 (P' := fun y => (y 2).val < r.val ∨ (y 2).val = r.val ∧ (y 1).val < a.val + 1) (G' := outI t D) ?_ ?_) $$ H
    · intro i
      have h1 : (i 1).val < 1 := (i 1).isLt
      have h2 : (i 2).val < 1 := (i 2).isLt
      have e1 : a.val + 1 * (i 1).val = a.val := by omega
      have e2 : r.val + 1 * (i 2).val = r.val := by omega
      rw [cast_i_up]
      show _ = coord t D (a.val + 1 * (i 1).val) (r.val + 1 * (i 2).val) _
      rw [e1, e2, hw]
      refine congrArg _ (funext fun k => Fin.ext ?_)
      fin_cases k
      · show (i 3).val = 0 + 1 * (i 3).val
        omega
      · show (i 4).val = 0 + 1 * (i 4).val
        omega
    · rintro y hy ⟨k, hk⟩
      have h0 : (y 0).val < 1 := (y 0).isLt
      have h3 : (y 3).val < 64 := (y 3).isLt
      have h4 : (y 4).val < 64 := (y 4).isLt
      refine ⟨?_, rfl⟩
      fin_cases k <;> simp at hk <;> omega
    · iintro H
      iexact H
  iintro H HK
  iapply (seq c h) $$ H
  iintro %_ H
  iapply HK
  iexact H

/-- One round. -/
theorem round_wp (r : Fin 7) :
    iprop(ag c M5 (fun y => (y 1).val < r.val) (outD D) ∗ ag c M6 (fun y => (y 2).val < r.val) (outI t D) ∗ own c M7 (kD D r.val))
      ⊢ WP c E (round M5 M6 M7 t r) (fun _ => iprop(ag c M5 (fun y => (y 1).val < r.val + 1) (outD D) ∗
        ag c M6 (fun y => (y 2).val < r.val + 1) (outI t D) ∗ own c M7 (kD D (r.val + 1)))) := by
  unfold round
  iintro ⟨H5, H6, H7⟩
  iapply (ld c M7 (fun _ => trivial)) $$ H7; iintro H7
  rw [show (fun j => kD D r.val (at_ ![0, 0, 0] S64x64x64.size inb_S64x64x64_S64x64x64_0_0_0 j)) = kD D r.val from
    funext fun j => congrArg _ (at_whole j)]
  iapply (ldAny c M5) $$ H5; iintro %_ H5
  iapply (stk c M5 (P' := fun y => (y 1).val < r.val + 1) (G' := outD D) ?_ ?_) $$ H5
  · intro i
    have h1 : (i 1).val < 1 := (i 1).isLt
    have e1 : r.val + 1 * (i 1).val = r.val := by omega
    rw [cast_o_up]
    show _ = kmax (kD D (r.val + 1 * (i 1).val)) _
    rw [e1]
    refine congrArg _ (funext fun k => Fin.ext ?_)
    fin_cases k
    · show (i 2).val = 0 + 1 * (i 2).val
      omega
    · show (i 3).val = 0 + 1 * (i 3).val
      omega
  · rintro y hy ⟨k, hk⟩
    have h0 : (y 0).val < 1 := (y 0).isLt
    have h2 : (y 2).val < 64 := (y 2).isLt
    have h3 : (y 3).val < 64 := (y 3).isLt
    refine ⟨?_, rfl⟩
    fin_cases k <;> simp at hk <;> omega
  iintro H5
  iapply (stI_wp c E M6 D t 0 r _ rfl) $$ [H6]
  · iapply (ag_mono c M6 ?_) $$ H6
    intro y hy
    exact ⟨by simp at hy; omega, rfl⟩
  iintro H6
  iapply (stI_wp c E M6 D t 1 r _ rfl) $$ [H6]
  · iexact H6
  iintro H6
  iapply (stI_wp c E M6 D t 2 r _ rfl) $$ [H6]
  · iexact H6
  iintro H6
  iapply (ldAny c M7) $$ H7; iintro %_ H7
  iapply (stp c M7 (P' := fun _ => True) (G' := kD D (r.val + 1)) ?_ ?_) $$ H7
  · intro i
    rw [shapeCast_self]
    exact (congrArg (kD D (r.val + 1)) (at_whole i)).symm
  · rintro y - ⟨a, ha⟩
    have h0 : (y 0).val < 64 := (y 0).isLt
    have h1 : (y 1).val < 64 := (y 1).isLt
    have h2 : (y 2).val < 64 := (y 2).isLt
    exfalso
    fin_cases a <;> simp at ha <;> omega
  iintro H7
  isplitl [H5]
  · iexact H5
  isplitl [H6]
  · iapply (ag_mono c M6 ?_) $$ H6
    intro y hy
    have h1 : (y 1).val < 3 := (y 1).isLt
    exact ⟨by show _ ∨ _ ∧ (y 1).val < 3; omega, rfl⟩
  · iexact H7

/-- The seven rounds. -/
theorem rounds_wp {h} :
    iprop(any c M5 ∗ any c M6 ∗ own c M7 D)
      ⊢ WP c E (seqFrom (round M5 M6 M7 t) 7 0 h) (fun _ => iprop(own c M5 (outD D) ∗ own c M6 (outI t D) ∗ any c M7)) := by
  iintro ⟨⟨%G5, H5⟩, ⟨%G6, H6⟩, H7⟩
  iapply (wp_wand_r frame (wpE (defs₀ (F := F)) Variants.none (c : Thread nD τ) none) E)
  isplitl [H5 H6 H7]
  · iapply (seqFrom_wp c (round M5 M6 M7 t) (fun r => iprop(ag c M5 (fun y => (y 1).val < r) (outD D) ∗
      ag c M6 (fun y => (y 2).val < r) (outI t D) ∗ own c M7 (kD D r))) (round_wp c E M5 M6 M7 D t) 7 0 h)
    isplitl [H5]
    · iapply (ag_mono c M5 ?_) $$ H5
      intro y hy
      omega
    isplitl [H6]
    · iapply (ag_mono c M6 ?_) $$ H6
      intro y hy
      omega
    · iexact H7
  · iintro %_ ⟨H5, H6, H7⟩
    isplitl [H5]
    · iapply (ag_mono c M5 ?_) $$ H5
      intro y _
      exact ⟨(y 1).isLt, rfl⟩
    isplitl [H6]
    · iapply (ag_mono c M6 ?_) $$ H6
      intro y _
      exact ⟨(y 2).isLt, rfl⟩
    · iexists _; iexact H7

end

section
variable (c : Dev nD) (E : Set ℕ) (i : grid0.Coords) (M2 M3 : Memref sig .tc .vmem S1x1x16x256x256 .f32) (M4 : Memref sig .tc .vmem S264x64 .f32)
  (M5 : Memref sig .tc .vmem S1x7x64x64 .f32) (M6 : Memref sig .tc .vmem S1x3x7x64x64 .i32)
  (M7 : Memref sig .tc .vmem S64x64x64 .f32) (M8 : Memref sig .tc .vmem S16x264x264 .f32) (M9 : Memref sig .tc .vmem S16x272x272 .f32)
  (M10 : Memref sig .tc .vmem S16x272x264 .f32) (M11 : Memref sig .tc .vmem S2x8x264x264 .f32)
  (a b : S1x1x16x256x256.Idx → F .f32) (s : S264x64.Idx → F .f32) (D : S64x64x64.Idx → F .f32)

/-- The distance table with one half of the channels of two frames added. -/
def addHalf : S64x64x64.Idx → F .f32 := addAll (padAv a) (padBv b) s D

/-- The table of zeros. -/
def zeroD : S64x64x64.Idx → F .f32 := fun _ => Scalar.ofBits .f32 0x00000000#32

/-- The inputs and the working buffers. -/
abbrev ins : sProp 𝕄 := iprop(own c M2 a ∗ own c M3 b ∗ own c M4 s)

/-- The working buffers. -/
abbrev works : sProp 𝕄 := iprop(any (F := F) c M8 ∗ any (F := F) c M9 ∗ any (F := F) c M10 ∗ any (F := F) c M11)

/-- The part of the body that every point runs: both frames padded, the eight shifts. -/
theorem core_wp {β : Type} {k : PUnit → KP F β} {Q : β → sProp 𝕄} {h} :
    iprop(ins c M2 M3 M4 a b s ∗ works c M8 M9 M10 M11 ∗ own c M7 D)
      ⊢ iprop((ins c M2 M3 M4 a b s -∗ works c M8 M9 M10 M11 -∗ own c M7 (addHalf a b s D) -∗ WP c E (k ⟨⟩) Q) -∗
        WP c E (ldB M4 ![0, 0] S264x64.size inb_S264x64_S264x64_0_0 h_S264x64 >>= fun v => padA M2 M8 >>= fun _ => padB M3 M9 >>= fun _ =>
          seqFrom (shift M7 M8 M9 M10 M11 (shapeCast S264x64 v shapeCasts_S264x64_S264x64)) 8 0 h >>= k) Q) := by
  iintro ⟨⟨H2, H3, H4⟩, ⟨H8, H9, H10, H11⟩, H7⟩ HK
  iapply (ld c M4 (fun _ => trivial)) $$ H4; iintro H4
  iapply (seq c (padA_wp c E M2 M8 a)) $$ [H2 H8]
  · isplitl [H2]
    · iexact H2
    · iexact H8
  iintro %_ ⟨H2, H8⟩
  iapply (seq c (padB_wp c E M3 M9 b)) $$ [H3 H9]
  · isplitl [H3]
    · iexact H3
    · iexact H9
  iintro %_ ⟨H3, H9⟩
  rw [show (shapeCast S264x64 (fun j => s (at_ ![0, 0] S264x64.size inb_S264x64_S264x64_0_0 j)) shapeCasts_S264x64_S264x64) = s from
    funext fun j => by rw [shapeCast_self]; exact congrArg s (at_whole j)]
  iapply (seq c (shifts_wp c E M7 M8 M9 M10 M11 (padAv a) (padBv b) s D)) $$ [H7 H8 H9 H10 H11]
  · isplitl [H8]
    · iexact H8
    isplitl [H9]
    · iexact H9
    isplitl [H10]
    · iexact H10
    isplitl [H11]
    · iexact H11
    · iexact H7
  iintro %_ ⟨H8, H9, H10, H11, H7⟩
  iapply HK $$ [H2 H3 H4] [H8 H9 H10 H11] [H7]
  · isplitl [H2]
    · iexact H2
    isplitl [H3]
    · iexact H3
    · iexact H4
  · isplitl [H8]
    · iexists _; iexact H8
    isplitl [H9]
    · iexists _; iexact H9
    isplitl [H10]
    · iexact H10
    · iexact H11
  · iexact H7

/-- The body at a point of the first half of the channels. -/
theorem bodyL_first (c1 : Scalar.cmpi .ne (Scalar.extui (Scalar.cmpi .eq (BitVec.ofNat 32 (i 1).val) 0#32) : BitVec 32) 0#32 = 1#1)
    (c2 : ¬ k0_cond2 i = 1#1) :
    iprop(ins c M2 M3 M4 a b s ∗ works c M8 M9 M10 M11 ∗ any (F := F) c M7)
      ⊢ WP c E (bodyL i M2 M3 M4 M5 M6 M7 M8 M9 M10 M11) (fun _ => iprop(ins c M2 M3 M4 a b s ∗ works c M8 M9 M10 M11 ∗
        own c M7 (addHalf a b s zeroD))) := by
  unfold bodyL
  simp only [c1, c2, ↓reduceIte]
  iintro ⟨HI, HW, ⟨%G7, H7⟩⟩
  have hz : own c M7 G7 ⊢ WP c E (ldB M7 ![0, 0, 0] S64x64x64.size inb_S64x64x64_S64x64x64_0_0_0 h_S64x64x64 >>= fun _ =>
      stB M7 ![0, 0, 0] S64x64x64.size inb_S64x64x64_S64x64x64_0_0_0 h_S64x64x64 rfl
        (shapeCast S64x64x64 (broadcast S64x64x64 (Scalar.ofBits .f32 0x00000000#32)) shapeCasts_S64x64x64_S64x64x64)) (fun _ => own c M7 (zeroD (F := F))) := by
    iintro H7
    iapply (ldAny c M7) $$ H7; iintro %_ H7
    iapply (stp c M7 (P' := fun _ => True) (G' := zeroD) ?_ ?_) $$ H7
    · intro i
      rw [shapeCast_self]
      rfl
    · rintro y - ⟨a, ha⟩
      have h0 : (y 0).val < 64 := (y 0).isLt
      have h1 : (y 1).val < 64 := (y 1).isLt
      have h2 : (y 2).val < 64 := (y 2).isLt
      exfalso
      fin_cases a <;> simp at ha <;> omega
    iintro H7
    iexact H7
  iapply (seq c hz) $$ H7
  iintro %_ H7
  iapply (core_wp c E M2 M3 M4 M7 M8 M9 M10 M11 a b s zeroD) $$ [HI HW H7]
  · isplitl [HI]
    · iexact HI
    isplitl [HW]
    · iexact HW
    · iexact H7
  iintro HI HW H7
  iapply (fin c)
  isplitl [HI]
  · iexact HI
  isplitl [HW]
  · iexact HW
  · iexact H7

/-- The body at a point of the second half of the channels. -/
theorem bodyL_second (c1 : ¬ Scalar.cmpi .ne (Scalar.extui (Scalar.cmpi .eq (BitVec.ofNat 32 (i 1).val) 0#32) : BitVec 32) 0#32 = 1#1)
    (c2 : k0_cond2 i = 1#1) :
    iprop(ins c M2 M3 M4 a b s ∗ works c M8 M9 M10 M11 ∗ own c M7 D ∗ any (F := F) c M5 ∗ any (F := F) c M6)
      ⊢ WP c E (bodyL i M2 M3 M4 M5 M6 M7 M8 M9 M10 M11) (fun _ => iprop(ins c M2 M3 M4 a b s ∗ works c M8 M9 M10 M11 ∗ any (F := F) c M7 ∗
        own c M5 (outD (addHalf a b s D)) ∗ own c M6 (outI (BitVec.ofNat 32 (i 0).val) (addHalf a b s D)))) := by
  unfold bodyL
  simp only [c1, c2, ↓reduceIte]
  iintro ⟨HI, HW, H7, H5, H6⟩
  iapply (core_wp c E M2 M3 M4 M7 M8 M9 M10 M11 a b s D) $$ [HI HW H7]
  · isplitl [HI]
    · iexact HI
    isplitl [HW]
    · iexact HW
    · iexact H7
  iintro HI HW H7
  iapply (wp_wand_r frame (wpE (defs₀ (F := F)) Variants.none (c : Thread nD τ) none) E)
  isplitl [H7 H5 H6]
  · iapply (rounds_wp c E M5 M6 M7 (addHalf a b s D) (BitVec.ofNat 32 (i 0).val))
    isplitl [H5]
    · iexact H5
    isplitl [H6]
    · iexact H6
    · iexact H7
  · iintro %_ ⟨H5, H6, H7⟩
    isplitl [HI]
    · iexact HI
    isplitl [HW]
    · iexact HW
    isplitl [H7]
    · iexact H7
    isplitl [H5]
    · iexact H5
    · iexact H6

end

end Cert.Proof

end
-- ==== Proof.KEqA.lean ====
module

public import proofs.«01_k».proof.Proof.KProg

@[expose] public section

set_option maxRecDepth 1000000

noncomputable section

/-! At the first half of the channels, the printed body is the program of loops. -/

namespace Cert.Proof

open Cert.KernelIdeal Cert.KernelIdeal.Gen
open Idealize.ShloMosaic
open Idealize.ShloMosaic.TcCoe
open Idealize.SL Idealize.SL.Sem

variable {F : FTy → Type} [FloatOps F]

set_option maxHeartbeats 4000000 in
/-- At the first half of the channels, the printed body is the program of loops. -/
theorem body_eq_first (i : grid0.Coords) (M2 h2 M3 h3 M4 h4 M5 h5 M6 h6 M7 h7 M8 h8 M9 h9 M10 h10 M11 h11)
    (c1 :  Scalar.cmpi .ne (Scalar.extui (Scalar.cmpi .eq (BitVec.ofNat 32 (i 1).val) 0#32) : BitVec 32) 0#32 = 1#1)
    (c2 : ¬ k0_cond2 i = 1#1) :
    @cc0__body F _ _ i M2 h2 M3 h3 M4 h4 M5 h5 M6 h6 M7 h7 M8 h8 M9 h9 M10 h10 M11 h11 = bodyL i M2 M3 M4 M5 M6 M7 M8 M9 M10 M11 := by
  simp only [cc0__body_eq_skeleton, cc0__body_skel,
    k0_part97_eq_skeleton, k0_part97_skel, k0_part98_eq_skeleton, k0_part98_skel, k0_part99_eq_skeleton, k0_part99_skel,
    k0_part100_eq_skeleton, k0_part100_skel, k0_part101_eq_skeleton, k0_part101_skel, k0_part102_eq_skeleton,
    k0_part102_skel, k0_part103_eq_skeleton, k0_part103_skel, k0_part104_eq_skeleton, k0_part104_skel,
    k0_part105_eq_skeleton, k0_part105_skel, k0_part106_eq_skeleton, k0_part106_skel, k0_part107_eq_skeleton,
    k0_part107_skel, k0_part108_eq_skeleton, k0_part108_skel, k0_part109_eq_skeleton, k0_part109_skel,
    k0_part110_eq_skeleton, k0_part110_skel, k0_part111_eq_skeleton, k0_part111_skel, k0_part112_eq_skeleton,
    k0_part112_skel, k0_part113_eq_skeleton, k0_part113_skel, k0_part114_eq_skeleton, k0_part114_skel,
    k0_part115_eq_skeleton, k0_part115_skel, k0_part116_eq_skeleton, k0_part116_skel, k0_part117_eq_skeleton,
    k0_part117_skel, k0_part118_eq_skeleton, k0_part118_skel, k0_part119_eq_skeleton, k0_part119_skel,
    k0_part120_eq_skeleton, k0_part120_skel, k0_part121_eq_skeleton, k0_part121_skel, k0_part122_eq_skeleton,
    k0_part122_skel, k0_part123_eq_skeleton, k0_part123_skel, k0_part124_eq_skeleton, k0_part124_skel,
    k0_part125_eq_skeleton, k0_part125_skel, k0_part126_eq_skeleton, k0_part126_skel, k0_part127_eq_skeleton,
    k0_part127_skel, k0_part128_eq_skeleton, k0_part128_skel, k0_part129_eq_skeleton, k0_part129_skel,
    k0_part130_eq_skeleton, k0_part130_skel, k0_part131_eq_skeleton, k0_part131_skel, k0_part132_eq_skeleton,
    k0_part132_skel, k0_part133_eq_skeleton, k0_part133_skel, k0_part134_eq_skeleton, k0_part134_skel,
    Prog.bind_assoc, Prog.bind_ret, Prog.pure_eq_ret, bodyL, shift, seqFrom, padA, padB, rowA, rowB, colA, colB,
    distRow, c1, c2, ↓reduceDIte, ↓reduceIte]
  repeat (refine bindCongr rfl (fun _ => ?_))
  rfl

end Cert.Proof

end
-- ==== Proof.KEqB.lean ====
module

public import proofs.«01_k».proof.Proof.KProg

@[expose] public section

set_option maxRecDepth 1000000

noncomputable section

/-! At the second half of the channels, the printed body is the program of loops. -/

namespace Cert.Proof

open Cert.KernelIdeal Cert.KernelIdeal.Gen
open Idealize.ShloMosaic
open Idealize.ShloMosaic.TcCoe
open Idealize.SL Idealize.SL.Sem

variable {F : FTy → Type} [FloatOps F]

set_option maxHeartbeats 4000000 in
/-- At the second half of the channels, the printed body is the program of loops. -/
theorem body_eq_second (i : grid0.Coords) (M2 h2 M3 h3 M4 h4 M5 h5 M6 h6 M7 h7 M8 h8 M9 h9 M10 h10 M11 h11)
    (c1 : ¬ Scalar.cmpi .ne (Scalar.extui (Scalar.cmpi .eq (BitVec.ofNat 32 (i 1).val) 0#32) : BitVec 32) 0#32 = 1#1)
    (c2 :  k0_cond2 i = 1#1) :
    @cc0__body F _ _ i M2 h2 M3 h3 M4 h4 M5 h5 M6 h6 M7 h7 M8 h8 M9 h9 M10 h10 M11 h11 = bodyL i M2 M3 M4 M5 M6 M7 M8 M9 M10 M11 := by
  simp only [cc0__body_eq_skeleton, cc0__body_skel,
    k0_part81_eq_skeleton, k0_part81_skel, k0_part82_eq_skeleton, k0_part82_skel, k0_part83_eq_skeleton, k0_part83_skel,
    k0_part84_eq_skeleton, k0_part84_skel, k0_part85_eq_skeleton, k0_part85_skel, k0_part86_eq_skeleton, k0_part86_skel,
    k0_part87_eq_skeleton, k0_part87_skel, k0_part88_eq_skeleton, k0_part88_skel, k0_part89_eq_skeleton, k0_part89_skel,
    k0_part90_eq_skeleton, k0_part90_skel, k0_part91_eq_skeleton, k0_part91_skel, k0_part92_eq_skeleton, k0_part92_skel,
    k0_part93_eq_skeleton, k0_part93_skel, k0_part94_eq_skeleton, k0_part94_skel, k0_part95_eq_skeleton, k0_part95_skel,
    k0_part96_eq_skeleton, k0_part96_skel, k0_part97_eq_skeleton, k0_part97_skel, k0_part98_eq_skeleton, k0_part98_skel,
    k0_part99_eq_skeleton, k0_part99_skel, k0_part100_eq_skeleton, k0_part100_skel, k0_part101_eq_skeleton, k0_part101_skel,
    k0_part102_eq_skeleton, k0_part102_skel, k0_part103_eq_skeleton, k0_part103_skel, k0_part104_eq_skeleton,
    k0_part104_skel, k0_part105_eq_skeleton, k0_part105_skel, k0_part106_eq_skeleton, k0_part106_skel,
    k0_part107_eq_skeleton, k0_part107_skel, k0_part108_eq_skeleton, k0_part108_skel, k0_part109_eq_skeleton,
    k0_part109_skel, k0_part110_eq_skeleton, k0_part110_skel, k0_part111_eq_skeleton, k0_part111_skel,
    k0_part112_eq_skeleton, k0_part112_skel, k0_part113_eq_skeleton, k0_part113_skel, k0_part114_eq_skeleton,
    k0_part114_skel, k0_part115_eq_skeleton, k0_part115_skel, k0_part116_eq_skeleton, k0_part116_skel,
    k0_part117_eq_skeleton, k0_part117_skel, k0_part118_eq_skeleton, k0_part118_skel, k0_part119_eq_skeleton,
    k0_part119_skel, k0_part120_eq_skeleton, k0_part120_skel, k0_part121_eq_skeleton, k0_part121_skel,
    k0_part122_eq_skeleton, k0_part122_skel, k0_part123_eq_skeleton, k0_part123_skel, k0_part124_eq_skeleton,
    k0_part124_skel, k0_part125_eq_skeleton, k0_part125_skel, k0_part126_eq_skeleton, k0_part126_skel,
    k0_part127_eq_skeleton, k0_part127_skel, k0_part128_eq_skeleton, k0_part128_skel, k0_part129_eq_skeleton,
    k0_part129_skel, k0_part130_eq_skeleton, k0_part130_skel, k0_part131_eq_skeleton, k0_part131_skel,
    k0_part132_eq_skeleton, k0_part132_skel, k0_part133_eq_skeleton, k0_part133_skel, k0_part134_eq_skeleton, k0_part134_skel,
    Prog.bind_assoc, Prog.bind_ret, Prog.pure_eq_ret, bodyL, shift, seqFrom, padA, padB, rowA, rowB, colA, colB,
    distRow, round, stI, c1, c2, ↓reduceDIte, ↓reduceIte]
  repeat (refine bindCongr rfl (fun _ => ?_))
  rfl

end Cert.Proof

end
-- ==== Proof.KLaunch.lean ====
module

public import proofs.«01_k».proof.Proof.KBody
public import proofs.«01_k».proof.Proof.KEqA
public import proofs.«01_k».proof.Proof.KEqB
public import proofs.«01_k».proof.Proof.Gen.KernelIdeal.Frame
public import Idealize.ShloMosaic.Lib.Pipeline.Quiescent

@[expose] public section

set_option maxRecDepth 16384

noncomputable section

/-! The kernel's launch: the body at every grid point, and the whole program's run with what it leaves. -/

namespace Cert.Proof

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open Idealize.ShloMosaic.Pipeline
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point `n`. -/
def pt (n : ℕ) : Fin cfg0.N := ⟨n % 6, by show n % 6 < grid0.N; rw [N_0]; omega⟩

theorem pt_val (t : Fin cfg0.N) : pt t.val = t :=
  Fin.ext (Nat.mod_eq_of_lt (by have : t.val < grid0.N := t.isLt; rwa [N_0] at this))

/-- The first frame's block at a point. -/
def blkA (c : Dev nD) (t : Fin cfg0.N) : S1x1x16x256x256.Idx → F .f32 := iblk m c 0 t
/-- The second frame's block at a point. -/
def blkB (c : Dev nD) (t : Fin cfg0.N) : S1x1x16x256x256.Idx → F .f32 := iblk m c 1 t
/-- The band matrix at a point. -/
def blkS (c : Dev nD) (t : Fin cfg0.N) : S264x64.Idx → F .f32 := iblk m c 2 t

/-- The distance table with one point's half of the channels added. -/
def half (c : Dev nD) (t : Fin cfg0.N) (D : S64x64x64.Idx → F .f32) : S64x64x64.Idx → F .f32 :=
  addHalf (blkA m c t) (blkB m c t) (blkS m c t) D

/-- The distance table after the second point of a frame. -/
def full (c : Dev nD) (t : Fin cfg0.N) : S64x64x64.Idx → F .f32 := half m c t (half m c (pt (t.val - 1)) zeroD)

/-- The scratch buffers' memrefs. -/
abbrev w7 : Memref sig .tc .vmem S64x64x64 .f32 := Memref.whole cc0_scratch0
abbrev w8 : Memref sig .tc .vmem S16x264x264 .f32 := Memref.whole cc0_scratch1
abbrev w9 : Memref sig .tc .vmem S16x272x272 .f32 := Memref.whole cc0_scratch2
abbrev w10 : Memref sig .tc .vmem S16x272x264 .f32 := Memref.whole cc0_scratch3
abbrev w11 : Memref sig .tc .vmem S2x8x264x264 .f32 := Memref.whole cc0_scratch4

/-- Between points: the table is known after a frame's first point. -/
def tabΦ (c : Dev nD) (n : ℕ) : sProp 𝕄 :=
  if n % 2 = 1 then own c w7 (half m c (pt (n - 1)) zeroD) else any (F := F) c w7

/-- The invariant between points. -/
def Φ (c : Dev nD) (n : ℕ) : sProp 𝕄 :=
  iprop((works (F := F) c w8 w9 w10 w11 ∗ tabΦ m c n) ∗ ∃ r, prngReg c r)

/-- The proof data: what each window's buffer holds after the body, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outD (full m c t)
    | ⟨4, _⟩ => outI (BitVec.ofNat 32 (grid0.coords t 0).val) (full m c t)
    | ⟨_ + 5, h⟩ => absurd h (Nat.not_lt.2 (Nat.le_add_left _ _))
  Φ t := Φ m c t.val
  q _ := fullShare
  owed _ := 0

theorem A_eq (c : Dev nD) (w : Fin cfg0.W) : (dats m 0 c).A w = V m c (Pipeline.arrRef spec0 w) := by
  dsimp only [dats]

theorem after3 (c : Dev nD) (t : Fin cfg0.N) : (dats m 0 c).after 3 t = outD (full m c t) := by dsimp only [dats]

theorem after4 (c : Dev nD) (t : Fin cfg0.N) :
    (dats m 0 c).after 4 t = outI (BitVec.ofNat 32 (grid0.coords t 0).val) (full m c t) := by dsimp only [dats]

theorem owns_own (c : Dev nD) {S : Shape} {e : EltTy} (M : Memref sig .tc .vmem S e) (X : S.Idx → Elt F e) :
    (owns (c : Thread nD τ) M fullShare X : sProp 𝕄) ⊢ own c M X := by
  unfold owns own ag
  iintro ⟨%f, %hf, H⟩
  iexists f
  isplitr
  · ipureintro; exact fun y _ => congrFun hf y
  · iexact H

theorem own_owns (c : Dev nD) {S : Shape} {e : EltTy} (M : Memref sig .tc .vmem S e) (X : S.Idx → Elt F e) :
    own c M X ⊢ (owns (c : Thread nD τ) M fullShare X : sProp 𝕄) := by
  unfold owns own ag
  iintro ⟨%f, %hf, H⟩
  iexists f
  isplitr
  · ipureintro; exact funext fun y => hf y trivial
  · iexact H

theorem even_c1 : ∀ t : Fin cfg0.N, t.val % 2 = 0 →
    Scalar.cmpi .ne (Scalar.extui (Scalar.cmpi .eq (BitVec.ofNat 32 (grid0.coords t 1).val) 0#32) : BitVec 32) 0#32 = 1#1 := by decide
theorem even_c2 : ∀ t : Fin cfg0.N, t.val % 2 = 0 → ¬ k0_cond2 (grid0.coords t) = 1#1 := by decide
theorem odd_c1 : ∀ t : Fin cfg0.N, t.val % 2 = 1 →
    ¬ Scalar.cmpi .ne (Scalar.extui (Scalar.cmpi .eq (BitVec.ofNat 32 (grid0.coords t 1).val) 0#32) : BitVec 32) 0#32 = 1#1 := by decide
theorem odd_c2 : ∀ t : Fin cfg0.N, t.val % 2 = 1 → k0_cond2 (grid0.coords t) = 1#1 := by decide

/-- The body runs at every point as the proof data say. -/
theorem body_obligation (c : Dev nD) : BodyObligation (dats m 0 c) (defs₀ (F := F)) Variants.none () Set.univ := fun t => by
  rw [bigSep_W0, bigSep_W0]
  simp only [before0_0_of m (dats m 0 c) (A_eq m c 0) (fun _ => rfl), before0_1_of m (dats m 0 c) (A_eq m c 1) (fun _ => rfl),
    before0_2_of m (dats m 0 c) (A_eq m c 2) (fun _ => rfl)]
  rw [show (dats m 0 c).Φ t.castSucc = Φ m c t.val from rfl, show (dats m 0 c).Φ t.succ = Φ m c (t.val + 1) from rfl]
  change _ ⊢ wp frame _ _ (bodyAt0 t) _
  unfold bodyAt0
  rcases Nat.mod_two_eq_zero_or_one t.val with h | h
  · rw [body_eq_first (c1 := even_c1 t h) (c2 := even_c2 t h)]
    have i3 : cfg0.idle 3 (cfg0.grid.coords t) = true := by
      show (!(k0_cond2 (grid0.coords t) == 1#1)) = true
      simp [even_c2 t h]
    have i4 : cfg0.idle 4 (cfg0.grid.coords t) = true := i3
    have f3 : (cfg0.win 3).flush t = false := by
      have := (flush0_3 t).not.2 (by omega); simpa using this
    have f4 : (cfg0.win 4).flush t = false := by
      have := (flush0_4 t).not.2 (by omega); simpa using this
    have i3' : idle0 3 (grid0.coords t) = true := i3
    have i4' : idle0 4 (grid0.coords t) = true := i3
    have f3' : (win0 3).flush t = false := f3
    have f4' : (win0 4).flush t = false := f4
    simp only [i3', i4', f3', f4', f3, f4]
    rw [show Φ m c t.val = iprop((works (F := F) c w8 w9 w10 w11 ∗ any (F := F) c w7) ∗ ∃ r, prngReg c r) by
        unfold Φ tabΦ; rw [if_neg (by omega)],
      show Φ m c (t.val + 1) = iprop((works (F := F) c w8 w9 w10 w11 ∗ own c w7 (half m c t zeroD)) ∗ ∃ r, prngReg c r) by
        unfold Φ tabΦ; rw [if_pos (by omega), Nat.add_sub_cancel, pt_val]]
    iintro ⟨⟨⟨HW, H7⟩, HP⟩, HO, ⟨%d0, H0⟩, ⟨%d1, H1⟩, ⟨%d2, H2⟩, H3, H4⟩
    iapply (wp_wand_r frame (wpE (defs₀ (F := F)) Variants.none (c : Thread nD τ) none) Set.univ)
    isplitl [HW H7 H0 H1 H2]
    · iapply (bodyL_first c Set.univ (grid0.coords t) (st0_0 t) (st0_1 t) (st0_2 t) (st0_3 t) (st0_4 t) w7 w8 w9 w10 w11
        (blkA m c t) (blkB m c t) (blkS m c t) (even_c1 t h) (even_c2 t h))
      isplitl [H0 H1 H2]
      · isplitl [H0]
        · iapply (owns_own c (st0_0 t) (blkA m c t)); iexact H0
        isplitl [H1]
        · iapply (owns_own c (st0_1 t) (blkB m c t)); iexact H1
        · iapply (owns_own c (st0_2 t) (blkS m c t)); iexact H2
      isplitl [HW]
      · iexact HW
      · iexact H7
    · iintro %_ ⟨⟨H0, H1, H2⟩, HW, H7⟩
      isplitl [HW H7 HP]
      · isplitl [HW H7]
        · isplitl [HW]
          · iexact HW
          · iexact H7
        · iexact HP
      isplitl [HO]
      · iexact HO
      isplitl [H0]
      · iapply (own_owns c (st0_0 t) (blkA m c t)); iexact H0
      isplitl [H1]
      · iapply (own_owns c (st0_1 t) (blkB m c t)); iexact H1
      isplitl [H2]
      · iapply (own_owns c (st0_2 t) (blkS m c t)); iexact H2
      isplitl [H3]
      · iexact H3
      · iexact H4
  · rw [body_eq_second (c1 := odd_c1 t h) (c2 := odd_c2 t h)]
    have i3 : cfg0.idle 3 (cfg0.grid.coords t) = false := by
      show (!(k0_cond2 (grid0.coords t) == 1#1)) = false
      simp [odd_c2 t h]
    have i4 : cfg0.idle 4 (cfg0.grid.coords t) = false := i3
    have i3' : idle0 3 (grid0.coords t) = false := i3
    have i4' : idle0 4 (grid0.coords t) = false := i3
    simp only [i3', i4', after3 m c t, after4 m c t]
    rw [show Φ m c t.val = iprop((works (F := F) c w8 w9 w10 w11 ∗ own c w7 (half m c (pt (t.val - 1)) zeroD)) ∗ ∃ r, prngReg c r) by
        unfold Φ tabΦ; rw [if_pos h],
      show Φ m c (t.val + 1) = iprop((works (F := F) c w8 w9 w10 w11 ∗ any (F := F) c w7) ∗ ∃ r, prngReg c r) by
        unfold Φ tabΦ; rw [if_neg (by omega)]]
    iintro ⟨⟨⟨HW, H7⟩, HP⟩, HO, ⟨%d0, H0⟩, ⟨%d1, H1⟩, ⟨%d2, H2⟩, ⟨%d3, H3⟩, ⟨%d4, H4⟩⟩
    iapply (wp_wand_r frame (wpE (defs₀ (F := F)) Variants.none (c : Thread nD τ) none) Set.univ)
    isplitl [HW H7 H0 H1 H2 H3 H4]
    · iapply (bodyL_second c Set.univ (grid0.coords t) (st0_0 t) (st0_1 t) (st0_2 t) (st0_3 t) (st0_4 t) w7 w8 w9 w10 w11
        (blkA m c t) (blkB m c t) (blkS m c t) (half m c (pt (t.val - 1)) zeroD) (odd_c1 t h) (odd_c2 t h))
      isplitl [H0 H1 H2]
      · isplitl [H0]
        · iapply (owns_own c (st0_0 t) (blkA m c t)); iexact H0
        isplitl [H1]
        · iapply (owns_own c (st0_1 t) (blkB m c t)); iexact H1
        · iapply (owns_own c (st0_2 t) (blkS m c t)); iexact H2
      isplitl [HW]
      · iexact HW
      isplitl [H7]
      · iexact H7
      isplitl [H3]
      · iexists _; iapply (owns_own c (st0_3 t)); iexact H3
      · iexists _; iapply (owns_own c (st0_4 t)); iexact H4
    · iintro %_ ⟨⟨H0, H1, H2⟩, HW, H7, H3, H4⟩
      isplitl [HW H7 HP]
      · isplitl [HW H7]
        · isplitl [HW]
          · iexact HW
          · iexact H7
        · iexact HP
      isplitl [HO]
      · iexact HO
      isplitl [H0]
      · iapply (own_owns c (st0_0 t) (blkA m c t)); iexact H0
      isplitl [H1]
      · iapply (own_owns c (st0_1 t) (blkB m c t)); iexact H1
      isplitl [H2]
      · iapply (own_owns c (st0_2 t) (blkS m c t)); iexact H2
      isplitl [H3]
      · iapply (own_owns c (st0_3 t) (outD (full m c t))); iexact H3
      · iapply (own_owns c (st0_4 t) (outI (BitVec.ofNat 32 (grid0.coords t 0).val) (full m c t))); iexact H4

/-- A scratch buffer at some contents, as the region holds it. -/
theorem any_whole (c : Dev nD) {S : Shape} {e : EltTy} (M : Memref sig .tc .vmem S e) (hM : M.IsWhole) :
    any (F := F) c M ⊢ iprop(∃ f : Buf (Elt F) (M.view.loc (c : Thread nD τ)), (M.view.loc (c : Thread nD τ)) ↦{fullShare} f) := by
  unfold any ag
  rw [hM.set_eq_univ]
  iintro ⟨%G, %f, -, H⟩
  iexists f
  iexact H

theorem whole_any (c : Dev nD) {S : Shape} {e : EltTy} (M : Memref sig .tc .vmem S e) (hM : M.IsWhole) :
    iprop(∃ f : Buf (Elt F) (M.view.loc (c : Thread nD τ)), (M.view.loc (c : Thread nD τ)) ↦{fullShare} f) ⊢ any (F := F) c M := by
  unfold any ag
  rw [hM.set_eq_univ]
  iintro ⟨%f, H⟩
  iexists M.view.read (Elt F) f
  iexists f
  isplitr
  · ipureintro; exact fun _ _ => rfl
  · iexact H

/-- The whole program's run: every array at the end as the proof data say, every counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => (body_obligation m c).loose) (fun c => (dats m 0 c).share_full fun _ => rfl) (fun _ _ => rfl)
    (V0 m) [hostOps1] sfx_sub sfx_fresh sfx_keeps (hmain m Variants.none) (A_eq m)
    (fun c => by
      rw [show (dats m 0 c).Φ 0 = Φ m c 0 from rfl]
      unfold ΦA Φ tabΦ
      rw [scopedRest0_eq, if_neg (by omega)]
      iintro ⟨⟨H7, H8, H9, H10, H11⟩, HP⟩
      isplitr [HP]
      · isplitr [H7]
        · isplitl [H8]
          · iapply (whole_any c w8 (Memref.isWhole_whole _)); iexact H8
          isplitl [H9]
          · iapply (whole_any c w9 (Memref.isWhole_whole _)); iexact H9
          isplitl [H10]
          · iapply (whole_any c w10 (Memref.isWhole_whole _)); iexact H10
          · iapply (whole_any c w11 (Memref.isWhole_whole _)); iexact H11
        · iapply (whole_any c w7 (Memref.isWhole_whole _)); iexact H7
      · iexact HP)
    (fun c => by
      rw [show (dats m 0 c).Φ (Fin.last cfg0.N) = Φ m c grid0.N from rfl, N_0]
      unfold ΦA Φ tabΦ
      rw [scopedRest0_eq, if_neg (by omega)]
      iintro ⟨⟨⟨H8, H9, H10, H11⟩, H7⟩, HP⟩
      isplitr [HP]
      · isplitl [H7]
        · iapply (any_whole c w7 (Memref.isWhole_whole _)); iexact H7
        isplitl [H8]
        · iapply (any_whole c w8 (Memref.isWhole_whole _)); iexact H8
        isplitl [H9]
        · iapply (any_whole c w9 (Memref.isWhole_whole _)); iexact H9
        isplitl [H10]
        · iapply (any_whole c w10 (Memref.isWhole_whole _)); iexact H10
        · iapply (any_whole c w11 (Memref.isWhole_whole _)); iexact H11
      · iexact HP)
    (Q' := _) (fun _ h => h)

end Cert.Proof

end
-- ==== Proof.KFrame.lean ====
module

public import proofs.«01_k».proof.Defs
public import proofs.«01_k».proof.Proof.KLaunch
public import proofs.«01_k».proof.Proof.Gen.Kernel

@[expose] public section

set_option maxRecDepth 100000

noncomputable section

/-! The kernel's frame claims: it runs, its arguments end unchanged, every semaphore reads zero. -/

namespace Cert.Proof

open Cert.KernelIdeal Cert.KernelIdeal.Gen
open Idealize.ShloMosaic Idealize.ShloMosaic.TcCoe Idealize.SL.Sem

/-- The program's frame, whatever the arithmetic. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) (A_eq m)) (run_main m ρ)

/-- The two printings of the kernel have one body … -/
theorem body_same : @Cert.Kernel.cc0__body Bits _ _ = @Cert.KernelIdeal.cc0__body Bits _ _ := rfl

/-- … and so one body table, -/
theorem defs₀_same : @Cert.Kernel.defs₀ Bits _ _ = @Cert.KernelIdeal.defs₀ Bits _ _ := by
  unfold Cert.Kernel.defs₀ Cert.KernelIdeal.defs₀
  refine congrArg _ ?_
  funext ℓ a
  match ℓ, a with
  | 0, (t, s) => rw [body_same]; rfl

/-- the pipelines included. -/
theorem defs_same : @Cert.Kernel.defs Bits _ _ = @Cert.KernelIdeal.defs Bits _ _ := congrArg _ defs₀_same

/-- The printed kernel is the same program: its frame at the bits. -/
theorem frame_bits : Cert.quiescent_Kernel := by
  intro m ρ _
  rw [defs_same]
  exact frame_any (F := Bits) m ρ

end Cert.Proof

end
-- ==== Proof.RFrame.lean ====
module

public import proofs.«01_k».proof.Defs
public import proofs.«01_k».proof.Proof.Gen.ReferenceIdeal.Run

@[expose] public section

noncomputable section

/-! The reference's frame claim. -/

namespace Cert.Proof

open Idealize.ShloMosaic Idealize.ShloMosaic.TcCoe Idealize.SL.Sem

/-- The reference runs and leaves its arguments as they were; it has no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

end Cert.Proof

end
-- ==== Proof.VBox.lean ====
module

public import proofs.«01_k».proof.Proof.KBody
public import Idealize.ShloMosaic.Lib.Pointwise

@[expose] public section

set_option maxRecDepth 16384

noncomputable section

/-! The boxed sums the kernel adds to a row of the distance table, as sums of real numbers: the band matrix on both
sides of an array adds up its entries over windows of seven by seven. -/

namespace Cert.Proof

open Cert.KernelIdeal Cert.KernelIdeal.Gen
open Idealize.ShloMosaic hiding ix1 ix2 ix3 ix4 ix5 ix6
open Idealize.ShloMosaic.ValueIdx

/-- An entry of the band matrix: one where row `w` is among the seven rows from `4 q` on. -/
def band (w q : ℕ) : ℝ := if 4 * q ≤ w ∧ w ≤ 4 * q + 6 then 1 else 0

/-- The sum of a seven by seven window of an array of numbers. -/
def win (g : ℕ → ℕ → ℝ) (a b : ℕ) : ℝ := ∑ i ∈ Finset.range 7, ∑ j ∈ Finset.range 7, g (a + i) (b + j)

/-- A band column picks seven consecutive entries. -/
theorem band_sum (f : ℕ → ℝ) (q : ℕ) (hq : q < 64) :
    ∑ w : Fin 264, band w.val q * f w.val = ∑ i ∈ Finset.range 7, f (4 * q + i) := by
  rw [Fin.sum_univ_eq_sum_range (fun w => band w q * f w) 264]
  unfold band
  simp only [ite_mul, one_mul, zero_mul]
  rw [← Finset.sum_filter]
  have hs : (Finset.range 264).filter (fun w => 4 * q ≤ w ∧ w ≤ 4 * q + 6) = Finset.Ico (4 * q) (4 * q + 7) := by
    ext w
    simp only [Finset.mem_filter, Finset.mem_range, Finset.mem_Ico]
    omega
  rw [hs, Finset.sum_Ico_eq_sum_range]
  congr 2
  omega

/-- A sum of real numbers, summed among the extended ones. -/
theorem coe_sum {n : ℕ} (f : Fin n → ℝ) : ∑ k : Fin n, ((f k : ℝ) : EReal) = ((∑ k : Fin n, f k : ℝ) : EReal) := by
  induction n with
  | zero => simp
  | succ n ih => rw [Fin.sum_univ_succ, Fin.sum_univ_succ, ih, EReal.coe_add]

theorem mul_left (s : FVec Ideal S264x64 .f32) (g : FVec Ideal S264x264 .f32) (q : Fin 64) (w : Fin 264) :
    matmul dot_S264x64_S264x264_S64x264_0_0_1_1_n_n (some .fp32) s g (constant S64x264 .f32 0x00000000#32) (ix2 q w)
      = ∑ h : Fin 264, s (ix2 h q) * g (ix2 h w) := by
  pointwise [dot_S264x64_S264x264_S64x264_0_0_1_1_n_n]
  rfl

theorem mul_right (s : FVec Ideal S264x64 .f32) (g : FVec Ideal S64x264 .f32) (p q : Fin 64) :
    matmul dot_S64x264_S264x64_S64x64_1_0_0_1_n_n (some .fp32) g s (constant S64x64 .f32 0x00000000#32) (ix2 p q)
      = ∑ w : Fin 264, g (ix2 p w) * s (ix2 w q) := by
  pointwise [dot_S64x264_S264x64_S64x64_1_0_0_1_n_n]
  rfl

/-- Both sides multiplied by the band matrix: the window sums. -/
theorem boxed_eq (s : FVec Ideal S264x64 .f32) (g : FVec Ideal S264x264 .f32) (γ : ℕ → ℕ → ℝ)
    (hs : ∀ (w : Fin 264) (q : Fin 64), s (ix2 w q) = ((band w.val q.val : ℝ) : EReal))
    (hg : ∀ h w : Fin 264, g (ix2 h w) = ((γ h.val w.val : ℝ) : EReal)) (p q : Fin 64) :
    boxed s g (ix2 p q) = ((win γ (4 * p.val) (4 * q.val) : ℝ) : EReal) := by
  unfold boxed
  refine (mul_right s _ p q).trans ?_
  have h1 (w : Fin 264) : matmul dot_S264x64_S264x264_S64x264_0_0_1_1_n_n (some .fp32) s g (constant S64x264 .f32 0x00000000#32) (ix2 p w)
      = ((∑ i ∈ Finset.range 7, γ (4 * p.val + i) w.val : ℝ) : EReal) := by
    refine (mul_left s g p w).trans ?_
    rw [← band_sum (fun h => γ h w.val) p.val p.isLt, ← coe_sum]
    refine Finset.sum_congr rfl fun h _ => ?_
    rw [hs, hg, EReal.coe_mul]
  have h2 : ∀ w : Fin 264, matmul dot_S264x64_S264x264_S64x264_0_0_1_1_n_n (some .fp32) s g (constant S64x264 .f32 0x00000000#32) (ix2 p w) * s (ix2 w q)
      = ((band w.val q.val * ∑ i ∈ Finset.range 7, γ (4 * p.val + i) w.val : ℝ) : EReal) := fun w => by
    rw [h1, hs, ← EReal.coe_mul, mul_comm]
  refine (Finset.sum_congr rfl fun w _ => h2 w).trans ?_
  rw [coe_sum, band_sum (fun w => ∑ i ∈ Finset.range 7, γ (4 * p.val + i) w) q.val q.isLt]
  unfold win
  rw [Finset.sum_comm]

/-- The running sum over the channels. -/
theorem sumCh_eq (A : S16x264x264.Idx → EReal) (B : S16x272x264.Idx → EReal) (α β : ℕ → ℕ → ℕ → ℝ)
    (hA : ∀ (c : Fin 16) (h w : Fin 264), A (ix3 c h w) = ((α c.val h.val w.val : ℝ) : EReal))
    (hB : ∀ (c : Fin 16) (h : Fin 272) (w : Fin 264), B (ix3 c h w) = ((β c.val h.val w.val : ℝ) : EReal))
    (d : Fin 8) (r w : Fin 264) (n : ℕ) :
    sumCh (F := Ideal) A B d r w n = ((∑ c ∈ Finset.range n, α (c % 16) r.val w.val * β (c % 16) (r.val + d.val) w.val : ℝ) : EReal) := by
  induction n with
  | zero =>
    rw [Finset.sum_range_zero]
    exact Ideal.ofBits_zero_f32
  | succ n ih =>
    rw [Finset.sum_range_succ, EReal.coe_add, EReal.coe_mul]
    show (sumCh (F := Ideal) A B d r w n : EReal) + A (ix3 (chAt n) r w) * B (ix3 (chAt n) ⟨r.val + d.val, _⟩ w) = _
    rw [ih, hA, hB]
    rfl

/-- One offset's sums over the channels. -/
theorem offSum_eq (A : S16x264x264.Idx → EReal) (B : S16x272x264.Idx → EReal) (α β : ℕ → ℕ → ℕ → ℝ)
    (hA : ∀ (c : Fin 16) (h w : Fin 264), A (ix3 c h w) = ((α c.val h.val w.val : ℝ) : EReal))
    (hB : ∀ (c : Fin 16) (h : Fin 272) (w : Fin 264), B (ix3 c h w) = ((β c.val h.val w.val : ℝ) : EReal))
    (d : Fin 8) (h w : Fin 264) :
    offSum (F := Ideal) A B d (ix2 h w) = ((∑ c ∈ Finset.range 16, α c h.val w.val * β c (h.val + d.val) w.val : ℝ) : EReal) := by
  refine (sumCh_eq A B α β hA hB d h w 16).trans (congrArg _ (Finset.sum_congr rfl fun c hc => ?_))
  rw [Nat.mod_eq_of_lt (Finset.mem_range.mp hc)]

/-- A row of the table after a half's sums are added to it. -/
theorem addAll_eq (A : S16x264x264.Idx → EReal) (B : S16x272x272.Idx → EReal) (s : FVec Ideal S264x64 .f32) (D : S64x64x64.Idx → EReal)
    (α β : ℕ → ℕ → ℕ → ℝ) (x : ℝ) (o p q : Fin 64)
    (hA : ∀ (c : Fin 16) (h w : Fin 264), A (ix3 c h w) = ((α c.val h.val w.val : ℝ) : EReal))
    (hB : ∀ (c : Fin 16) (h w : Fin 272), B (ix3 c h w) = ((β c.val h.val w.val : ℝ) : EReal))
    (hs : ∀ (w : Fin 264) (q : Fin 64), s (ix2 w q) = ((band w.val q.val : ℝ) : EReal)) (hD : D (ix3 o p q) = (x : EReal)) :
    addAll (F := Ideal) A B s D (ix3 o p q)
      = ((x + win (fun h w => ∑ c ∈ Finset.range 16, α c h w * β c (h + o.val / 8) (w + o.val % 8)) (4 * p.val) (4 * q.val) : ℝ) : EReal) := by
  rw [EReal.coe_add]
  refine congrArg₂ (fun a b : EReal => a + b) hD ?_
  exact boxed_eq s _ _ hs (fun h w => offSum_eq A _ α (fun c h w => β c h (w + o.val % 8)) hA (fun c h w => hB c h ⟨w.val + o.val % 8, by omega⟩)
    ⟨o.val / 8, by omega⟩ h w) p q

end Cert.Proof

end
-- ==== Proof.VTab.lean ====
module

public import proofs.«01_k».proof.Proof.VBox

@[expose] public section

set_option maxRecDepth 16384

noncomputable section

/-! The distance table both programs compute, as sums of real numbers over the two videos. -/

namespace Cert.Proof

open Idealize.ShloMosaic hiding ix1 ix2 ix3 ix4 ix5 ix6
open Idealize.ShloMosaic.ValueIdx

/-- A video's shape. -/
abbrev Vid : Shape := ⟨5, ![1, 3, 32, 256, 256]⟩

/-- A video's number at frame `t`, channel `c`, row `r` and column `w`. -/
def rdx (x : Vid.Idx → EReal) (t c r w : ℕ) : ℝ :=
  (x (ix5 0 ⟨t % 3, Nat.mod_lt _ (by decide)⟩ ⟨c % 32, Nat.mod_lt _ (by decide)⟩ ⟨r % 256, Nat.mod_lt _ (by decide)⟩
    ⟨w % 256, Nat.mod_lt _ (by decide)⟩)).toReal

/-- Every number of the video is finite. -/
def AllReal (x : Vid.Idx → EReal) : Prop := ∀ i, x i = ((x i).toReal : EReal)

theorem AllReal.at {x : Vid.Idx → EReal} (h : AllReal x) (t : Fin 3) (c : Fin 32) (r w : Fin 256) :
    x (ix5 0 t c r w) = ((rdx x t.val c.val r.val w.val : ℝ) : EReal) := by
  refine (h _).trans ?_
  unfold rdx
  congr 4
  · exact Fin.ext (Nat.mod_eq_of_lt t.isLt).symm
  · exact Fin.ext (Nat.mod_eq_of_lt c.isLt).symm
  · exact Fin.ext (Nat.mod_eq_of_lt r.isLt).symm
  · exact Fin.ext (Nat.mod_eq_of_lt w.isLt).symm

/-- One channel's product of the padded frames, the second shifted by the offset `o`. -/
def prd (a b : Vid.Idx → EReal) (t o c h w : ℕ) : ℝ :=
  rdx a t c (reA h) (reA w) * rdx b t c (reB (h + o / 8)) (reB (w + o % 8))

/-- The products summed over the channels. -/
def gram (a b : Vid.Idx → EReal) (t o h w : ℕ) : ℝ := ∑ c ∈ Finset.range 32, prd a b t o c h w

/-- The patch distance of the query `(p, q)` of frame `t` at the offset `o`. -/
def box (a b : Vid.Idx → EReal) (t o p q : ℕ) : ℝ := win (gram a b t o) (4 * p) (4 * q)

theorem win_add (f g : ℕ → ℕ → ℝ) (a b : ℕ) : win f a b + win g a b = win (fun h w => f h w + g h w) a b := by
  unfold win
  simp only [Finset.sum_add_distrib]

theorem gram_halves (a b : Vid.Idx → EReal) (t o h w : ℕ) :
    (∑ c ∈ Finset.range 16, prd a b t o c h w) + ∑ c ∈ Finset.range 16, prd a b t o (16 + c) h w = gram a b t o h w := by
  unfold gram
  exact (Finset.sum_range_add (fun c => prd a b t o c h w) 16 16).symm

end Cert.Proof

end
-- ==== Proof.VRead.lean ====
module

public import proofs.«01_k».proof.Proof.VTab
public import proofs.«01_k».proof.Proof.KLaunch
public import Idealize.ShloMosaic.Lib.Pipeline.ValueKit

@[expose] public section

set_option maxRecDepth 16384

noncomputable section

/-! What the kernel's launch reads: the blocks of the two videos and the band matrix; and the distance table of a frame. -/

namespace Cert.Proof

open Cert.KernelIdeal Cert.KernelIdeal.Gen
open Idealize.ShloMosaic hiding ix1 ix2 ix3 ix4 ix5 ix6
open Idealize.ShloMosaic.ValueIdx
open Idealize.ShloMosaic.TcCoe Idealize.ShloMosaic.Tactic

variable (m : (ℓ : Loc nD τ sig) → Buf (Elt Ideal) ℓ) (c : Dev nD)

theorem lt6 (t : Fin cfg0.N) : t.val < 6 := by
  have : t.val < grid0.N := t.isLt
  rwa [N_0] at this

theorem index0 : ∀ t : Fin cfg0.N, win0_0.index t = ![0, t.val / 2, t.val % 2, 0, 0] := by decide +kernel
theorem index1 : ∀ t : Fin cfg0.N, win0_1.index t = ![0, t.val / 2, t.val % 2, 0, 0] := by decide +kernel
theorem index2 : ∀ t : Fin cfg0.N, win0_2.index t = ![0, 0] := by decide +kernel

/-- The first video's block at a point: the frame's half of the channels. -/
theorem blkA_apply (t : Fin cfg0.N) (ch : Fin 16) (r w : Fin 256) :
    blkA m c t (ix5 0 0 ch r w) = (m ((c : Thread nD τ).loc main_arg0))
      (ix5 0 ⟨t.val / 2, by have := lt6 t; omega⟩ ⟨16 * (t.val % 2) + ch.val, by omega⟩ r w) := by
  rw [← V_main_arg0 m c]
  unfold blkA
  have e := index0 t
  blk_ext [iblk, e]
  show t.val % 2 * 16 + ch.val = _
  omega

/-- The second video's block at a point. -/
theorem blkB_apply (t : Fin cfg0.N) (ch : Fin 16) (r w : Fin 256) :
    blkB m c t (ix5 0 0 ch r w) = (m ((c : Thread nD τ).loc main_arg1))
      (ix5 0 ⟨t.val / 2, by have := lt6 t; omega⟩ ⟨16 * (t.val % 2) + ch.val, by omega⟩ r w) := by
  rw [← V_main_arg1 m c]
  unfold blkB
  have e := index1 t
  blk_ext [iblk, e]
  show t.val % 2 * 16 + ch.val = _
  omega

theorem blkS_apply (t : Fin cfg0.N) (w : Fin 264) (q : Fin 64) : blkS m c t (ix2 w q) = V m c main_v17 (ix2 w q) := by
  unfold blkS
  have e := index2 t
  blk_ext [iblk, e]

/-- A word standing for a small number, as an integer. -/
theorem int_small (n : ℕ) (h : n < 1000) : (BitVec.ofNat 32 n).toInt = n := by
  rw [BitVec.toInt_eq_toNat_of_lt] <;> simp <;> omega

/-- Comparing two words that stand for small numbers. -/
theorem sle_small (a b : ℕ) (ha : a < 1000) (hb : b < 1000) : (BitVec.ofNat 32 a).sle (BitVec.ofNat 32 b) = decide (a ≤ b) := by
  rw [BitVec.sle_eq_decide, int_small a ha, int_small b hb]
  simp

theorem four_mul (q : ℕ) : BitVec.ofNat 32 q * 4#32 = BitVec.ofNat 32 (4 * q) := by
  rw [← BitVec.ofNat_mul, Nat.mul_comm]

/-- The comparisons that make the band matrix. -/
theorem band_word (w q : ℕ) (hw : w < 264) (hq : q < 64) :
    IntOp.andi (IntOp.cmpi CmpIPredicate.sge (BitVec.ofNat 32 w) (IntOp.muli (BitVec.ofNat 32 q) 4#32))
        (IntOp.cmpi CmpIPredicate.sle (BitVec.ofNat 32 w)
          (IntOp.subi (IntOp.addi (IntOp.muli (BitVec.ofNat 32 q) 4#32) 7#32) 1#32))
      = if 4 * q ≤ w ∧ w ≤ 4 * q + 6 then 1#1 else 0#1 := by
  have e1 : IntOp.muli (BitVec.ofNat 32 q) 4#32 = BitVec.ofNat 32 (4 * q) := four_mul q
  have e2 : IntOp.subi (IntOp.addi (BitVec.ofNat 32 (4 * q)) 7#32) 1#32 = BitVec.ofNat 32 (4 * q + 6) := by
    show BitVec.ofNat 32 (4 * q) + 7#32 - 1#32 = _
    apply BitVec.eq_of_toNat_eq
    simp
    omega
  rw [e1, e2]
  show BitVec.ofBool ((BitVec.ofNat 32 (4 * q)).sle (BitVec.ofNat 32 w))
    &&& BitVec.ofBool ((BitVec.ofNat 32 w).sle (BitVec.ofNat 32 (4 * q + 6))) = _
  rw [sle_small _ _ (by omega) (by omega), sle_small _ _ (by omega) (by omega)]
  by_cases h1 : 4 * q ≤ w <;> by_cases h2 : w ≤ 4 * q + 6 <;> simp [h1, h2]

/-- The band matrix as the host computes it. -/
theorem V_band (w : Fin 264) (q : Fin 64) : V m c main_v17 (ix2 w q) = ((band w.val q.val : ℝ) : EReal) := by
  unfold V V0
  simp only [List.flatten_cons, List.flatten_nil, List.append_nil, hostOps0]
  after_results
  pointwise
  refine (congrArg (fun b : BitVec 1 => ((b.toNat : ℝ) : EReal)) (band_word w.val q.val w.isLt q.isLt)).trans ?_
  unfold band
  split <;> simp

/-- One half's sums for a frame: the channels from `16 h` on. -/
theorem half_apply (hA : AllReal (m ((c : Thread nD τ).loc main_arg0))) (hB : AllReal (m ((c : Thread nD τ).loc main_arg1)))
    (t : Fin cfg0.N) (D : S64x64x64.Idx → EReal) (x : ℝ) (o p q : Fin 64) (hD : D (ix3 o p q) = (x : EReal)) :
    half m c t D (ix3 o p q) = ((x + win (fun h w => ∑ k ∈ Finset.range 16,
      prd (m ((c : Thread nD τ).loc main_arg0)) (m ((c : Thread nD τ).loc main_arg1)) (t.val / 2) o.val (16 * (t.val % 2) + k) h w)
        (4 * p.val) (4 * q.val) : ℝ) : EReal) := by
  unfold half addHalf
  have ht := lt6 t
  refine addAll_eq _ _ _ D
    (fun k h w => rdx (m ((c : Thread nD τ).loc main_arg0)) (t.val / 2) (16 * (t.val % 2) + k) (reA h) (reA w))
    (fun k h w => rdx (m ((c : Thread nD τ).loc main_arg1)) (t.val / 2) (16 * (t.val % 2) + k) (reB h) (reB w))
    x o p q (fun k h w => ?_) (fun k h w => ?_) (fun w q => ?_) hD
  · refine Eq.trans (blkA_apply m c t k ⟨reA h.val, reA_lt h.isLt⟩ ⟨reA w.val, reA_lt w.isLt⟩) (hA.at _ _ _ _)
  · refine Eq.trans (blkB_apply m c t k ⟨reB h.val, reB_lt h.isLt⟩ ⟨reB w.val, reB_lt w.isLt⟩) (hB.at _ _ _ _)
  · exact (blkS_apply m c t w q).trans (V_band m c w q)

/-- The distance table of a frame, once both halves are in. -/
theorem full_apply (hA : AllReal (m ((c : Thread nD τ).loc main_arg0))) (hB : AllReal (m ((c : Thread nD τ).loc main_arg1)))
    (t : Fin cfg0.N) (ht : t.val % 2 = 1) (o p q : Fin 64) :
    full m c t (ix3 o p q)
      = ((box (m ((c : Thread nD τ).loc main_arg0)) (m ((c : Thread nD τ).loc main_arg1)) (t.val / 2) o.val p.val q.val : ℝ) : EReal) := by
  have h6 := lt6 t
  have hp : (pt (t.val - 1)).val = t.val - 1 := by
    show (t.val - 1) % 6 = _
    omega
  have h0 : (zeroD (F := Ideal)) (ix3 o p q) = ((0 : ℝ) : EReal) := Ideal.ofBits_zero_f32.trans EReal.coe_zero.symm
  have h1 := half_apply m c hA hB (pt (t.val - 1)) (zeroD (F := Ideal)) 0 o p q h0
  have h2 := half_apply m c hA hB t (half m c (pt (t.val - 1)) (zeroD (F := Ideal))) _ o p q h1
  unfold full
  refine h2.trans (congrArg _ ?_)
  rw [hp, show (t.val - 1) / 2 = t.val / 2 by omega, show (t.val - 1) % 2 = 0 by omega, ht, zero_add, win_add]
  unfold box
  congr 1
  funext h w
  rw [← gram_halves]
  simp only [Nat.mul_zero, Nat.zero_add, Nat.mul_one]

end Cert.Proof

end
-- ==== Proof.VOut.lean ====
module

public import proofs.«01_k».proof.Proof.VRead

@[expose] public section

set_option maxRecDepth 16384

noncomputable section

/-! What the kernel's run leaves: the two arrays the launch writes, and the two results the host lines make of them. -/

namespace Cert.Proof

open Cert.KernelIdeal Cert.KernelIdeal.Gen
open Idealize.ShloMosaic hiding ix1 ix2 ix3 ix4 ix5 ix6
open Idealize.ShloMosaic.ValueIdx
open Idealize.ShloMosaic.TcCoe Idealize.ShloMosaic.Tactic

variable (m : (ℓ : Loc nD τ sig) → Buf (Elt Ideal) ℓ) (c : Dev nD)

/-- The point that finishes a frame. -/
def lastPt (t : Fin 3) : Fin cfg0.N := ⟨2 * t.val + 1, by have : cfg0.N = 6 := N_0; omega⟩

theorem index3 : ∀ t : Fin cfg0.N, win0_3.index t = ![t.val / 2, 0, 0, 0] := by decide +kernel
theorem index4 : ∀ t : Fin cfg0.N, win0_4.index t = ![t.val / 2, 0, 0, 0, 0] := by decide +kernel
theorem coord_half : ∀ t : Fin cfg0.N, (grid0.coords t 0).val = t.val / 2 := by decide +kernel

/-- A frame's distance table. -/
def tab (t : Fin 3) : FVec Ideal S64x64x64 .f32 := full m c (lastPt t)

/-- The distances the launch writes. -/
def G3 : S3x7x64x64.Idx → Elt Ideal .f32 := fun y => outD (tab m c (y 0)) (ix4 0 (y 1) (y 2) (y 3))

/-- The positions the launch writes. -/
def G4 : S3x3x7x64x64.Idx → Elt Ideal .i32 := fun y =>
  outI (BitVec.ofNat 32 (y 0).val) (tab m c (y 0)) (ix5 0 (y 1) (y 2) (y 3) (y 4))

theorem arr3 : (dats m 0 c).arrAt 3 cfg0.N = G3 m c := by
  refine (dats m 0 c).arrAt_eq_of_covers 3 _ (by decide +kernel) fun t hf y => ?_
  have e := index3 t
  have hodd : t.val % 2 = 1 := (flush0_3 t).mp hf
  have h0 : (((win0_3.blk t).view.emb y) 0).val = t.val / 2 := by
    blk_simp [e]
  have h1 : (((win0_3.blk t).view.emb y) 1) = (y 1) := Fin.ext (by blk_simp [e])
  have h2 : (((win0_3.blk t).view.emb y) 2) = (y 2) := Fin.ext (by blk_simp [e])
  have h3 : (((win0_3.blk t).view.emb y) 3) = (y 3) := Fin.ext (by blk_simp [e])
  have ht : lastPt (((win0_3.blk t).view.emb y) 0) = t := Fin.ext (by
    show 2 * (((win0_3.blk t).view.emb y) 0).val + 1 = t.val
    omega)
  blk_simp
  rw [after3]
  show _ = kmax (kD (full m c (lastPt (((win0_3.blk t).view.emb y) 0))) (((win0_3.blk t).view.emb y) 1).val)
    (ix2 (((win0_3.blk t).view.emb y) 2) (((win0_3.blk t).view.emb y) 3))
  rw [ht, h1, h2, h3]
  rfl

theorem arr4 : (dats m 0 c).arrAt 4 cfg0.N = G4 m c := by
  refine (dats m 0 c).arrAt_eq_of_covers 4 _ (by decide +kernel) fun t hf y => ?_
  have e := index4 t
  have hodd : t.val % 2 = 1 := (flush0_4 t).mp hf
  have h0 : (((win0_4.blk t).view.emb y) 0).val = t.val / 2 := by
    blk_simp [e]
  have h1 : (((win0_4.blk t).view.emb y) 1) = (y 1) := Fin.ext (by blk_simp [e])
  have h2 : (((win0_4.blk t).view.emb y) 2) = (y 2) := Fin.ext (by blk_simp [e])
  have h3 : (((win0_4.blk t).view.emb y) 3) = (y 3) := Fin.ext (by blk_simp [e])
  have h4 : (((win0_4.blk t).view.emb y) 4) = (y 4) := Fin.ext (by blk_simp [e])
  have ht : lastPt (((win0_4.blk t).view.emb y) 0) = t := Fin.ext (by
    show 2 * (((win0_4.blk t).view.emb y) 0).val + 1 = t.val
    omega)
  blk_simp
  rw [after4, coord_half]
  show _ = Cert.Proof.coord (BitVec.ofNat 32 (((win0_4.blk t).view.emb y) 0).val) (full m c (lastPt (((win0_4.blk t).view.emb y) 0)))
    (((win0_4.blk t).view.emb y) 1).val (((win0_4.blk t).view.emb y) 2).val
    (ix2 (((win0_4.blk t).view.emb y) 3) (((win0_4.blk t).view.emb y) 4))
  rw [ht, h0, h1, h2, h3, h4]
  rfl

/-- The contents the host lines after the launch start from. -/
theorem exit3 : Pipeline.withArrays spec0 c (V0 m c) (fun w => (dats m 0 c).arrAt w cfg0.N) (Proc.devRef .tc main_v18_0) = G3 m c :=
  (Pipeline.withArrays_arr spec0 (by decide) c _ _ 3).trans (arr3 m c)

theorem exit4 : Pipeline.withArrays spec0 c (V0 m c) (fun w => (dats m 0 c).arrAt w cfg0.N) (Proc.devRef .tc main_v18_1) = G4 m c :=
  (Pipeline.withArrays_arr spec0 (by decide) c _ _ 4).trans (arr4 m c)

/-- The first result in terms of the array the launch wrote. -/
theorem tail21 : Pipeline.afterTail₀ cfgs (dats m) 0 (V0 m) [hostOps1] c main_v21
    = shapeCast S1x1x12288x7 (transpose S3x4096x7 [0, 2, 1] (shapeCast S3x7x4096 (G3 m c) shapeCasts_S3x7x64x64_S3x7x4096) transposes_S3x7x4096_S3x4096x7_0_2_1) shapeCasts_S3x4096x7_S1x1x12288x7 := by
  rw [← exit3 m c]
  unfold Pipeline.afterTail₀
  generalize Pipeline.withArrays (cfgs 0).spec c (V0 m c) (fun w => (dats m 0 c).arrAt w (cfgs 0).N) = W
  simp only [List.flatten_cons, List.flatten_nil, List.append_nil, hostOps1]
  after_results
  rfl

/-- The second result in terms of the array the launch wrote. -/
theorem tail24 : Pipeline.afterTail₀ cfgs (dats m) 0 (V0 m) [hostOps1] c main_v24
    = shapeCast S1x1x12288x7x3 (transpose S3x4096x7x3 [0, 3, 2, 1] (shapeCast S3x3x7x4096 (G4 m c) shapeCasts_S3x3x7x64x64_S3x3x7x4096) transposes_S3x3x7x4096_S3x4096x7x3_0_3_2_1) shapeCasts_S3x4096x7x3_S1x1x12288x7x3 := by
  rw [← exit4 m c]
  unfold Pipeline.afterTail₀
  generalize Pipeline.withArrays (cfgs 0).spec c (V0 m c) (fun w => (dats m 0 c).arrAt w (cfgs 0).N) = W
  simp only [List.flatten_cons, List.flatten_nil, List.append_nil, hostOps1]
  after_results
  rfl

/-- A query's place among the twelve thousand. -/
def query (t : Fin 3) (p q : Fin 64) : Fin 12288 := ⟨t.val * 4096 + p.val * 64 + q.val, by omega⟩

theorem cast3a {α : Type} (x : S3x7x64x64.Idx → α) (t : Fin 3) (n : Fin 7) (p q : Fin 64) :
    shapeCast S3x7x4096 x shapeCasts_S3x7x64x64_S3x7x4096 (ix3 t n ⟨p.val * 64 + q.val, by omega⟩) = x (ix4 t n p q) := by
  refine shapeCast_apply x _ _ (ix4 t n p q) ?_
  rw [Shape.rowMajor_val_three, Shape.rowMajor_val_four]
  show (((t.val * 7 + n.val) * 64 + p.val) * 64 + q.val) = (t.val * 7 + n.val) * 4096 + (p.val * 64 + q.val)
  omega

theorem cast3b {α : Type} (x : S3x4096x7.Idx → α) (t : Fin 3) (n : Fin 7) (p q : Fin 64) :
    shapeCast S1x1x12288x7 x shapeCasts_S3x4096x7_S1x1x12288x7 (ix4 0 0 (query t p q) n) = x (ix3 t ⟨p.val * 64 + q.val, by omega⟩ n) := by
  refine shapeCast_apply x _ _ (ix3 t ⟨p.val * 64 + q.val, by omega⟩ n) ?_
  rw [Shape.rowMajor_val_three, Shape.rowMajor_val_four]
  show (t.val * 4096 + (p.val * 64 + q.val)) * 7 + n.val = ((0 * 1 + 0) * 12288 + (t.val * 4096 + p.val * 64 + q.val)) * 7 + n.val
  omega

theorem cast4a {α : Type} (x : S3x3x7x64x64.Idx → α) (t a : Fin 3) (n : Fin 7) (p q : Fin 64) :
    shapeCast S3x3x7x4096 x shapeCasts_S3x3x7x64x64_S3x3x7x4096 (ix4 t a n ⟨p.val * 64 + q.val, by omega⟩) = x (ix5 t a n p q) := by
  refine shapeCast_apply x _ _ (ix5 t a n p q) ?_
  rw [Shape.rowMajor_val_four, Shape.rowMajor_val_five]
  show ((((t.val * 3 + a.val) * 7 + n.val) * 64 + p.val) * 64 + q.val) = ((t.val * 3 + a.val) * 7 + n.val) * 4096 + (p.val * 64 + q.val)
  omega

theorem cast4b {α : Type} (x : S3x4096x7x3.Idx → α) (t a : Fin 3) (n : Fin 7) (p q : Fin 64) :
    shapeCast S1x1x12288x7x3 x shapeCasts_S3x4096x7x3_S1x1x12288x7x3 (ix5 0 0 (query t p q) n a) = x (ix4 t ⟨p.val * 64 + q.val, by omega⟩ n a) := by
  refine shapeCast_apply x _ _ (ix4 t ⟨p.val * 64 + q.val, by omega⟩ n a) ?_
  rw [Shape.rowMajor_val_four, Shape.rowMajor_val_five]
  show ((t.val * 4096 + (p.val * 64 + q.val)) * 7 + n.val) * 3 + a.val = (((0 * 1 + 0) * 12288 + (t.val * 4096 + p.val * 64 + q.val)) * 7 + n.val) * 3 + a.val
  omega

theorem swap3 {α : Type} (x : S3x7x4096.Idx → α) (t : Fin 3) (r : Fin 4096) (n : Fin 7) :
    transpose S3x4096x7 [0, 2, 1] x transposes_S3x7x4096_S3x4096x7_0_2_1 (ix3 t r n) = x (ix3 t n r) :=
  transpose_apply _ _ _ _ (ix3 t n r) (fun a => match a with | 0 => rfl | 1 => rfl | 2 => rfl)

theorem swap4 {α : Type} (x : S3x3x7x4096.Idx → α) (t a : Fin 3) (r : Fin 4096) (n : Fin 7) :
    transpose S3x4096x7x3 [0, 3, 2, 1] x transposes_S3x3x7x4096_S3x4096x7x3_0_3_2_1 (ix4 t r n a) = x (ix4 t a n r) :=
  transpose_apply _ _ _ _ (ix4 t a n r) (fun a => match a with | 0 => rfl | 1 => rfl | 2 => rfl | 3 => rfl)

/-- The first result: a query's `n`-th chosen distance. -/
theorem out21 (t : Fin 3) (n : Fin 7) (p q : Fin 64) : Pipeline.afterTail₀ cfgs (dats m) 0 (V0 m) [hostOps1] c main_v21 (ix4 0 0 (query t p q) n)
    = kmax (kD (tab m c t) n.val) (ix2 p q) := by
  refine (congrFun (tail21 m c) _).trans ((cast3b _ t n p q).trans ?_)
  refine (swap3 _ t _ n).trans ?_
  exact cast3a _ t n p q

/-- The second result: a query's `n`-th chosen position, coordinate by coordinate. -/
theorem out24 (t a : Fin 3) (n : Fin 7) (p q : Fin 64) : Pipeline.afterTail₀ cfgs (dats m) 0 (V0 m) [hostOps1] c main_v24 (ix5 0 0 (query t p q) n a)
    = Cert.Proof.coord (BitVec.ofNat 32 t.val) (tab m c t) a.val n.val (ix2 p q) := by
  refine (congrFun (tail24 m c) _).trans ((cast4b _ t a n p q).trans ?_)
  refine (swap4 _ t a _ n).trans ?_
  exact cast4a _ t a n p q

end Cert.Proof

end
-- ==== Proof.VPre.lean ====
module

public import proofs.«01_k».proof.Defs
public import proofs.«01_k».proof.Proof.Gen.Pre_finite
public import proofs.«01_k».proof.Proof.Gen.KernelIdeal
public import proofs.«01_k».proof.Proof.VTab
public import Idealize.ShloMosaic.Lib.Pointwise

@[expose] public section

noncomputable section

/-! What the precondition says: both videos hold real numbers. -/

namespace Cert.Proof

open Idealize.ShloMosaic hiding ix1 ix2 ix3 ix4 ix5 ix6
open Idealize.ShloMosaic.ValueIdx
open Idealize.ShloMosaic.TcCoe

/-- A number of absolute value below +inf is real. -/
theorem real_of_abs (x : EReal) (h : max x (-x) < ⊤) : x = ((x.toReal : ℝ) : EReal) := by
  refine (EReal.coe_toReal ?_ ?_).symm
  · rintro rfl; simp at h
  · rintro rfl; simp at h

theorem pre_both (x y : FVec Ideal Cert.Pre_finite.S1x3x32x256x256 .f32) (u : FVec Ideal Cert.Pre_finite.S1x3x2x256x256 .f32)
    (v : FVec Ideal Cert.Pre_finite.S1 .f32) (h : Cert.Pre_finite.fn (F := Ideal) x y u v = fun _ => 1#1) :
    AllReal x ∧ AllReal y := by
  have key : ∀ i, x i = ((x i).toReal : EReal) ∧ y i = ((y i).toReal : EReal) := by
    intro i
    have e := congrFun h i
    unfold Cert.Pre_finite.fn at e
    pointwise at e
    have top : Ideal.ofBits .f32 2139095040#32 = (⊤ : EReal) := by
      unfold Ideal.ofBits
      decide +kernel
    rw [top] at e
    have split : ∀ a b : Bool, IntOp.andi (BitVec.ofBool a) (BitVec.ofBool b) = 1#1 → a = true ∧ b = true := by decide
    have both := split _ _ e
    exact ⟨real_of_abs _ (of_decide_eq_true both.1), real_of_abs _ (of_decide_eq_true both.2)⟩
  exact ⟨fun i => (key i).1, fun i => (key i).2⟩

end Cert.Proof

end
-- ==== Proof.RGather.lean ====
module

public import proofs.«01_k».proof.Proof.Gen.ReferenceIdeal
public import Idealize.ShloMosaic.Lib.Pipeline.ValueKit

@[expose] public section

set_option maxRecDepth 16384

noncomputable section

/-! The reference's table look-ups, read at an index: each takes one axis's coordinate from a list of indices. -/

namespace Cert.Proof.Ref

open Cert.ReferenceIdeal Cert.ReferenceIdeal.Gen
open Idealize.ShloMosaic hiding ix1 ix2 ix3 ix4 ix5 ix6
open Idealize.ShloMosaic.ValueIdx

variable {α : Type}

/-- A small number's word, read back. -/
theorem word_back (n k : ℕ) (h : n ≤ k) (hk : k < 1000) : min (BitVec.ofNat 32 n).toInt.toNat k = n := by
  have e : (BitVec.ofNat 32 n).toInt = (n : ℤ) := by
    rw [BitVec.toInt_eq_toNat_of_lt] <;> simp <;> omega
  rw [e, Int.toNat_natCast]
  omega

/-- Rows of the first video. -/
theorem rows4 (x : S3x32x256x256.Idx → α) (idx : IVec S262x1 32) (t : Fin 3) (c : Fin 32) (h : Fin 262) (w : Fin 256) (n : ℕ) (hn : n < 256)
    (hi : idx (ix2 h 0) = BitVec.ofNat 32 n) :
    Host.gather gather_S3x32x256x256_S262x1_S3x32x262x256_013_2_n_n_2_1_3321256 x idx (ix4 t c h w) = x (ix4 t c ⟨n, hn⟩ w) := by
  unfold Host.gather
  congr 1
  funext a
  refine Fin.ext ?_
  match a with
  | ⟨0, _⟩ => exact Nat.zero_add _
  | ⟨1, _⟩ => exact Nat.zero_add _
  | ⟨2, _⟩ =>
    show min (idx (GatherDims.siIdx _ _ _)).toInt.toNat _ + 0 + 0 = n
    refine Eq.trans ?_ (word_back n 255 (by omega) (by omega))
    rw [← hi]
    refine congrArg (fun i => min (idx i).toInt.toNat 255) (funext fun b => Fin.ext ?_)
    match b with
    | ⟨0, _⟩ => rfl
    | ⟨1, _⟩ => rfl
  | ⟨3, _⟩ => exact Nat.zero_add _

/-- Columns of the first video. -/
theorem cols4 (x : S3x32x262x256.Idx → α) (idx : IVec S262x1 32) (t : Fin 3) (c : Fin 32) (h w : Fin 262) (n : ℕ) (hn : n < 256)
    (hi : idx (ix2 w 0) = BitVec.ofNat 32 n) :
    Host.gather gather_S3x32x262x256_S262x1_S3x32x262x262_012_3_n_n_3_1_3322621 x idx (ix4 t c h w) = x (ix4 t c h ⟨n, hn⟩) := by
  unfold Host.gather
  congr 1
  funext a
  refine Fin.ext ?_
  match a with
  | ⟨0, _⟩ => exact Nat.zero_add _
  | ⟨1, _⟩ => exact Nat.zero_add _
  | ⟨2, _⟩ => exact Nat.zero_add _
  | ⟨3, _⟩ =>
    show min (idx (GatherDims.siIdx _ _ _)).toInt.toNat _ + 0 + 0 = n
    refine Eq.trans ?_ (word_back n 255 (by omega) (by omega))
    rw [← hi]
    refine congrArg (fun i => min (idx i).toInt.toNat 255) (funext fun b => Fin.ext ?_)
    match b with
    | ⟨0, _⟩ => rfl
    | ⟨1, _⟩ => rfl

/-- Rows of the second video. -/
theorem rows5 (x : S3x32x256x256.Idx → α) (idx : IVec S8x262x1 32) (t : Fin 3) (c : Fin 32) (d : Fin 8) (h : Fin 262) (w : Fin 256) (n : ℕ) (hn : n < 256)
    (hi : idx (ix3 d h 0) = BitVec.ofNat 32 n) :
    Host.gather gather_S3x32x256x256_S8x262x1_S3x32x8x262x256_014_2_n_n_2_2_3321256 x idx (ix5 t c d h w) = x (ix4 t c ⟨n, hn⟩ w) := by
  unfold Host.gather
  congr 1
  funext a
  refine Fin.ext ?_
  match a with
  | ⟨0, _⟩ => exact Nat.zero_add _
  | ⟨1, _⟩ => exact Nat.zero_add _
  | ⟨2, _⟩ =>
    show min (idx (GatherDims.siIdx _ _ _)).toInt.toNat _ + 0 + 0 = n
    refine Eq.trans ?_ (word_back n 255 (by omega) (by omega))
    rw [← hi]
    refine congrArg (fun i => min (idx i).toInt.toNat 255) (funext fun b => Fin.ext ?_)
    match b with
    | ⟨0, _⟩ => rfl
    | ⟨1, _⟩ => rfl
    | ⟨2, _⟩ => rfl
  | ⟨3, _⟩ => exact Nat.zero_add _

/-- Columns of the second video. -/
theorem cols6 (x : S3x32x8x262x256.Idx → α) (idx : IVec S8x262x1 32) (t : Fin 3) (c : Fin 32) (d : Fin 8) (h : Fin 262) (e : Fin 8) (w : Fin 262) (n : ℕ) (hn : n < 256)
    (hi : idx (ix3 e w 0) = BitVec.ofNat 32 n) :
    Host.gather gather_S3x32x8x262x256_S8x262x1_S3x32x8x262x8x262_0123_4_n_n_4_2_33282621 x idx (ix6 t c d h e w) = x (ix5 t c d h ⟨n, hn⟩) := by
  unfold Host.gather
  congr 1
  funext a
  refine Fin.ext ?_
  match a with
  | ⟨0, _⟩ => exact Nat.zero_add _
  | ⟨1, _⟩ => exact Nat.zero_add _
  | ⟨2, _⟩ => exact Nat.zero_add _
  | ⟨3, _⟩ => exact Nat.zero_add _
  | ⟨4, _⟩ =>
    show min (idx (GatherDims.siIdx _ _ _)).toInt.toNat _ + 0 + 0 = n
    refine Eq.trans ?_ (word_back n 255 (by omega) (by omega))
    rw [← hi]
    refine congrArg (fun i => min (idx i).toInt.toNat 255) (funext fun b => Fin.ext ?_)
    match b with
    | ⟨0, _⟩ => rfl
    | ⟨1, _⟩ => rfl
    | ⟨2, _⟩ => rfl

/-- Rows of the integral image. -/
theorem edgeH (x : S3x8x263x8x263.Idx → α) (idx : IVec S64x1 32) (t : Fin 3) (d : Fin 8) (p : Fin 64) (e : Fin 8) (w : Fin 263) (n : ℕ) (hn : n < 263)
    (hi : idx (ix2 p 0) = BitVec.ofNat 32 n) :
    Host.gather gather_S3x8x263x8x263_S64x1_S3x8x64x8x263_0134_2_n_n_2_1_3818263 x idx (ix5 t d p e w) = x (ix5 t d ⟨n, hn⟩ e w) := by
  unfold Host.gather
  congr 1
  funext a
  refine Fin.ext ?_
  match a with
  | ⟨0, _⟩ => exact Nat.zero_add _
  | ⟨1, _⟩ => exact Nat.zero_add _
  | ⟨2, _⟩ =>
    show min (idx (GatherDims.siIdx _ _ _)).toInt.toNat _ + 0 + 0 = n
    refine Eq.trans ?_ (word_back n 262 (by omega) (by omega))
    rw [← hi]
    refine congrArg (fun i => min (idx i).toInt.toNat 262) (funext fun b => Fin.ext ?_)
    match b with
    | ⟨0, _⟩ => rfl
    | ⟨1, _⟩ => rfl
  | ⟨3, _⟩ => exact Nat.zero_add _
  | ⟨4, _⟩ => exact Nat.zero_add _

/-- Columns of the integral image. -/
theorem edgeW (x : S3x8x64x8x263.Idx → α) (idx : IVec S64x1 32) (t : Fin 3) (d : Fin 8) (p : Fin 64) (e : Fin 8) (q : Fin 64) (n : ℕ) (hn : n < 263)
    (hi : idx (ix2 q 0) = BitVec.ofNat 32 n) :
    Host.gather gather_S3x8x64x8x263_S64x1_S3x8x64x8x64_0123_4_n_n_4_1_386481 x idx (ix5 t d p e q) = x (ix5 t d p e ⟨n, hn⟩) := by
  unfold Host.gather
  congr 1
  funext a
  refine Fin.ext ?_
  match a with
  | ⟨0, _⟩ => exact Nat.zero_add _
  | ⟨1, _⟩ => exact Nat.zero_add _
  | ⟨2, _⟩ => exact Nat.zero_add _
  | ⟨3, _⟩ => exact Nat.zero_add _
  | ⟨4, _⟩ =>
    show min (idx (GatherDims.siIdx _ _ _)).toInt.toNat _ + 0 + 0 = n
    refine Eq.trans ?_ (word_back n 262 (by omega) (by omega))
    rw [← hi]
    refine congrArg (fun i => min (idx i).toInt.toNat 262) (funext fun b => Fin.ext ?_)
    match b with
    | ⟨0, _⟩ => rfl
    | ⟨1, _⟩ => rfl

end Cert.Proof.Ref

end
-- ==== Proof.RCum.lean ====
module

public import proofs.«01_k».proof.Proof.Gen.ReferenceIdeal
public import Idealize.ShloMosaic.Lib.Pipeline.ValueKit

@[expose] public section

set_option maxRecDepth 16384

noncomputable section

/-! The reference's running sums, as sums of real numbers. -/

namespace Cert.Proof.Ref

open Cert.ReferenceIdeal Cert.ReferenceIdeal.Gen
open Idealize.ShloMosaic hiding ix1 ix2 ix3 ix4 ix5 ix6
open Idealize.ShloMosaic.ValueIdx

/-- A fold that adds real numbers. -/
theorem fold_sum {n : ℕ} (l : List (Fin n)) (G : EReal → Fin n → EReal) (g : Fin n → ℝ)
    (hG : ∀ r k, G r k = r + ((g k : ℝ) : EReal)) (v : ℝ) :
    l.foldl G ((v : ℝ) : EReal) = ((v + (l.map g).sum : ℝ) : EReal) := by
  induction l generalizing v with
  | nil => simp
  | cons a l ih =>
    rw [List.foldl_cons, hG, ← EReal.coe_add, ih, List.map_cons, List.sum_cons, add_assoc]

/-- A window of 263 that ends at `h` sees the first `h + 1` entries. -/
theorem tail_sum (ξ : ℕ → ℝ) (h : ℕ) (hh : h < 263) :
    ((List.finRange 263).map fun n : Fin 263 => if 262 ≤ h + n.val then ξ (h + n.val - 262) else 0).sum
      = ∑ i ∈ Finset.range (h + 1), ξ i := by
  rw [← List.ofFn_eq_map, List.sum_ofFn, Fin.sum_univ_eq_sum_range (fun n => if 262 ≤ h + n then ξ (h + n - 262) else 0) 263,
    ← Finset.sum_filter]
  have hs : (Finset.range 263).filter (fun n => 262 ≤ h + n) = Finset.Ico (262 - h) 263 := by
    ext n
    simp only [Finset.mem_filter, Finset.mem_range, Finset.mem_Ico]
    omega
  rw [hs, Finset.sum_Ico_eq_sum_range, show 263 - (262 - h) = h + 1 by omega]
  exact Finset.sum_congr rfl fun i _ => congrArg ξ (by omega)

theorem sym2 (n : Fin (⟨5, ![1, 1, 263, 1, 1]⟩ : Shape).numel) (n' : Fin 263) (hn : n.val = n'.val) : (⟨5, ![1, 1, 263, 1, 1]⟩ : Shape).rowMajor.symm n = ix5 0 0 n' 0 0 := by
  rw [Equiv.symm_apply_eq]
  refine Fin.ext ?_
  rw [Shape.rowMajor_val_five, hn]
  simp

/-- The running sum down the rows. -/
theorem cumH (x : FVec Ideal S3x8x263x8x263 .f32) (init : FVec Ideal S_ .f32) (hv : init (Shape.Idx.first h_S_) = ((0 : ℝ) : EReal))
    (t : Fin 3) (d e : Fin 8) (h w : Fin 263) (ξ : ℕ → ℝ) (hx : ∀ n : Fin 263, x (ix5 t d n e w) = ((ξ n.val : ℝ) : EReal)) :
    Host.reduceWindowAdd ![1, 1, 263, 1, 1] ![1, 1, 1, 1, 1] ![0, 0, 262, 0, 0] ![0, 0, 0, 0, 0] x init
      reduceWindows_S3x8x263x8x263_S3x8x263x8x263_w1s1p0_0_w1s1p0_0_w263s1p262_0_w1s1p0_0_w1s1p0_0 h_S_ (ix5 t d h e w)
      = ((∑ i ∈ Finset.range (h.val + 1), ξ i : ℝ) : EReal) := by
  have hnum : (⟨5, ![1, 1, 263, 1, 1]⟩ : Shape).numel = 263 := by decide
  unfold Host.reduceWindowAdd
  rw [Ideal.hostReduceWindowAdd_def]
  unfold Ideal.hostReduceWindowAdd
  rw [hv]
  unfold Host.reduceWindow
  refine (fold_sum (List.finRange (⟨5, ![1, 1, 263, 1, 1]⟩ : Shape).numel) _
    (fun n => if 262 ≤ h.val + n.val then ξ (h.val + n.val - 262) else 0) (fun r n => ?_) 0).trans ?_
  · refine congrArg (fun z => r + z) ?_
    have hn : n.val < 263 := lt_of_lt_of_eq n.isLt hnum
    have s := sym2 n ⟨n.val, hn⟩ rfl
    have hm := h.isLt
    have w0 : ((⟨5, ![1, 1, 263, 1, 1]⟩ : Shape).rowMajor.symm n 0).val = 0 := congrArg (fun y => (y 0).val) s
    have w1 : ((⟨5, ![1, 1, 263, 1, 1]⟩ : Shape).rowMajor.symm n 1).val = 0 := congrArg (fun y => (y 1).val) s
    have w2 : ((⟨5, ![1, 1, 263, 1, 1]⟩ : Shape).rowMajor.symm n 2).val = n.val := congrArg (fun y => (y 2).val) s
    have w3 : ((⟨5, ![1, 1, 263, 1, 1]⟩ : Shape).rowMajor.symm n 3).val = 0 := congrArg (fun y => (y 3).val) s
    have w4 : ((⟨5, ![1, 1, 263, 1, 1]⟩ : Shape).rowMajor.symm n 4).val = 0 := congrArg (fun y => (y 4).val) s
    by_cases hc : 262 ≤ h.val + n.val
    · rw [if_pos hc]
      refine (dif_pos (fun a => ?_)).trans ((congrArg x (funext fun a => Fin.ext ?_)).trans (hx ⟨h.val + n.val - 262, by omega⟩))
      · match a with
        | ⟨0, _⟩ => exact ⟨Nat.zero_le _, lt_of_eq_of_lt (congrArg (fun k => t.val * 1 + k - 0) w0) (by show t.val * 1 + 0 - 0 < 3; omega)⟩
        | ⟨1, _⟩ => exact ⟨Nat.zero_le _, lt_of_eq_of_lt (congrArg (fun k => d.val * 1 + k - 0) w1) (by show d.val * 1 + 0 - 0 < 8; omega)⟩
        | ⟨2, _⟩ => exact ⟨le_of_le_of_eq (show 262 ≤ h.val * 1 + n.val by omega) (congrArg (fun k => h.val * 1 + k) w2.symm),
            lt_of_eq_of_lt (congrArg (fun k => h.val * 1 + k - 262) w2) (by show h.val * 1 + n.val - 262 < 263; omega)⟩
        | ⟨3, _⟩ => exact ⟨Nat.zero_le _, lt_of_eq_of_lt (congrArg (fun k => e.val * 1 + k - 0) w3) (by show e.val * 1 + 0 - 0 < 8; omega)⟩
        | ⟨4, _⟩ => exact ⟨Nat.zero_le _, lt_of_eq_of_lt (congrArg (fun k => w.val * 1 + k - 0) w4) (by show w.val * 1 + 0 - 0 < 263; omega)⟩
      · match a with
        | ⟨0, _⟩ => exact (congrArg (fun k => t.val * 1 + k - 0) w0).trans (by show t.val * 1 + 0 - 0 = t.val; omega)
        | ⟨1, _⟩ => exact (congrArg (fun k => d.val * 1 + k - 0) w1).trans (by show d.val * 1 + 0 - 0 = d.val; omega)
        | ⟨2, _⟩ => exact (congrArg (fun k => h.val * 1 + k - 262) w2).trans (by show h.val * 1 + n.val - 262 = h.val + n.val - 262; omega)
        | ⟨3, _⟩ => exact (congrArg (fun k => e.val * 1 + k - 0) w3).trans (by show e.val * 1 + 0 - 0 = e.val; omega)
        | ⟨4, _⟩ => exact (congrArg (fun k => w.val * 1 + k - 0) w4).trans (by show w.val * 1 + 0 - 0 = w.val; omega)
    · rw [if_neg hc]
      refine dif_neg fun hin => hc ?_
      have h2 := le_of_le_of_eq (hin 2).1 (congrArg (fun k => h.val * 1 + k) w2)
      have h3 : 262 ≤ h.val * 1 + n.val := h2
      omega
  · rw [zero_add]
    exact congrArg _ (tail_sum ξ h.val h.isLt)

theorem sym4 (n : Fin (⟨5, ![1, 1, 1, 1, 263]⟩ : Shape).numel) (n' : Fin 263) (hn : n.val = n'.val) : (⟨5, ![1, 1, 1, 1, 263]⟩ : Shape).rowMajor.symm n = ix5 0 0 0 0 n' := by
  rw [Equiv.symm_apply_eq]
  refine Fin.ext ?_
  rw [Shape.rowMajor_val_five, hn]
  simp

/-- The running sum along the columns. -/
theorem cumW (x : FVec Ideal S3x8x263x8x263 .f32) (init : FVec Ideal S_ .f32) (hv : init (Shape.Idx.first h_S_) = ((0 : ℝ) : EReal))
    (t : Fin 3) (d e : Fin 8) (h w : Fin 263) (ξ : ℕ → ℝ) (hx : ∀ n : Fin 263, x (ix5 t d h e n) = ((ξ n.val : ℝ) : EReal)) :
    Host.reduceWindowAdd ![1, 1, 1, 1, 263] ![1, 1, 1, 1, 1] ![0, 0, 0, 0, 262] ![0, 0, 0, 0, 0] x init
      reduceWindows_S3x8x263x8x263_S3x8x263x8x263_w1s1p0_0_w1s1p0_0_w1s1p0_0_w1s1p0_0_w263s1p262_0 h_S_ (ix5 t d h e w)
      = ((∑ i ∈ Finset.range (w.val + 1), ξ i : ℝ) : EReal) := by
  have hnum : (⟨5, ![1, 1, 1, 1, 263]⟩ : Shape).numel = 263 := by decide
  unfold Host.reduceWindowAdd
  rw [Ideal.hostReduceWindowAdd_def]
  unfold Ideal.hostReduceWindowAdd
  rw [hv]
  unfold Host.reduceWindow
  refine (fold_sum (List.finRange (⟨5, ![1, 1, 1, 1, 263]⟩ : Shape).numel) _
    (fun n => if 262 ≤ w.val + n.val then ξ (w.val + n.val - 262) else 0) (fun r n => ?_) 0).trans ?_
  · refine congrArg (fun z => r + z) ?_
    have hn : n.val < 263 := lt_of_lt_of_eq n.isLt hnum
    have s := sym4 n ⟨n.val, hn⟩ rfl
    have hm := w.isLt
    have w0 : ((⟨5, ![1, 1, 1, 1, 263]⟩ : Shape).rowMajor.symm n 0).val = 0 := congrArg (fun y => (y 0).val) s
    have w1 : ((⟨5, ![1, 1, 1, 1, 263]⟩ : Shape).rowMajor.symm n 1).val = 0 := congrArg (fun y => (y 1).val) s
    have w2 : ((⟨5, ![1, 1, 1, 1, 263]⟩ : Shape).rowMajor.symm n 2).val = 0 := congrArg (fun y => (y 2).val) s
    have w3 : ((⟨5, ![1, 1, 1, 1, 263]⟩ : Shape).rowMajor.symm n 3).val = 0 := congrArg (fun y => (y 3).val) s
    have w4 : ((⟨5, ![1, 1, 1, 1, 263]⟩ : Shape).rowMajor.symm n 4).val = n.val := congrArg (fun y => (y 4).val) s
    by_cases hc : 262 ≤ w.val + n.val
    · rw [if_pos hc]
      refine (dif_pos (fun a => ?_)).trans ((congrArg x (funext fun a => Fin.ext ?_)).trans (hx ⟨w.val + n.val - 262, by omega⟩))
      · match a with
        | ⟨0, _⟩ => exact ⟨Nat.zero_le _, lt_of_eq_of_lt (congrArg (fun k => t.val * 1 + k - 0) w0) (by show t.val * 1 + 0 - 0 < 3; omega)⟩
        | ⟨1, _⟩ => exact ⟨Nat.zero_le _, lt_of_eq_of_lt (congrArg (fun k => d.val * 1 + k - 0) w1) (by show d.val * 1 + 0 - 0 < 8; omega)⟩
        | ⟨2, _⟩ => exact ⟨Nat.zero_le _, lt_of_eq_of_lt (congrArg (fun k => h.val * 1 + k - 0) w2) (by show h.val * 1 + 0 - 0 < 263; omega)⟩
        | ⟨3, _⟩ => exact ⟨Nat.zero_le _, lt_of_eq_of_lt (congrArg (fun k => e.val * 1 + k - 0) w3) (by show e.val * 1 + 0 - 0 < 8; omega)⟩
        | ⟨4, _⟩ => exact ⟨le_of_le_of_eq (show 262 ≤ w.val * 1 + n.val by omega) (congrArg (fun k => w.val * 1 + k) w4.symm),
            lt_of_eq_of_lt (congrArg (fun k => w.val * 1 + k - 262) w4) (by show w.val * 1 + n.val - 262 < 263; omega)⟩
      · match a with
        | ⟨0, _⟩ => exact (congrArg (fun k => t.val * 1 + k - 0) w0).trans (by show t.val * 1 + 0 - 0 = t.val; omega)
        | ⟨1, _⟩ => exact (congrArg (fun k => d.val * 1 + k - 0) w1).trans (by show d.val * 1 + 0 - 0 = d.val; omega)
        | ⟨2, _⟩ => exact (congrArg (fun k => h.val * 1 + k - 0) w2).trans (by show h.val * 1 + 0 - 0 = h.val; omega)
        | ⟨3, _⟩ => exact (congrArg (fun k => e.val * 1 + k - 0) w3).trans (by show e.val * 1 + 0 - 0 = e.val; omega)
        | ⟨4, _⟩ => exact (congrArg (fun k => w.val * 1 + k - 262) w4).trans (by show w.val * 1 + n.val - 262 = w.val + n.val - 262; omega)
    · rw [if_neg hc]
      refine dif_neg fun hin => hc ?_
      have h2 := le_of_le_of_eq (hin 4).1 (congrArg (fun k => w.val * 1 + k) w4)
      have h3 : 262 ≤ w.val * 1 + n.val := h2
      omega
  · rw [zero_add]
    exact congrArg _ (tail_sum ξ w.val w.isLt)

end Cert.Proof.Ref

end
-- ==== Proof.RWord.lean ====
module

public import proofs.«01_k».proof.Proof.VTab
public import proofs.«01_k».proof.Proof.RGather
public import proofs.«01_k».proof.Proof.RCum
public import proofs.«01_k».proof.Proof.Gen.ReferenceIdeal.Run
public import Idealize.ShloMosaic.Lib.Pointwise

@[expose] public section

set_option maxRecDepth 16384

noncomputable section

/-! The reference's index arrays, read at an index. -/

namespace Cert.Proof.Ref

open Cert.ReferenceIdeal Cert.ReferenceIdeal.Gen Cert.ReferenceIdeal.Value
open Idealize.ShloMosaic hiding ix1 ix2 ix3 ix4 ix5 ix6
open Idealize.ShloMosaic.ValueIdx
open Idealize.ShloMosaic.TcCoe

variable (V0 : Valuation τ sig (Elt Ideal))

/-- A coordinate reflected at the frame's ends. -/
def reflW (x : BitVec 32) : BitVec 32 :=
  Scalar.select (IntOp.cmpi CmpIPredicate.sge (IntOp.absi x) 256#32) (IntOp.subi 510#32 (IntOp.absi x)) (IntOp.absi x)

/-- A negative index counted from the end of an axis of `n`. -/
def wrapW (n x : BitVec 32) : BitVec 32 := Scalar.select (IntOp.cmpi CmpIPredicate.slt x 0#32) (IntOp.addi x n) x

theorem keyA : ∀ h : Fin 262, wrapW 256#32 (reflW (BitVec.ofNat 32 h.val)) = BitVec.ofNat 32 (reA h.val) := by decide +kernel
theorem keyB : ∀ (d : Fin 8) (h : Fin 262),
    wrapW 256#32 (reflW (IntOp.addi (BitVec.ofNat 32 h.val) (IntOp.subi (BitVec.ofNat 32 d.val) 4#32))) = BitVec.ofNat 32 (reB (h.val + d.val)) := by
  decide +kernel
theorem key60 : ∀ p : Fin 64, wrapW 263#32 (IntOp.muli (BitVec.ofNat 32 p.val) 4#32) = BitVec.ofNat 32 (4 * p.val) := by decide +kernel
theorem key62 : ∀ p : Fin 64, wrapW 263#32 (IntOp.addi (IntOp.muli (BitVec.ofNat 32 p.val) 4#32) 7#32) = BitVec.ofNat 32 (4 * p.val + 7) := by
  decide +kernel

theorem wordA (h : Fin 262) : (broadcastInDim S262x1 ![0] bcast_S262_S262x1_0 (select (cmpi .slt (res_main_v9 V0) (broadcastInDim S262 ![] bcast_S_S262 (constantI S_ 32 0#32))) (addi (res_main_v9 V0) (broadcastInDim S262 ![] bcast_S_S262 (constantI S_ 32 256#32))) (res_main_v9 V0))) (ix2 h 0) = BitVec.ofNat 32 (reA h.val) := by
  pointwise [res_main_v9, res_main_v4, res_main_v0]
  exact keyA h

theorem wordB (d : Fin 8) (h : Fin 262) : (broadcastInDim S8x262x1 ![0, 1] bcast_S8x262_S8x262x1_0_1 (select (cmpi .slt (res_main_v35 V0) (broadcastInDim S8x262 ![] bcast_S_S8x262 (constantI S_ 32 0#32))) (addi (res_main_v35 V0) (broadcastInDim S8x262 ![] bcast_S_S8x262 (constantI S_ 32 256#32))) (res_main_v35 V0))) (ix3 d h 0) = BitVec.ofNat 32 (reB (h.val + d.val)) := by
  pointwise [res_main_v35, res_main_v30, res_main_v0]
  exact keyB d h

theorem word60 (p : Fin 64) : (broadcastInDim S64x1 ![0] bcast_S64_S64x1_0 (select (cmpi .slt (res_main_v60 V0) (broadcastInDim S64 ![] bcast_S_S64 (constantI S_ 32 0#32))) (addi (res_main_v60 V0) (broadcastInDim S64 ![] bcast_S_S64 (constantI S_ 32 263#32))) (res_main_v60 V0))) (ix2 p 0) = BitVec.ofNat 32 (4 * p.val) := by
  pointwise [res_main_v60]
  exact key60 p

theorem word62 (p : Fin 64) : (broadcastInDim S64x1 ![0] bcast_S64_S64x1_0 (select (cmpi .slt (res_main_v62 V0) (broadcastInDim S64 ![] bcast_S_S64 (constantI S_ 32 0#32))) (addi (res_main_v62 V0) (broadcastInDim S64 ![] bcast_S_S64 (constantI S_ 32 263#32))) (res_main_v62 V0))) (ix2 p 0) = BitVec.ofNat 32 (4 * p.val + 7) := by
  pointwise [res_main_v62, res_main_v60]
  exact key62 p

theorem word78 (p : Fin 64) : (broadcastInDim S64x1 ![0] bcast_S64_S64x1_0 (select (cmpi .slt (res_main_v78 V0) (broadcastInDim S64 ![] bcast_S_S64 (constantI S_ 32 0#32))) (addi (res_main_v78 V0) (broadcastInDim S64 ![] bcast_S_S64 (constantI S_ 32 263#32))) (res_main_v78 V0))) (ix2 p 0) = BitVec.ofNat 32 (4 * p.val + 7) := by
  pointwise [res_main_v78, res_main_v60]
  exact key62 p

theorem word95 (p : Fin 64) : (broadcastInDim S64x1 ![0] bcast_S64_S64x1_0 (select (cmpi .slt (res_main_v95 V0) (broadcastInDim S64 ![] bcast_S_S64 (constantI S_ 32 0#32))) (addi (res_main_v95 V0) (broadcastInDim S64 ![] bcast_S_S64 (constantI S_ 32 263#32))) (res_main_v95 V0))) (ix2 p 0) = BitVec.ofNat 32 (4 * p.val + 7) := by
  pointwise [res_main_v95, res_main_v60]
  exact key62 p

end Cert.Proof.Ref

end
-- ==== Proof.RTab.lean ====
module

public import proofs.«01_k».proof.Proof.RWord
public import Idealize.ShloMosaic.Lib.KernelVsHost
public import Idealize.ShloMosaic.Lib.ValueIdxRank6

@[expose] public section

set_option maxRecDepth 16384

noncomputable section

/-! The reference's distance table: the products summed over the channels, the integral image, its four corners. -/

namespace Cert.Proof.Ref

open Cert.ReferenceIdeal Cert.ReferenceIdeal.Gen Cert.ReferenceIdeal.Value
open Idealize.ShloMosaic hiding ix1 ix2 ix3 ix4 ix5 ix6
open Idealize.ShloMosaic.ValueIdx
open Idealize.ShloMosaic.TcCoe

/-- The products summed over the channels. -/
theorem sumR (A : FVec Ideal S3x32x262x262 .f32) (B : FVec Ideal S3x32x8x262x8x262 .f32) (t : Fin 3) (d e : Fin 8) (h w : Fin 262)
    (α β : ℕ → ℝ) (hA : ∀ c : Fin 32, A (ix4 t c h w) = ((α c.val : ℝ) : EReal)) (hB : ∀ c : Fin 32, B (ix6 t c d h e w) = ((β c.val : ℝ) : EReal)) :
    Host.reduceAdd (mulf (broadcastInDim S3x32x8x262x8x262 ![0, 1, 2, 3, 4, 5] bcast_S3x32x1x262x1x262_S3x32x8x262x8x262_0_1_2_3_4_5
        (broadcastInDim S3x32x1x262x1x262 ![0, 1, 3, 5] bcast_S3x32x262x262_S3x32x1x262x1x262_0_1_3_5 A)) B)
      (constant S_ .f32 0x00000000#32) reducesTo_S3x32x8x262x8x262_S3x8x262x8x262_d1 h_S_ (ix5 t d h e w)
      = ((∑ c ∈ Finset.range 32, α c * β c : ℝ) : EReal) := by
  pointwise
  have hr : S3x32x8x262x8x262.Reduces [1] S3x8x262x8x262 := by decide
  refine (Ideal.hostReduceAdd_single reducesTo_S3x32x8x262x8x262_S3x8x262x8x262_d1 hr _ _ _).trans ?_
  rw [zero_add, ← Fin.sum_univ_eq_sum_range (fun c => α c * β c) 32, ← coe_sum]
  refine Finset.sum_congr rfl fun (k : Fin 32) _ => ?_
  have e : hr.lift (ix5 t d h e w) k = ix6 t k d h e w := funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl)
  rw [e, EReal.coe_mul, ← hA k, ← hB k]
  pointwise
  rfl

/-- The padded table: a row and a column of zeros before it. -/
theorem padR (G : FVec Ideal S3x8x262x8x262 .f32) (v : FVec Ideal S_ .f32) (t : Fin 3) (d e : Fin 8) (h w : Fin 263)
    (γ : ℕ → ℕ → ℝ) (hv : v (Shape.Idx.first h_S_) = ((0 : ℝ) : EReal))
    (hG : ∀ h w : Fin 262, G (ix5 t d h e w) = ((γ h.val w.val : ℝ) : EReal)) :
    pad S3x8x263x8x263 ![0, 0, 1, 0, 1] ![0, 0, 0, 0, 0] ![0, 0, 0, 0, 0] G v pads_S3x8x262x8x262_S3x8x263x8x263_000_000_100_000_100 h_S_ (ix5 t d h e w)
      = ((if h.val = 0 ∨ w.val = 0 then 0 else γ (h.val - 1) (w.val - 1) : ℝ) : EReal) := by
  by_cases h0 : h.val = 0
  · rw [if_pos (Or.inl h0)]
    refine (pad_apply_of_not_inside _ _ _ _ _ _ _ _ 2 ?_).trans hv
    rintro ⟨h1, -⟩
    have h2 : 1 ≤ h.val := h1
    omega
  by_cases w0 : w.val = 0
  · rw [if_pos (Or.inr w0)]
    refine (pad_apply_of_not_inside _ _ _ _ _ _ _ _ 4 ?_).trans hv
    rintro ⟨h1, -⟩
    have h2 : 1 ≤ w.val := h1
    omega
  rw [if_neg (by omega)]
  refine (pad_apply_of_inside _ _ _ _ _ _ _ _ (ix5 t d ⟨h.val - 1, by omega⟩ e ⟨w.val - 1, by omega⟩) fun a => ?_).trans (hG _ _)
  match a with
  | ⟨0, _⟩ => show t.val = 0 + t.val * 1; omega
  | ⟨1, _⟩ => show d.val = 0 + d.val * 1; omega
  | ⟨2, _⟩ => show h.val = 1 + (h.val - 1) * 1; omega
  | ⟨3, _⟩ => show e.val = 0 + e.val * 1; omega
  | ⟨4, _⟩ => show w.val = 1 + (w.val - 1) * 1; omega

/-- Four corners of an integral image: the window's sum. -/
theorem corners (γ : ℕ → ℕ → ℝ) (a b : ℕ) :
    let ξ := fun i j => if i = 0 ∨ j = 0 then 0 else γ (i - 1) (j - 1)
    let I := fun x y => ∑ j ∈ Finset.range (y + 1), ∑ i ∈ Finset.range (x + 1), ξ i j
    I (a + 7) (b + 7) - I (a + 7) b - I a (b + 7) + I a b = win γ a b := by
  intro ξ I
  have hc (y x : ℕ) : I x y = ∑ j ∈ Finset.range y, ∑ i ∈ Finset.range x, γ i j := by
    show ∑ j ∈ Finset.range (y + 1), ∑ i ∈ Finset.range (x + 1), ξ i j = _
    rw [Finset.sum_range_succ']
    have z : ∑ i ∈ Finset.range (x + 1), ξ i 0 = 0 := Finset.sum_eq_zero fun i _ => if_pos (Or.inr rfl)
    rw [z, add_zero]
    refine Finset.sum_congr rfl fun j _ => ?_
    rw [Finset.sum_range_succ']
    have z0 : ξ 0 (j + 1) = 0 := if_pos (Or.inl rfl)
    rw [z0, add_zero]
    refine Finset.sum_congr rfl fun i _ => ?_
    show (if i + 1 = 0 ∨ j + 1 = 0 then 0 else γ (i + 1 - 1) (j + 1 - 1)) = _
    rw [if_neg (by omega)]
    rfl
  rw [hc, hc, hc, hc, Finset.sum_range_add _ b 7, Finset.sum_range_add _ b 7]
  simp only [Finset.sum_range_add _ a 7, Finset.sum_add_distrib]
  unfold win
  have sc : ∑ j ∈ Finset.range 7, ∑ i ∈ Finset.range 7, γ (a + i) (b + j) = ∑ i ∈ Finset.range 7, ∑ j ∈ Finset.range 7, γ (a + i) (b + j) :=
    Finset.sum_comm
  rw [← sc]
  ring

/-- A video without its unit axis. -/
theorem castV (x : Vid.Idx → EReal) (hc : Vid.ShapeCasts S3x32x256x256) (t : Fin 3) (c : Fin 32) (r w : Fin 256) :
    shapeCast S3x32x256x256 x hc (ix4 t c r w) = x (ix5 0 t c r w) := by
  refine shapeCast_apply _ _ _ _ ?_
  rw [Shape.rowMajor_val_four, Shape.rowMajor_val_five]
  simp

/-- The table with a row for each query and a column for each offset. -/
theorem castT (x : S3x64x64x8x8.Idx → EReal) (hc : S3x64x64x8x8.ShapeCasts S1x12288x64) (t : Fin 3) (p q o : Fin 64) :
    shapeCast S1x12288x64 x hc (ix3 0 ⟨t.val * 4096 + p.val * 64 + q.val, by omega⟩ o)
      = x (ix5 t p q ⟨o.val / 8, by omega⟩ ⟨o.val % 8, by omega⟩) := by
  refine shapeCast_apply _ _ _ _ ?_
  rw [Shape.rowMajor_val_three, Shape.rowMajor_val_five]
  show (((t.val * 64 + p.val) * 64 + q.val) * 8 + o.val / 8) * 8 + o.val % 8 = (0 * 12288 + (t.val * 4096 + p.val * 64 + q.val)) * 64 + o.val
  omega

variable (V0 : Valuation τ sig (Elt Ideal))

/-- The integral image, with its row and column of zeros. -/
def img (a b : Vid.Idx → EReal) (t o h w : ℕ) : ℝ :=
  ∑ j ∈ Finset.range (w + 1), ∑ i ∈ Finset.range (h + 1), if i = 0 ∨ j = 0 then 0 else gram a b t o (i - 1) (j - 1)

/-- The reference's integral image. -/
theorem imageR (hA : AllReal (V0 (Proc.devRef .tc main_arg0))) (hB : AllReal (V0 (Proc.devRef .tc main_arg1)))
    (t : Fin 3) (d e : Fin 8) (h w : Fin 263) :
    res_main_v57 V0 (ix5 t d h e w)
      = ((img (V0 (Proc.devRef .tc main_arg0)) (V0 (Proc.devRef .tc main_arg1)) t.val (8 * d.val + e.val) h.val w.val : ℝ) : EReal) := by
  unfold img
  unfold res_main_v57
  refine cumW _ _ ?_ t d e h w _ fun n => cumH _ _ ?_ t d e h n
    (fun i => if i = 0 ∨ n.val = 0 then 0 else gram (V0 (Proc.devRef .tc main_arg0)) (V0 (Proc.devRef .tc main_arg1)) t.val (8 * d.val + e.val) (i - 1) (n.val - 1))
    fun n' => padR _ _ t d e n' n
      (gram (V0 (Proc.devRef .tc main_arg0)) (V0 (Proc.devRef .tc main_arg1)) t.val (8 * d.val + e.val)) ?_ fun h w => ?_
  · exact Ideal.ofBits_zero_f32.trans EReal.coe_zero.symm
  · exact Ideal.ofBits_zero_f32.trans EReal.coe_zero.symm
  · show (((0#32 : BitVec 32).toInt : ℝ) : EReal) = _
    simp
  · refine sumR _ _ t d e h w _ (fun c => rdx (V0 (Proc.devRef .tc main_arg1)) t.val c (reB (h.val + (8 * d.val + e.val) / 8)) (reB (w.val + (8 * d.val + e.val) % 8)))
      (fun c => ?_) (fun c => ?_)
    · refine (cols4 _ _ t c h w (reA w.val) (reA_lt (by omega)) (wordA V0 w)).trans
        ((rows4 _ _ t c h ⟨reA w.val, reA_lt (by omega)⟩ (reA h.val) (reA_lt (by omega)) (wordA V0 h)).trans ((castV _ _ t c ⟨reA h.val, reA_lt (by omega)⟩ ⟨reA w.val, reA_lt (by omega)⟩).trans
          (hA.at t c ⟨reA h.val, reA_lt (by omega)⟩ ⟨reA w.val, reA_lt (by omega)⟩)))
    · rw [show (8 * d.val + e.val) / 8 = d.val by omega, show (8 * d.val + e.val) % 8 = e.val by omega]
      refine (cols6 _ _ t c d h e w (reB (w.val + e.val)) (reB_lt (by omega)) (wordB V0 e w)).trans
        ((rows5 _ _ t c d h ⟨reB (w.val + e.val), reB_lt (by omega)⟩ (reB (h.val + d.val)) (reB_lt (by omega)) (wordB V0 d h)).trans
          ((castV _ _ t c ⟨reB (h.val + d.val), reB_lt (by omega)⟩ ⟨reB (w.val + e.val), reB_lt (by omega)⟩).trans
            (hB.at t c ⟨reB (h.val + d.val), reB_lt (by omega)⟩ ⟨reB (w.val + e.val), reB_lt (by omega)⟩)))

/-- The reference's distance table. -/
theorem tableR (hA : AllReal (V0 (Proc.devRef .tc main_arg0))) (hB : AllReal (V0 (Proc.devRef .tc main_arg1)))
    (t : Fin 3) (p q : Fin 64) (o : Fin 64) :
    res_main_v113 V0 (ix3 0 ⟨t.val * 4096 + p.val * 64 + q.val, by omega⟩ o)
      = ((box (V0 (Proc.devRef .tc main_arg0)) (V0 (Proc.devRef .tc main_arg1)) t.val o.val p.val q.val : ℝ) : EReal) := by
  unfold res_main_v113
  refine (castT _ _ t p q o).trans ?_
  refine (transpose_apply _ _ _ _ (ix5 t ⟨o.val / 8, by omega⟩ p ⟨o.val % 8, by omega⟩ q) (fun a => ?_)).trans ?_
  · match a with
    | ⟨0, _⟩ => rfl
    | ⟨1, _⟩ => rfl
    | ⟨2, _⟩ => rfl
    | ⟨3, _⟩ => rfl
    | ⟨4, _⟩ => rfl
  have c69 (y : ℕ) (hy : y < 263) : res_main_v69 V0 (ix5 t ⟨o.val / 8, by omega⟩ p ⟨o.val % 8, by omega⟩ ⟨y, hy⟩)
      = ((img (V0 (Proc.devRef .tc main_arg0)) (V0 (Proc.devRef .tc main_arg1)) t.val (8 * (o.val / 8) + o.val % 8) (4 * p.val + 7) y : ℝ) : EReal) := by
    unfold res_main_v69
    exact (edgeH _ _ t _ p _ ⟨y, hy⟩ (4 * p.val + 7) (by omega) (word62 V0 p)).trans (imageR V0 hA hB t _ _ _ _)
  have c76 (y : ℕ) (hy : y < 263) : res_main_v76 V0 (ix5 t ⟨o.val / 8, by omega⟩ p ⟨o.val % 8, by omega⟩ ⟨y, hy⟩)
      = ((img (V0 (Proc.devRef .tc main_arg0)) (V0 (Proc.devRef .tc main_arg1)) t.val (8 * (o.val / 8) + o.val % 8) (4 * p.val) y : ℝ) : EReal) := by
    unfold res_main_v76
    exact (edgeH _ _ t _ p _ ⟨y, hy⟩ (4 * p.val) (by omega) (word60 V0 p)).trans (imageR V0 hA hB t _ _ _ _)
  refine (congrArg₂ (fun x y : EReal => x + y) (congrArg₂ (fun x y : EReal => x - y) (congrArg₂ (fun x y : EReal => x - y)
    ((edgeW _ _ t _ p _ q (4 * q.val + 7) (by omega) (word78 V0 q)).trans (c69 _ _))
    ((edgeW _ _ t _ p _ q (4 * q.val) (by omega) (word60 V0 q)).trans (c69 _ _)))
    ((edgeW _ _ t _ p _ q (4 * q.val + 7) (by omega) (word95 V0 q)).trans (c76 _ _)))
    ((edgeW _ _ t _ p _ q (4 * q.val) (by omega) (word60 V0 q)).trans (c76 _ _))).trans ?_
  rw [← EReal.coe_sub, ← EReal.coe_sub, ← EReal.coe_add]
  refine congrArg _ ?_
  rw [show 8 * (o.val / 8) + o.val % 8 = o.val by omega]
  exact corners (gram (V0 (Proc.devRef .tc main_arg0)) (V0 (Proc.devRef .tc main_arg1)) t.val o.val) (4 * p.val) (4 * q.val)

end Cert.Proof.Ref

end
-- ==== Proof.VIdx.lean ====
module

public import proofs.«01_k».proof.Proof.RTab
public import proofs.«01_k».proof.Proof.KProg
public import Idealize.ShloMosaic.Lib.Pointwise

@[expose] public section

set_option maxRecDepth 16384

noncomputable section

/-! The positions the chosen offsets name, as words, in both programs. -/

namespace Cert.Proof

open Cert.KernelIdeal
open Idealize.ShloMosaic hiding ix1 ix2 ix3 ix4 ix5 ix6
open Idealize.ShloMosaic.ValueIdx

/-- The coordinate that a shift by `d - 4` from `4 p` leads to, reflected at zero. -/
def posW (p d : ℕ) : BitVec 32 := BitVec.ofNat 32 (if 4 * p + d < 4 then 4 - (4 * p + d) else 4 * p + d - 4)

theorem kh_apply (s : IVec S64x64 32) (p q o : Fin 64) (hs : s (ix2 p q) = BitVec.ofNat 32 o.val) : kh s (ix2 p q) = posW p.val (o.val / 8) := by
  pointwise [kh, div8]
  rw [hs, show BitVec.ofNat 32 (ix2 p q 0).val = BitVec.ofNat 32 p.val from rfl]
  clear hs
  revert p o
  decide +kernel

theorem kw_apply (s : IVec S64x64 32) (p q o : Fin 64) (hs : s (ix2 p q) = BitVec.ofNat 32 o.val) : kw s (ix2 p q) = posW q.val (o.val % 8) := by
  pointwise [kw, mod8, eight]
  rw [hs, show BitVec.ofNat 32 (ix2 p q 1).val = BitVec.ofNat 32 q.val from rfl]
  clear hs
  revert q o
  decide +kernel

theorem kt_apply (t : ℕ) (p q : Fin 64) : kt (BitVec.ofNat 32 t) (ix2 p q) = BitVec.ofNat 32 t := by
  show 0#32 + BitVec.ofNat 32 t = _
  simp

theorem posW_keep : ∀ (p : Fin 64) (d : Fin 8),
    Scalar.select (IntOp.cmpi CmpIPredicate.sge (posW p.val d.val) 256#32) (IntOp.subi 510#32 (posW p.val d.val)) (posW p.val d.val)
      = posW p.val d.val := by decide +kernel

namespace Ref

open Cert.ReferenceIdeal Cert.ReferenceIdeal.Gen Cert.ReferenceIdeal.Value
open Idealize.ShloMosaic.TcCoe

variable (V0 : Valuation Cert.ReferenceIdeal.τ Cert.ReferenceIdeal.sig (Elt Ideal))

theorem v137_apply (t : Fin 3) (p q : Fin 64) (i : Fin 7) (o : Fin 64)
    (hs : res_main_indices V0 (ix3 0 ⟨t.val * 4096 + p.val * 64 + q.val, by omega⟩ i) = BitVec.ofNat 32 o.val) :
    res_main_v137 V0 (ix3 0 ⟨t.val * 4096 + p.val * 64 + q.val, by omega⟩ i) = posW p.val (o.val / 8) := by
  pointwise [res_main_v137, res_main_v60, res_main_call5_v0, res_main_call5_v2]
  generalize hz : res_main_indices V0 _ = z
  obtain rfl : z = BitVec.ofNat 32 o.val := hz.symm.trans hs
  clear hs hz
  change @Eq (BitVec 32) _ _
  revert p o
  decide +kernel

theorem v146_apply (t : Fin 3) (p q : Fin 64) (i : Fin 7) (o : Fin 64)
    (hs : res_main_indices V0 (ix3 0 ⟨t.val * 4096 + p.val * 64 + q.val, by omega⟩ i) = BitVec.ofNat 32 o.val) :
    res_main_v146 V0 (ix3 0 ⟨t.val * 4096 + p.val * 64 + q.val, by omega⟩ i) = posW q.val (o.val % 8) := by
  pointwise [res_main_v146, res_main_v60, res_main_call6_v0, res_main_call6_v2, res_main_call6_v4]
  generalize hz : res_main_indices V0 _ = z
  obtain rfl : z = BitVec.ofNat 32 o.val := hz.symm.trans hs
  clear hs hz
  change @Eq (BitVec 32) _ _
  revert q o
  decide +kernel

end Ref

end Cert.Proof

end
-- ==== Proof.VPick.lean ====
module

public import proofs.«01_k».proof.Proof.KProg
public import Idealize.ShloMosaic.PureOps.Ideal.Laws
public import Idealize.ShloMosaic.Lib.SortPrefix
public import Idealize.ShloMosaic.Lib.SortNet.Extract
public import Idealize.ShloMosaic.Lib.Pipeline.Value
public import Idealize.ShloMosaic.Lib.ValueIdx

@[expose] public section

noncomputable section

/-! The selection on one query's column of 64 distances: rounds of "the largest, the first place that holds it, that
place struck out" choose what a stable sort by decreasing distance puts first. -/

namespace Cert.Proof

open Idealize.ShloMosaic Idealize.ShloMosaic.ValueIdx

/-- A column has a first place at which it is largest. -/
theorem exists_pick (x : Fin 64 → EReal) : ∃ p, (∀ o, x o ≤ x p) ∧ ∀ o, x o = x p → p ≤ o := by
  obtain ⟨q, -, hq⟩ := Finset.exists_max_image Finset.univ x ⟨0, Finset.mem_univ _⟩
  obtain ⟨p, hp, hm⟩ := Finset.exists_min_image (Finset.univ.filter fun o => x o = x q) id ⟨q, by simp⟩
  have hp' : x p = x q := (Finset.mem_filter.1 hp).2
  exact ⟨p, fun o => hp' ▸ hq o (Finset.mem_univ _), fun o ho => hm o (by simp [ho, hp'])⟩

/-- The first place at which a column is largest. -/
def pick (x : Fin 64 → EReal) : Fin 64 := Classical.choose (exists_pick x)

theorem le_pick (x : Fin 64 → EReal) (o : Fin 64) : x o ≤ x (pick x) := (Classical.choose_spec (exists_pick x)).1 o

theorem pick_le (x : Fin 64 → EReal) (o : Fin 64) (h : x o = x (pick x)) : pick x ≤ o :=
  (Classical.choose_spec (exists_pick x)).2 o h

/-- A column with its pick struck out. -/
def strike (x : Fin 64 → EReal) (o : Fin 64) : EReal := if o = pick x then ⊥ else x o

/-- A column after `n` rounds. -/
def struck (x : Fin 64 → EReal) : ℕ → Fin 64 → EReal
  | 0 => x
  | n + 1 => strike (struck x n)

/-- The pick of round `n`. -/
def pickAt (x : Fin 64 → EReal) (n : ℕ) : Fin 64 := pick (struck x n)

theorem struck_old (x : Fin 64 → EReal) (n m : ℕ) (h : m < n) : struck x n (pickAt x m) = ⊥ := by
  induction n with
  | zero => omega
  | succ n ih =>
    show strike (struck x n) _ = ⊥
    unfold strike
    split
    · rfl
    · next hne =>
      rcases Nat.lt_succ_iff_lt_or_eq.1 h with h | h
      · exact ih h
      · subst h; exact absurd rfl hne

theorem struck_new (x : Fin 64 → EReal) (n : ℕ) (o : Fin 64) (h : ∀ m < n, pickAt x m ≠ o) : struck x n o = x o := by
  induction n with
  | zero => rfl
  | succ n ih =>
    show strike (struck x n) _ = _
    unfold strike
    rw [if_neg (fun e => h n (Nat.lt_succ_self n) e.symm)]
    exact ih fun m hm => h m (by omega)

section
variable (x : Fin 64 → EReal) (hx : ∀ o, ⊥ < x o)
include hx

theorem pick_new (n : ℕ) (hn : n < 64) (m : ℕ) (hm : m < n) : pickAt x m ≠ pickAt x n := by
  intro e
  have hex : ∃ o, ∀ m < n, pickAt x m ≠ o := by
    by_contra hc
    push Not at hc
    have hs : Function.Surjective (fun m : Fin n => pickAt x m.val) := fun o => by
      obtain ⟨m, hm, he⟩ := hc o
      exact ⟨⟨m, hm⟩, he⟩
    have := Fintype.card_le_of_surjective _ hs
    simp at this
    omega
  obtain ⟨o, ho⟩ := hex
  have h1 := le_pick (struck x n) o
  rw [struck_new x n o ho] at h1
  have h2 : struck x n (pick (struck x n)) = ⊥ := by
    have := struck_old x n m hm
    rwa [e] at this
  rw [h2] at h1
  exact absurd (hx o) (not_lt_of_ge h1)

theorem struck_pick (n : ℕ) (hn : n < 64) : struck x n (pickAt x n) = x (pickAt x n) :=
  struck_new x n _ fun m hm => pick_new x hx n hn m hm

end

/-- A stable sort of positions listed in order, by a key: ties stand as if the position decided them. -/
theorem stableSort_by_key {n : ℕ} (x : Fin n → EReal) (l : List (Fin n)) (hl : l.Pairwise (· < ·)) :
    stableSort (fun k k' => decide (x k' < x k)) l
      = stableSort (fun k k' => decide (x k' < x k) || (decide (x k = x k') && decide (k < k'))) l := by
  induction l with
  | nil => rfl
  | cons a l ih =>
    rw [List.pairwise_cons] at hl
    unfold stableSort
    rw [ih hl.2]
    refine insertBefore_congr _ _ a _ fun b hb => ?_
    have hb' := (perm_stableSort _ l).mem_iff.mp hb
    have : ¬ b < a := not_lt_of_gt (hl.1 b hb')
    simp [this]

/-- Equal lists have equal entries. -/
theorem get_same {n : ℕ} {l l' : List (Fin n)} (h : l = l') (e : n = l.length) (e' : n = l'.length) (k : Fin n) :
    l.get (k.cast e) = l'.get (k.cast e') := by
  subst h; rfl

/-- What a stable sort by decreasing distance puts at place `i` is the pick of round `i`. -/
theorem sortedFrom_eq_pick (x : Fin 64 → EReal) (hx : ∀ o, ⊥ < x o) (i : Fin 7) :
    sortedFrom (fun k k' : Fin 64 => decide (x k' < x k)) (i.castLE (by omega)) = pickAt x i.val := by
  have e : sortedFrom (fun k k' : Fin 64 => decide (x k' < x k))
      = sortedFrom (fun k k' => decide (x k' < x k) || (decide (x k = x k') && decide (k < k'))) := by
    funext k
    exact get_same (stableSort_by_key x _ (List.pairwise_lt_finRange 64)) _ _ k
  rw [e]
  have hB := StrictTotalBefore.of_key_then_position (n := 64) (fun a b : EReal => decide (b < a)) x
    (fun a => by simp) (fun a b c h1 h2 => by simp at *; exact h2.trans h1)
    (fun a b => by simp; rcases lt_trichotomy b a with h | h | h <;> simp [h])
  have key (i : Fin 7) (p : Fin 64) (hp : ∀ m < i.val, pickAt x m ≠ p) :
      (decide (x (pickAt x i.val) < x p) || (decide (x p = x (pickAt x i.val)) && decide (p < pickAt x i.val))) = false := by
    have h1 := le_pick (struck x i.val) p
    have h2 := pick_le (struck x i.val) p
    rw [struck_new x _ p hp, show struck x i.val (pick (struck x i.val)) = x (pickAt x i.val) from struck_pick x hx _ (by omega)] at h1 h2
    simp only [Bool.or_eq_false_iff, Bool.and_eq_false_imp, decide_eq_false_iff_not, decide_eq_true_eq, not_lt]
    exact ⟨h1, h2⟩
  exact hB.sortedFrom_eq_of_prefix (k := 7) (by omega) (fun i => pickAt x i.val)
    (fun i j hij => by
      by_contra hne
      rcases Nat.lt_or_gt_of_ne (fun e => hne (Fin.ext e)) with h | h
      · exact pick_new x hx _ (by omega) _ h hij
      · exact pick_new x hx _ (by omega) _ h hij.symm)
    (fun i j hij => key i _ fun m hm => pick_new x hx _ (by omega) _ (by have : i.val < j.val := hij; omega))
    (fun i p hp => key i p fun m hm => hp ⟨m, by omega⟩) i

end Cert.Proof

end
-- ==== Proof.VSel.lean ====
module

public import proofs.«01_k».proof.Proof.KBody
public import proofs.«01_k».proof.Proof.VPick

@[expose] public section

set_option maxRecDepth 16384

noncomputable section

/-! The kernel's rounds and the reference's `top_k`, read at one query: both are the picks of the query's column. -/

namespace Cert.Proof

open Cert.KernelIdeal Cert.KernelIdeal.Gen
open Idealize.ShloMosaic Idealize.ShloMosaic.ValueIdx

theorem ofBits_bot : Ideal.ofBits .f32 0xFF800000#32 = ⊥ := by
  simp [Ideal.ofBits, Ideal.ieee]

theorem bits_bot : (Scalar.ofBits .f32 0xFF800000#32 : Ideal .f32) = (⊥ : EReal) := by
  unfold Scalar.ofBits
  exact ofBits_bot

/-- A query's column of the distance table. -/
def colK (D : FVec Ideal S64x64x64 .f32) (a b : Fin 64) (o : Fin 64) : EReal := D (ix3 o a b)

theorem lift_ix3 (h : S64x64x64.Reduces [0] S64x64) (a b o : Fin 64) : h.lift (ix2 a b) o = ix3 o a b := by
  funext c
  fin_cases c <;> rfl

/-- The greatest entry is the pick's. -/
theorem fold_max_pick (g : Fin 64 → EReal) : (Finset.univ : Finset (Fin 64)).fold max ⊥ g = g (pick g) := by
  apply le_antisymm
  · rw [Finset.fold_max_le]
    exact ⟨bot_le, fun o _ => le_pick _ o⟩
  · rw [Finset.le_fold_max]
    exact .inr ⟨pick g, Finset.mem_univ _, le_rfl⟩

theorem kmax_apply (D : FVec Ideal S64x64x64 .f32) (a b : Fin 64) :
    kmax D (ix2 a b) = colK D a b (pick (colK D a b)) := by
  unfold kmax
  refine (Ideal.multiReduction_maximumf_single _ _ _ _ _ _).trans ?_
  have hf : (D ∘ reduces_S64x64x64_S64x64.lift (ix2 a b)) = colK D a b := funext fun o => by
    show D _ = D _
    exact congrArg D (lift_ix3 _ a b o)
  have hb : (FloatOps.ofBits (F := Ideal) .f32 0xFF800000#32) = (⊥ : EReal) := ofBits_bot
  refine Eq.trans ?_ (fold_max_pick (colK D a b))
  rw [hf, hb]
  rfl

theorem toInt_small (n : ℕ) (h : n < 2 ^ 31) : (BitVec.ofNat 32 n).toInt = n := by
  rw [BitVec.toInt_eq_toNat_of_lt] <;> simp <;> omega

theorem offs_apply (o a b : Fin 64) : offs (ix3 o a b) = BitVec.ofNat 32 o.val := by
  unfold offs
  rw [iota_single_apply]

theorem up_apply {α : Type} (x : S64x64.Idx → α) (o a b : Fin 64) :
    broadcastTo S64x64x64 (shapeCast S1x64x64 x shapeCasts_S64x64_S1x64x64) broadcasts_S1x64x64_S64x64x64 (ix3 o a b) = x (ix2 a b) := by
  rw [broadcastTo_apply _ _ _ (ix3 0 a b) (by intro c; fin_cases c <;> rfl)]
  exact shapeCast_apply _ _ _ _ (by rw [Shape.rowMajor_val_two, Shape.rowMajor_val_three]; simp)

/-- The least of the numbers of the entries that equal the greatest is the pick's number. -/
theorem fold_min_pick (g : Fin 64 → EReal) (f : Fin 64 → BitVec 32)
    (hv : ∀ o, f o = if g o = g (pick g) then BitVec.ofNat 32 o.val else 64#32) :
    (Finset.univ : Finset (Fin 64)).fold IntOp.minsi 2147483647#32 f = BitVec.ofNat 32 (pick g).val := by
  have hp : (pick g).val < 64 := (pick g).isLt
  apply BitVec.eq_of_toInt_eq
  rw [toInt_small _ (by omega), ← Finset.fold_hom (op' := min) (m := BitVec.toInt) (fun x y => SortNet.toInt_minsi x y)]
  apply le_antisymm
  · rw [Finset.fold_min_le]
    refine .inr ⟨pick g, Finset.mem_univ _, ?_⟩
    rw [hv, if_pos rfl, toInt_small _ (by omega)]
  · rw [Finset.le_fold_min]
    have h0 : (2147483647#32).toInt = 2147483647 := by decide
    have h1 : (64#32).toInt = 64 := by decide
    refine ⟨by rw [h0]; omega, fun o _ => ?_⟩
    rw [hv]
    have ho : o.val < 64 := o.isLt
    split
    · next h =>
      rw [toInt_small _ (by omega)]
      have : (pick g).val ≤ o.val := pick_le _ o h
      omega
    · rw [h1]
      omega

theorem ksel_apply (D : FVec Ideal S64x64x64 .f32) (a b : Fin 64) :
    ksel D (ix2 a b) = BitVec.ofNat 32 (pick (colK D a b)).val := by
  unfold ksel
  refine (multiReductionI_eq_fold _ _ _ _ _ _).trans ?_
  refine (Shape.Reduces.fold_filter_drop_single _ _ _ _ _).trans ?_
  refine fold_min_pick (colK D a b) _ fun o => ?_
  show Scalar.select (Ideal.cmp .oeq (D (reduces_S64x64x64_S64x64.lift (ix2 a b) o)) (broadcastTo S64x64x64 _ _ _)) (offs _) 64#32 = _
  rw [lift_ix3, up_apply, kmax_apply, offs_apply]
  unfold Scalar.select Ideal.cmp
  show (if BitVec.ofBool (decide (colK D a b o = _)) = 1#1 then _ else _) = _
  by_cases h : colK D a b o = colK D a b (pick (colK D a b)) <;> simp [h]

theorem kmask_col (D : FVec Ideal S64x64x64 .f32) (a b : Fin 64) :
    colK (kmask D (ksel D)) a b = strike (colK D a b) := by
  funext o
  unfold colK
  unfold kmask
  rw [bits_bot]
  show Scalar.select (IntOp.cmpi .eq (offs (ix3 o a b))
      (broadcastTo S64x64x64 (shapeCast S1x64x64 (ksel D) shapeCasts_S64x64_S1x64x64) broadcasts_S1x64x64_S64x64x64 (ix3 o a b)))
      (⊥ : EReal) (D (ix3 o a b)) = _
  rw [up_apply, ksel_apply, offs_apply]
  unfold strike
  have h1 : o.val < 64 := o.isLt
  have h2 : (pick (colK D a b)).val < 64 := (pick _).isLt
  show Scalar.select (IntOp.cmpi .eq (BitVec.ofNat 32 o.val) (BitVec.ofNat 32 (pick (colK D a b)).val)) ⊥ (D (ix3 o a b))
    = if o = pick (colK D a b) then ⊥ else D (ix3 o a b)
  generalize pick (colK D a b) = p at *
  by_cases h : o = p
  · rw [if_pos h, h]
    simp [Scalar.select, IntOp.cmpi]
  · rw [if_neg h]
    have hne : BitVec.ofNat 32 o.val ≠ BitVec.ofNat 32 p.val := fun e => h (Fin.ext (by
      have := congrArg BitVec.toNat e
      simp at this
      omega))
    have hb : (BitVec.ofNat 32 o.val == BitVec.ofNat 32 p.val) = false := beq_eq_false_iff_ne.mpr hne
    simp [Scalar.select, IntOp.cmpi, hb]

theorem kD_col (D : FVec Ideal S64x64x64 .f32) (a b : Fin 64) (n : ℕ) : colK (kD D n) a b = struck (colK D a b) n := by
  induction n with
  | zero => rfl
  | succ n ih =>
    show colK (kmask (kD D n) (ksel (kD D n))) a b = strike _
    rw [kmask_col, ih]

/-- The distance that round `n` chooses. -/
theorem kmax_round (D : FVec Ideal S64x64x64 .f32) (a b : Fin 64) (hx : ∀ o, ⊥ < D (ix3 o a b)) (n : ℕ) (hn : n < 64) :
    kmax (kD D n) (ix2 a b) = D (ix3 (pickAt (colK D a b) n) a b) := by
  rw [kmax_apply, kD_col]
  exact struck_pick (colK D a b) hx n hn

/-- The offset that round `n` chooses. -/
theorem ksel_round (D : FVec Ideal S64x64x64 .f32) (a b : Fin 64) (n : ℕ) :
    ksel (kD D n) (ix2 a b) = BitVec.ofNat 32 (pickAt (colK D a b) n).val := by
  rw [ksel_apply, kD_col]
  rfl

/-- The number of a place along the last axis. -/
theorem iota_along {N : ℕ} (hd : 2 < (⟨3, ![1, N, 64]⟩ : Shape).rank) (j : (⟨3, ![1, N, 64]⟩ : Shape).Idx) (k : Fin 64) :
    iotaInDim ⟨3, ![1, N, 64]⟩ 32 ⟨2, hd⟩ (j.along ⟨2, hd⟩ k) = BitVec.ofNat 32 k.val := by
  simp [iotaInDim]
  rfl

/-- The reference's selection at a query. -/
theorem topK_apply {N : ℕ} (D : FVec Ideal ⟨3, ![1, N, 64]⟩ .f32) (h : (⟨3, ![1, N, 64]⟩ : Shape).Slices (fun _ => 0) ⟨3, ![1, N, 7]⟩)
    (q : Fin N) (i : Fin 7) (hx : ∀ o, ⊥ < D (ix3 0 q o)) :
    (Host.topK ⟨3, ![1, N, 7]⟩ 2 (FloatOps.cmpfTotal .gt) D h).1 (ix3 0 q i) = D (ix3 0 q (pickAt (fun o => D (ix3 0 q o)) i.val))
    ∧ (Host.topK ⟨3, ![1, N, 7]⟩ 2 (FloatOps.cmpfTotal .gt) D h).2 (ix3 0 q i)
      = BitVec.ofNat 32 (pickAt (fun o => D (ix3 0 q o)) i.val).val := by
  have hal (k : Fin 64) : Shape.Idx.along (ix3 (0 : Fin 1) q (i.castLE (by omega : 7 ≤ 64)) : (⟨3, ![1, N, 64]⟩ : Shape).Idx) (2 : Fin 3) k
      = ix3 0 q k := by
    funext a
    fin_cases a <;> rfl
  have hs : sortedFrom (fun k k' : Fin 64 => (FloatOps.cmpfTotal .gt (D (ix3 0 q k)) (D (ix3 0 q k')) == 1#1)) (i.castLE (by omega))
      = pickAt (fun o => D (ix3 0 q o)) i.val := by
    rw [← sortedFrom_eq_pick _ hx i]
    congr 1
    funext k k'
    show (BitVec.ofBool (decide (D (ix3 0 q k') < D (ix3 0 q k))) == 1#1) = _
    by_cases h : D (ix3 0 q k') < D (ix3 0 q k) <;> simp [h]
  have hd : 2 < (⟨3, ![1, N, 64]⟩ : Shape).rank := Nat.lt_succ_self 2
  unfold Host.topK Host.sort2
  simp only [dif_pos hd]
  constructor
  · refine (extractStridedSlice_apply _ _ _ _ (ix3 0 q (i.castLE (by omega : 7 ≤ 64))) ?_).trans ?_
    · intro a
      fin_cases a <;> exact (Nat.zero_add _).symm
    · refine (congrArg D (hal _)).trans (congrArg (fun p => D (ix3 0 q p)) ?_)
      refine Eq.trans ?_ hs
      refine congrArg (fun f => sortedFrom f _) ?_
      funext k k'
      exact congrArg₂ (fun a b => (FloatOps.cmpfTotal .gt (D a) (D b) == 1#1)) (hal k) (hal k')
  · refine (extractStridedSlice_apply _ _ _ _ (ix3 0 q (i.castLE (by omega : 7 ≤ 64))) ?_).trans ?_
    · intro a
      fin_cases a <;> exact (Nat.zero_add _).symm
    · refine (iota_along hd _ _).trans (congrArg (fun p : Fin 64 => BitVec.ofNat 32 p.val) ?_)
      refine Eq.trans ?_ hs
      refine congrArg (fun f => sortedFrom f _) ?_
      funext k k'
      exact congrArg₂ (fun a b => (FloatOps.cmpfTotal .gt (D a) (D b) == 1#1)) (hal k) (hal k')

end Cert.Proof

end
-- ==== Proof.ROut.lean ====
module

public import proofs.«01_k».proof.Proof.RTab
public import proofs.«01_k».proof.Proof.VIdx
public import proofs.«01_k».proof.Proof.VSel

@[expose] public section

set_option maxRecDepth 16384

noncomputable section

/-! The reference's two results at a query. -/

namespace Cert.Proof.Ref

open Cert.ReferenceIdeal Cert.ReferenceIdeal.Value Cert.ReferenceIdeal.Gen
open Idealize.ShloMosaic hiding ix1 ix2 ix3 ix4 ix5 ix6
open Idealize.ShloMosaic.ValueIdx
open Idealize.ShloMosaic.TcCoe

variable (V0 : Valuation τ sig (Elt Ideal))

/-- The frame column: the query's frame. -/
theorem frame_apply (t : Fin 3) (p q : Fin 64) :
    shapeCast S12288 (broadcastInDim S3x4096 ![0] bcast_S3_S3x4096_0 (iotaInDim S3 32 0)) shapeCasts_S3x4096_S12288
      (ix1 ⟨t.val * 4096 + p.val * 64 + q.val, by omega⟩) = BitVec.ofNat 32 t.val := by
  refine (shapeCast_apply _ _ _ (ix2 t ⟨p.val * 64 + q.val, by omega⟩) ?_).trans rfl
  rw [Shape.rowMajor_val_one, Shape.rowMajor_val_two]
  show t.val * 4096 + (p.val * 64 + q.val) = t.val * 4096 + p.val * 64 + q.val
  omega

/-- The frame column, as the second result holds it. -/
def colT : IVec S1x12288x7x1 32 := broadcastInDim S1x12288x7x1 ![0, 1, 2] bcast_S1x12288x7_S1x12288x7x1_0_1_2
  (broadcastInDim S1x12288x7 ![0, 1, 2] bcast_S1x12288x1_S1x12288x7_0_1_2 (broadcastInDim S1x12288x1 ![1] bcast_S12288_S1x12288x1_1
    (shapeCast S12288 (broadcastInDim S3x4096 ![0] bcast_S3_S3x4096_0 (iotaInDim S3 32 0)) shapeCasts_S3x4096_S12288)))

/-- A position column of coordinates, reflected at the far edge. -/
def colP (v : IVec S1x12288x7 32) : IVec S1x12288x7x1 32 := broadcastInDim S1x12288x7x1 ![0, 1, 2] bcast_S1x12288x7_S1x12288x7x1_0_1_2
  (select (cmpi .sge v (broadcastInDim S1x12288x7 ![] bcast_S_S1x12288x7 (constantI S_ 32 256#32)))
    (subi (broadcastInDim S1x12288x7 ![] bcast_S_S1x12288x7 (constantI S_ 32 510#32)) v) v)

/-- The reference's first result. -/
def resD : FVec Ideal S1x1x12288x7 .f32 := broadcastInDim S1x1x12288x7 ![0, 2, 3] bcast_S1x12288x7_S1x1x12288x7_0_2_3
  ((Host.topK S1x12288x7 2 (FloatOps.cmpfTotal .gt) (res_main_v113 V0) sliceFits_S1x12288x64_S1x12288x7).1)

/-- The reference's second result. -/
def resI : IVec S1x1x12288x7x3 32 := broadcastInDim S1x1x12288x7x3 ![0, 2, 3, 4] bcast_S1x12288x7x3_S1x1x12288x7x3_0_2_3_4
  (concatenate S1x12288x7x3 3 [⟨S1x12288x7x1, colT⟩, ⟨S1x12288x7x1, colP (res_main_v137 V0)⟩, ⟨S1x12288x7x1, colP (res_main_v146 V0)⟩]
    concatenates_S1x12288x7x1_S1x12288x7x1_S1x12288x7x1_S1x12288x7x3_d3)

theorem colT_apply (t : Fin 3) (p q : Fin 64) (i : Fin 7) :
    colT (ix4 0 ⟨t.val * 4096 + p.val * 64 + q.val, by omega⟩ i 0) = BitVec.ofNat 32 t.val := by
  refine Eq.trans ?_ (frame_apply t p q)
  unfold colT
  generalize shapeCast S12288 (broadcastInDim S3x4096 ![0] bcast_S3_S3x4096_0 (iotaInDim S3 32 0)) shapeCasts_S3x4096_S12288 = x
  pointwise
  rfl

theorem colP_apply (v : IVec S1x12288x7 32) (r : Fin 12288) (i : Fin 7) (p : Fin 64) (d : Fin 8) (hv : v (ix3 0 r i) = posW p.val d.val) :
    colP v (ix4 0 r i 0) = posW p.val d.val := by
  refine Eq.trans ?_ (posW_keep p d)
  rw [← hv]
  pointwise [colP]
  rfl

theorem stack0 (x y z : IVec S1x12288x7x1 32) (r : Fin 12288) (i : Fin 7) :
    concatenate S1x12288x7x3 3 [⟨S1x12288x7x1, x⟩, ⟨S1x12288x7x1, y⟩, ⟨S1x12288x7x1, z⟩]
      concatenates_S1x12288x7x1_S1x12288x7x1_S1x12288x7x1_S1x12288x7x3_d3 (ix4 0 r i 0) = x (ix4 0 r i 0) := by
  pointwise
  rfl

theorem stack1 (x y z : IVec S1x12288x7x1 32) (r : Fin 12288) (i : Fin 7) :
    concatenate S1x12288x7x3 3 [⟨S1x12288x7x1, x⟩, ⟨S1x12288x7x1, y⟩, ⟨S1x12288x7x1, z⟩]
      concatenates_S1x12288x7x1_S1x12288x7x1_S1x12288x7x1_S1x12288x7x3_d3 (ix4 0 r i 1) = y (ix4 0 r i 0) := by
  pointwise
  rfl

theorem stack2 (x y z : IVec S1x12288x7x1 32) (r : Fin 12288) (i : Fin 7) :
    concatenate S1x12288x7x3 3 [⟨S1x12288x7x1, x⟩, ⟨S1x12288x7x1, y⟩, ⟨S1x12288x7x1, z⟩]
      concatenates_S1x12288x7x1_S1x12288x7x1_S1x12288x7x1_S1x12288x7x3_d3 (ix4 0 r i 2) = z (ix4 0 r i 0) := by
  pointwise
  rfl

theorem lift4 {α : Type} (x : S1x12288x7.Idx → α) (r : Fin 12288) (i : Fin 7) :
    broadcastInDim S1x1x12288x7 ![0, 2, 3] bcast_S1x12288x7_S1x1x12288x7_0_2_3 x (ix4 0 0 r i) = x (ix3 0 r i) := by
  pointwise
  rfl

theorem lift5 {α : Type} (x : S1x12288x7x3.Idx → α) (r : Fin 12288) (i : Fin 7) (a : Fin 3) :
    broadcastInDim S1x1x12288x7x3 ![0, 2, 3, 4] bcast_S1x12288x7x3_S1x1x12288x7x3_0_2_3_4 x (ix5 0 0 r i a) = x (ix4 0 r i a) := by
  pointwise
  rfl

section
variable (t : Fin 3) (p q : Fin 64) (i : Fin 7) (d : Fin 64 → Ideal .f32)
  (hd : (fun o => res_main_v113 V0 (ix3 0 ⟨t.val * 4096 + p.val * 64 + q.val, by omega⟩ o)) = d) (hx : ∀ o, (⊥ : EReal) < d o)
include hd hx

/-- The reference's first result: the `i`-th pick of the query's distances. -/
theorem resD_apply : resD V0 (ix4 0 0 ⟨t.val * 4096 + p.val * 64 + q.val, by omega⟩ i) = d (pickAt d i.val) := by
  subst hd
  exact (lift4 _ _ i).trans (topK_apply (res_main_v113 V0) _ _ i hx).1

/-- The chosen offsets. -/
theorem indices_apply : res_main_indices V0 (ix3 0 ⟨t.val * 4096 + p.val * 64 + q.val, by omega⟩ i) = BitVec.ofNat 32 (pickAt d i.val).val := by
  subst hd
  exact (topK_apply (res_main_v113 V0) _ _ i hx).2

theorem resI0 : resI V0 (ix5 0 0 ⟨t.val * 4096 + p.val * 64 + q.val, by omega⟩ i 0) = BitVec.ofNat 32 t.val :=
  (lift5 _ _ i 0).trans ((stack0 _ _ _ _ i).trans (colT_apply t p q i))

theorem resI1 : resI V0 (ix5 0 0 ⟨t.val * 4096 + p.val * 64 + q.val, by omega⟩ i 1) = posW p.val ((pickAt d i.val).val / 8) :=
  (lift5 _ _ i 1).trans ((stack1 _ _ _ _ i).trans (colP_apply _ _ i p ⟨(pickAt d i.val).val / 8, by omega⟩
    (v137_apply V0 t p q i _ (indices_apply V0 t p q i d hd hx))))

theorem resI2 : resI V0 (ix5 0 0 ⟨t.val * 4096 + p.val * 64 + q.val, by omega⟩ i 2) = posW q.val ((pickAt d i.val).val % 8) :=
  (lift5 _ _ i 2).trans ((stack2 _ _ _ _ i).trans (colP_apply _ _ i q ⟨(pickAt d i.val).val % 8, by omega⟩
    (v146_apply V0 t p q i _ (indices_apply V0 t p q i d hd hx))))

end

end Cert.Proof.Ref

end
-- ==== Proof.VFinal.lean ====
module

public import proofs.«01_k».proof.Proof.VOut
public import proofs.«01_k».proof.Proof.VPre
public import proofs.«01_k».proof.Proof.ROut

@[expose] public section

set_option maxRecDepth 16384

noncomputable section

/-! The value claim: over the extended reals the kernel's results are the reference's. -/

namespace Cert.Proof

open Idealize.ShloMosaic hiding ix1 ix2 ix3 ix4 ix5 ix6
open Idealize.ShloMosaic.ValueIdx
open Idealize.ShloMosaic.TcCoe Idealize.ShloMosaic.Tactic Idealize.SL.Sem

section
variable (m : (ℓ : Loc Cert.KernelIdeal.nD Cert.KernelIdeal.τ Cert.KernelIdeal.sig) → Buf (Elt Ideal) ℓ)
  (c : Dev Cert.KernelIdeal.nD) (W : Valuation Cert.ReferenceIdeal.τ Cert.ReferenceIdeal.sig (Elt Ideal))
  (h0 : W (Proc.devRef .tc Cert.ReferenceIdeal.main_arg0) = m ((c : Thread Cert.KernelIdeal.nD Cert.KernelIdeal.τ).loc Cert.KernelIdeal.main_arg0))
  (h1 : W (Proc.devRef .tc Cert.ReferenceIdeal.main_arg1) = m ((c : Thread Cert.KernelIdeal.nD Cert.KernelIdeal.τ).loc Cert.KernelIdeal.main_arg1))
  (hA : AllReal (m ((c : Thread Cert.KernelIdeal.nD Cert.KernelIdeal.τ).loc Cert.KernelIdeal.main_arg0)))
  (hB : AllReal (m ((c : Thread Cert.KernelIdeal.nD Cert.KernelIdeal.τ).loc Cert.KernelIdeal.main_arg1)))

/-- A query's distances, offset by offset. -/
def dist (t : Fin 3) (p q : Fin 64) : Fin 64 → Ideal .f32 := fun o =>
  ((box (m ((c : Thread Cert.KernelIdeal.nD Cert.KernelIdeal.τ).loc Cert.KernelIdeal.main_arg0))
    (m ((c : Thread Cert.KernelIdeal.nD Cert.KernelIdeal.τ).loc Cert.KernelIdeal.main_arg1)) t.val o.val p.val q.val : ℝ) : EReal)

theorem dist_pos (t : Fin 3) (p q o : Fin 64) : (⊥ : EReal) < dist m c t p q o := EReal.bot_lt_coe _

include hA hB in
/-- The kernel's table holds them … -/
theorem tab_apply (t : Fin 3) (p q o : Fin 64) : tab m c t (ix3 o p q) = dist m c t p q o := by
  have h := full_apply m c hA hB (lastPt t) (by show (2 * t.val + 1) % 2 = 1; omega) o p q
  rw [show (lastPt t).val / 2 = t.val by show (2 * t.val + 1) / 2 = t.val; omega] at h
  exact h

include h0 h1 hA hB in
/-- … and so does the reference's. -/
theorem table_apply (t : Fin 3) (p q : Fin 64) :
    (fun o : Fin 64 => Cert.ReferenceIdeal.Value.res_main_v113 W (ix3 0 ⟨t.val * 4096 + p.val * 64 + q.val, by omega⟩ o)) = dist m c t p q := by
  funext o
  refine (Ref.tableR W (by rw [h0]; exact hA) (by rw [h1]; exact hB) t p q o).trans ?_
  rw [h0, h1]
  rfl

include hA hB in
theorem col_apply (t : Fin 3) (p q : Fin 64) : colK (tab m c t) p q = dist m c t p q :=
  funext fun o => tab_apply m c hA hB t p q o

include hA hB in
/-- The kernel's `n`-th chosen distance of a query … -/
theorem kernelD (t : Fin 3) (n : Fin 7) (p q : Fin 64) :
    kmax (kD (tab m c t) n.val) (ix2 p q) = dist m c t p q (pickAt (dist m c t p q) n.val) := by
  rw [kmax_round (tab m c t) p q (fun o => by rw [tab_apply m c hA hB]; exact dist_pos m c t p q o) n.val (by omega),
    tab_apply m c hA hB, col_apply m c hA hB]

include hA hB in
/-- … and its offset. -/
theorem kernelS (t : Fin 3) (n : Fin 7) (p q : Fin 64) :
    ksel (kD (tab m c t) n.val) (ix2 p q) = BitVec.ofNat 32 (pickAt (dist m c t p q) n.val).val := by
  rw [ksel_round (tab m c t) p q n.val, col_apply m c hA hB]

theorem query_ext (Q : Fin 12288) : ∃ (t : Fin 3) (p q : Fin 64), Q = query t p q :=
  ⟨⟨Q.val / 4096, by omega⟩, ⟨Q.val % 4096 / 64, by omega⟩, ⟨Q.val % 64, by omega⟩, Fin.ext (by
    show Q.val = Q.val / 4096 * 4096 + Q.val % 4096 / 64 * 64 + Q.val % 64
    omega)⟩

include h0 h1 hA hB in
/-- The first result is the reference's. -/
theorem same21 : Pipeline.afterTail₀ Cert.KernelIdeal.cfgs (dats m) 0 (Cert.KernelIdeal.Gen.V0 m) [Cert.KernelIdeal.Gen.hostOps1] c Cert.KernelIdeal.main_v21 = Ref.resD W := by
  funext y
  obtain ⟨a, b, Q, n, rfl⟩ : ∃ (a b : Fin 1) (Q : Fin 12288) (n : Fin 7), y = ix4 a b Q n := ⟨y 0, y 1, y 2, y 3, ValueIdx.eq_ix4 y⟩
  obtain ⟨t, p, q, rfl⟩ := query_ext Q
  obtain rfl : a = 0 := Subsingleton.elim _ _
  obtain rfl : b = 0 := Subsingleton.elim _ _
  exact (out21 m c t n p q).trans ((kernelD m c hA hB t n p q).trans
    (Ref.resD_apply W t p q n _ (table_apply m c W h0 h1 hA hB t p q) (dist_pos m c t p q)).symm)

include h0 h1 hA hB in
/-- The second result is the reference's. -/
theorem same24 : Pipeline.afterTail₀ Cert.KernelIdeal.cfgs (dats m) 0 (Cert.KernelIdeal.Gen.V0 m) [Cert.KernelIdeal.Gen.hostOps1] c Cert.KernelIdeal.main_v24 = Ref.resI W := by
  funext y
  obtain ⟨a, b, Q, n, k, rfl⟩ : ∃ (a b : Fin 1) (Q : Fin 12288) (n : Fin 7) (k : Fin 3), y = ix5 a b Q n k :=
    ⟨y 0, y 1, y 2, y 3, y 4, ValueIdx.eq_ix5 y⟩
  obtain ⟨t, p, q, rfl⟩ := query_ext Q
  obtain rfl : a = 0 := Subsingleton.elim _ _
  obtain rfl : b = 0 := Subsingleton.elim _ _
  refine (out24 m c t k n p q).trans ?_
  match k with
  | 0 => exact (kt_apply t.val p q).trans (Ref.resI0 W t p q n _ (table_apply m c W h0 h1 hA hB t p q) (dist_pos m c t p q)).symm
  | 1 => exact (kh_apply _ p q _ (kernelS m c hA hB t n p q)).trans
            (Ref.resI1 W t p q n _ (table_apply m c W h0 h1 hA hB t p q) (dist_pos m c t p q)).symm
  | 2 => exact (kw_apply _ p q _ (kernelS m c hA hB t n p q)).trans
            (Ref.resI2 W t p q n _ (table_apply m c W h0 h1 hA hB t p q) (dist_pos m c t p q)).symm

end

open Cert.KernelIdeal Cert.KernelIdeal.Gen in
/-- The kernel's run, with what its two results hold. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v21) = Pipeline.afterTail₀ cfgs (dats m) 0 (V0 m) [hostOps1] c main_v21
      ∧ r.2.mem ((c.tc : Thread nD τ).loc main_v24) = Pipeline.afterTail₀ cfgs (dats m) 0 (V0 m) [hostOps1] c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c).2 main_v21 (Pipeline.mem_restRefs_of main_v21 (by decide) (by decide)),
      (h.1 c).2 main_v24 (Pipeline.mem_restRefs_of main_v24 (by decide) (by decide)),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩)
    (run_main m ρ)

open Cert.ReferenceIdeal in
/-- The reference's run, its two results named. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v158) = Ref.resD (StableHlo.launchContents m c)
      ∧ r.2.mem ((c.tc : Thread nD τ).loc main_v159) = Ref.resI (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Cert.ReferenceIdeal.Value.run m ρ

/-- From videos of real numbers, kernel and reference end with the same two results. -/
theorem algebraic_both : Cert.algebraic_KernelIdeal_ReferenceIdeal_pre_finite (hPre_finite := Cert.Pre_finite.Gen.facts) := by
  intro m g m' g' hpre hargs
  refine ⟨fun c => Ref.resD (StableHlo.launchContents m' c), fun c => Ref.resI (StableHlo.launchContents m' c), ?_, ?_⟩
  · refine (θ_run Cert.KernelIdeal.defs _ _).mono (fun r h c => ?_) (kernel_run m g)
    obtain ⟨hA, hB⟩ := pre_both _ _ _ _ (hpre c)
    have a0 : StableHlo.launchContents m' c (Proc.devRef .tc Cert.ReferenceIdeal.main_arg0) = _ := (hargs c).1
    have a1 : StableHlo.launchContents m' c (Proc.devRef .tc Cert.ReferenceIdeal.main_arg1) = _ := (hargs c).2.1
    obtain ⟨e1, e2, e3⟩ := h c
    exact ⟨e1.trans (same21 m c _ a0 a1 hA hB), e2.trans (same24 m c _ a0 a1 hA hB), e3⟩
  · exact reference_run m' g'

end Cert.Proof

end
-- ==== Proof.lean ====
/- The claims of this certificate, assembled: each fact is proved in a module under Proof/. -/
module

public import proofs.«01_k».proof.Defs
public import proofs.«01_k».proof.Proof.Gen.ReferenceIdeal.Run
public import proofs.«01_k».proof.Proof.Gen.Pre_finite
public import proofs.«01_k».proof.Proof.KFrame
public import proofs.«01_k».proof.Proof.RFrame
public import proofs.«01_k».proof.Proof.VFinal

@[expose] public section

noncomputable section

namespace Cert.Proof

open Idealize.ShloMosaic Idealize.SL.Sem

/-- The three frames, the two readings of the kernel are one program, and its results are the reference's. -/
theorem claim : Cert.Claim := ⟨Cert.Kernel.Gen.facts, Cert.KernelIdeal.Gen.facts, Cert.ReferenceIdeal.Gen.facts, Cert.Pre_finite.Gen.facts,
  frame_bits, fun m ρ _ => frame_any m ρ, fun m ρ _ => frame_any m ρ, frame_reference, fun m ρ _ => frame_reference m ρ trivial, trivial,
  algebraic_both⟩

end Cert.Proof

end
